-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_d" .f32 0x39124925#32 ((1 / 7168 : ℝ) : EReal)
  ∧ IdealRules.bf16_pair.PackStatement Cert.KernelIdeal.S256x128
  ∧ IdealRules.bf16_pair.Statement Cert.KernelIdeal.S1x256x2x128 Cert.KernelIdeal.S1x256x1x128

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v33_0) = v3 c
          ∧ r.2.mem ((c.tc : Thread Cert.ReferenceIdeal.nD Cert.ReferenceIdeal.τ).loc Cert.ReferenceIdeal.main_v82) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1x256x7168 : Shape := ⟨3, ![1, 256, 7168]⟩
abbrev S7168 : Shape := ⟨1, ![7168]⟩
abbrev S7168x9216 : Shape := ⟨2, ![7168, 9216]⟩
abbrev S9216 : Shape := ⟨1, ![9216]⟩
abbrev S1x256 : Shape := ⟨2, ![1, 256]⟩
abbrev S256x7168 : Shape := ⟨2, ![256, 7168]⟩
abbrev S_ : Shape := ⟨0, ![]⟩
abbrev S256 : Shape := ⟨1, ![256]⟩
abbrev S256x1 : Shape := ⟨2, ![256, 1]⟩
abbrev S1x7168 : Shape := ⟨2, ![1, 7168]⟩

class Facts : Prop where
  shapeCasts_S1x256x7168_S256x7168 : S1x256x7168.ShapeCasts S256x7168
  bitsLt_bf16_f32 : FTy.bits .bf16 < FTy.bits .f32
  reducesTo_S256x7168_S256_d1 : S256x7168.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x7168_0_1 : S256x1.BroadcastsInDim S256x7168 (![0, 1] : Fin 2 → Fin S256x7168.rank)
  bcast_S7168_S1x7168_1 : S7168.BroadcastsInDim S1x7168 (![1] : Fin 1 → Fin S1x7168.rank)
  bcast_S1x7168_S256x7168_0_1 : S1x7168.BroadcastsInDim S256x7168 (![0, 1] : Fin 2 → Fin S256x7168.rank)

variable [Facts]

def fn_part1 {F : FTy → Type} [FloatOps F] (main_v17 : FVec F S256x1 .f32) (main_v18 : FVec F S256x1 .f32) : IVec S256x1 1 :=
  let main_v19 : FVec F S256x1 .f32 := mulf main_v17 main_v18
  let main_cst_4 : FVec F S_ .f32 := constant S_ .f32 0x7E800000#32
  let main_v20 : FVec F S256x1 .f32 := broadcastInDim S256x1 ![] bcast_S_S256x1 main_cst_4
  let main_v21 : IVec S256x1 1 := cmpf .olt main_v19 main_v20
  main_v21

def fn {F : FTy → Type} [FloatOps F] (main_arg0 : FVec F S1x256x7168 .bf16) (main_arg1 : FVec F S7168 .f32) (main_arg2 : FVec F S7168x9216 .fp8e4m3) (main_arg3 : FVec F S9216 .f32) (main_arg4 : IVec S1x256 32) : IVec S256x1 1 :=
  let main_v0 : FVec F S256x7168 .bf16 := shapeCast S256x7168 main_arg0 shapeCasts_S1x256x7168_S256x7168
  let main_v1 : FVec F S256x7168 .f32 := (extf .f32 · bitsLt_bf16_f32) main_v0
  let main_v2 : FVec F S256x7168 .f32 := mulf main_v1 main_v1
  let main_cst : FVec F S_ .f32 := constant S_ .f32 0x00000000#32
  let main_v3 : FVec F S256 .f32 := (fun x v => Host.reduceAdd x v reducesTo_S256x7168_S256_d1 h_S_) main_v2 main_cst
  let main_v4 : FVec F S256x1 .f32 := broadcastInDim S256x1 ![0] bcast_S256_S256x1_0 main_v3
  let main_cst_0 : FVec F S_ .f32 := constant S_ .f32 0x45E00000#32
  let main_v5 : FVec F S256x1 .f32 := broadcastInDim S256x1 ![] bcast_S_S256x1 main_cst_0
  let main_v6 : FVec F S256x1 .f32 := Host.divf main_v4 main_v5
  let main_cst_1 : FVec F S_ .f32 := constant S_ .f32 0x3727C5AC#32
  let main_v7 : FVec F S256x1 .f32 := broadcastInDim S256x1 ![] bcast_S_S256x1 main_cst_1
  let main_v8 : FVec F S256x1 .f32 := addf main_v6 main_v7
  let main_v9 : FVec F S256x1 .f32 := Host.rsqrt main_v8
  let main_v10 : FVec F S256x7168 .f32 := broadcastInDim S256x7168 ![0, 1] bcast_S256x1_S256x7168_0_1 main_v9
  let main_v11 : FVec F S256x7168 .f32 := mulf main_v1 main_v10
  let main_v12 : FVec F S1x7168 .f32 := broadcastInDim S1x7168 ![1] bcast_S7168_S1x7168_1 main_arg1
  let main_v13 : FVec F S256x7168 .f32 := broadcastInDim S256x7168 ![0, 1] bcast_S1x7168_S256x7168_0_1 main_v12
  let main_v14 : FVec F S256x7168 .f32 := mulf main_v11 main_v13
  let main_v15 : FVec F S256x7168 .f32 := Host.absf main_v14
  let main_cst_2 : FVec F S_ .f32 := constant S_ .f32 0xFF800000#32
  let main_v16 : FVec F S256 .f32 := (fun x v => Host.reduce FloatOps.maximumf x v reducesTo_S256x7168_S256_d1 h_S_) main_v15 main_cst_2
  let main_v17 : FVec F S256x1 .f32 := broadcastInDim S256x1 ![0] bcast_S256_S256x1_0 main_v16
  let main_cst_3 : FVec F S_ .f32 := constant S_ .f32 0x3B124925#32
  let main_v18 : FVec F S256x1 .f32 := broadcastInDim S256x1 ![] bcast_S_S256x1 main_cst_3
  fn_part1 (F := F) main_v17 main_v18
-- ==== Kernel.lean ====
abbrev S1x256x7168 : Shape := ⟨3, ![1, 256, 7168]⟩
abbrev S7168 : Shape := ⟨1, ![7168]⟩
abbrev S7168x9216 : Shape := ⟨2, ![7168, 9216]⟩
abbrev S9216 : Shape := ⟨1, ![9216]⟩
abbrev S1x256 : Shape := ⟨2, ![1, 256]⟩
abbrev S1x128 : Shape := ⟨2, ![1, 128]⟩
abbrev S256x7168 : Shape := ⟨2, ![256, 7168]⟩
abbrev S1x7168 : Shape := ⟨2, ![1, 7168]⟩
abbrev S1x9216 : Shape := ⟨2, ![1, 9216]⟩
abbrev S256x56x128 : Shape := ⟨3, ![256, 56, 128]⟩
abbrev S256x8x128 : Shape := ⟨3, ![256, 8, 128]⟩
abbrev S32x7168 : Shape := ⟨2, ![32, 7168]⟩
abbrev S6x7168x1024 : Shape := ⟨3, ![6, 7168, 1024]⟩
abbrev S256x128 : Shape := ⟨2, ![256, 128]⟩
abbrev S2x256x8x128 : Shape := ⟨4, ![2, 256, 8, 128]⟩
abbrev S8 : Shape := ⟨1, ![8]⟩
abbrev S6 : Shape := ⟨1, ![6]⟩
abbrev S4 : Shape := ⟨1, ![4]⟩
abbrev S2 : Shape := ⟨1, ![2]⟩
abbrev S1 : Shape := ⟨1, ![1]⟩
abbrev S_ : Shape := ⟨0, ![]⟩
abbrev S1x7168x1024 : Shape := ⟨3, ![1, 7168, 1024]⟩
abbrev S7168x1024 : Shape := ⟨2, ![7168, 1024]⟩
abbrev S128x128 : Shape := ⟨2, ![128, 128]⟩
abbrev S32x128 : Shape := ⟨2, ![32, 128]⟩
abbrev S32 : Shape := ⟨1, ![32]⟩
abbrev S32x1 : Shape := ⟨2, ![32, 1]⟩
abbrev S1x256x8x128 : Shape := ⟨4, ![1, 256, 8, 128]⟩
abbrev S1x7168x512 : Shape := ⟨3, ![1, 7168, 512]⟩
abbrev S7168x512 : Shape := ⟨2, ![7168, 512]⟩
abbrev S256x512 : Shape := ⟨2, ![256, 512]⟩
abbrev S2048x128 : Shape := ⟨2, ![2048, 128]⟩
abbrev S1024x128 : Shape := ⟨2, ![1024, 128]⟩
abbrev S1x256x2x128 : Shape := ⟨4, ![1, 256, 2, 128]⟩
abbrev S1x256x1x128 : Shape := ⟨4, ![1, 256, 1, 128]⟩

abbrev nBuf : Space → Nat
  | .hbm => 14
  | .vmem => 13
  | .smem => 0
  | _ => 0

abbrev bufTy : (tb : Table) → Fin (tcTables nBuf tb) → BufTy
  | .hbm, ⟨0, _⟩ => ⟨S1x256x7168, .bf16⟩
  | .hbm, ⟨1, _⟩ => ⟨S7168, .f32⟩
  | .hbm, ⟨2, _⟩ => ⟨S7168x9216, .fp8e4m3⟩
  | .hbm, ⟨3, _⟩ => ⟨S9216, .f32⟩
  | .hbm, ⟨4, _⟩ => ⟨S1x256, .i32⟩
  | .hbm, ⟨5, _⟩ => ⟨S1x128, .f32⟩
  | .hbm, ⟨6, _⟩ => ⟨S256x7168, .bf16⟩
  | .hbm, ⟨7, _⟩ => ⟨S1x7168, .f32⟩
  | .hbm, ⟨8, _⟩ => ⟨S1x9216, .f32⟩
  | .hbm, ⟨9, _⟩ => ⟨S256x56x128, .bf16⟩
  | .hbm, ⟨10, _⟩ => ⟨S256x8x128, .bf16⟩
  | .hbm, ⟨11, _⟩ => ⟨S256x8x128, .bf16⟩
  | .hbm, ⟨12, _⟩ => ⟨S256x7168, .fp8e4m3⟩
  | .hbm, ⟨13, _⟩ => ⟨S1x256, .f32⟩
  | .local _ .vmem, ⟨0, _⟩ => ⟨S256x7168, .bf16⟩
  | .local _ .vmem, ⟨1, _⟩ => ⟨S32x7168, .f32⟩
  | .local _ .vmem, ⟨2, _⟩ => ⟨S256x7168, .fp8e4m3⟩
  | .local _ .vmem, ⟨3, _⟩ => ⟨S6x7168x1024, .fp8e4m3⟩
  | .local _ .vmem, ⟨4, _⟩ => ⟨S1x7168, .f32⟩
  | .local _ .vmem, ⟨5, _⟩ => ⟨S1x9216, .f32⟩
  | .local _ .vmem, ⟨6, _⟩ => ⟨S1x256, .i32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S1x256, .f32⟩
  | .local _ .vmem, ⟨12, _⟩ => ⟨S2x256x8x128, .bf16⟩
  | _, _ => ⟨S1x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩

abbrev nD : Nat := 1
abbrev τ : Topo := Topo.v7x

variable {F : FTy → Type} [BitOps F]

abbrev grid0 : Pipeline.Grid := .none

@[reducible] def k0_t1_loop : Scf.Loop 32 :=
  let c0_i32_78 : BitVec 32 := 0#32
  let c8_i32 : BitVec 32 := 8#32
  let v119 : BitVec 32 := Scalar.addi c0_i32_78 c8_i32
  let c1_i32_79 : BitVec 32 := 1#32
  ⟨c0_i32_78, v119, c1_i32_79⟩
def k0_off1 (k0_t1 : Fin k0_t1_loop.trips) : Fin 1 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  ![v280.toNat]
def k0_off2 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_192 : BitVec 32 := 32#32
  let v281 : BitVec 32 := Scalar.muli v280 c32_i32_192
  let c0_i32_193 : BitVec 32 := 0#32
  ![v281.toNat, 0]
def k0_mult1 (k0_t1 : Fin k0_t1_loop.trips) : BitVec 32 :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  v286
def k0_off3 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v289 : Index := Scalar.indexCast v287
  let c0_197 : Index := 0#32
  ![v289.toNat, 0]
def k0_off4 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v294 : Index := Scalar.indexCast v287
  let c128_198 : Index := 128#32
  ![v294.toNat, 128]
def k0_off5 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v299 : Index := Scalar.indexCast v287
  let c256 : Index := 256#32
  ![v299.toNat, 256]
def k0_off6 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v304 : Index := Scalar.indexCast v287
  let c384 : Index := 384#32
  ![v304.toNat, 384]
def k0_off7 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v309 : Index := Scalar.indexCast v287
  let c512_199 : Index := 512#32
  ![v309.toNat, 512]
def k0_off8 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v314 : Index := Scalar.indexCast v287
  let c640 : Index := 640#32
  ![v314.toNat, 640]
def k0_off9 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v319 : Index := Scalar.indexCast v287
  let c768 : Index := 768#32
  ![v319.toNat, 768]
def k0_off10 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v324 : Index := Scalar.indexCast v287
  let c896 : Index := 896#32
  ![v324.toNat, 896]
def k0_off11 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v329 : Index := Scalar.indexCast v287
  let c1024 : Index := 1024#32
  ![v329.toNat, 1024]
def k0_off12 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v334 : Index := Scalar.indexCast v287
  let c1152 : Index := 1152#32
  ![v334.toNat, 1152]
def k0_off13 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v339 : Index := Scalar.indexCast v287
  let c1280 : Index := 1280#32
  ![v339.toNat, 1280]
def k0_off14 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v344 : Index := Scalar.indexCast v287
  let c1408 : Index := 1408#32
  ![v344.toNat, 1408]
def k0_off15 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v349 : Index := Scalar.indexCast v287
  let c1536 : Index := 1536#32
  ![v349.toNat, 1536]
def k0_off16 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v354 : Index := Scalar.indexCast v287
  let c1664 : Index := 1664#32
  ![v354.toNat, 1664]
def k0_off17 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v359 : Index := Scalar.indexCast v287
  let c1792 : Index := 1792#32
  ![v359.toNat, 1792]
def k0_off18 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v364 : Index := Scalar.indexCast v287
  let c1920 : Index := 1920#32
  ![v364.toNat, 1920]
def k0_off19 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v369 : Index := Scalar.indexCast v287
  let c2048 : Index := 2048#32
  ![v369.toNat, 2048]
def k0_off20 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v374 : Index := Scalar.indexCast v287
  let c2176 : Index := 2176#32
  ![v374.toNat, 2176]
def k0_off21 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v379 : Index := Scalar.indexCast v287
  let c2304 : Index := 2304#32
  ![v379.toNat, 2304]
def k0_off22 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v384 : Index := Scalar.indexCast v287
  let c2432 : Index := 2432#32
  ![v384.toNat, 2432]
def k0_off23 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v389 : Index := Scalar.indexCast v287
  let c2560 : Index := 2560#32
  ![v389.toNat, 2560]
def k0_off24 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v394 : Index := Scalar.indexCast v287
  let c2688 : Index := 2688#32
  ![v394.toNat, 2688]
def k0_off25 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v399 : Index := Scalar.indexCast v287
  let c2816 : Index := 2816#32
  ![v399.toNat, 2816]
def k0_off26 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v404 : Index := Scalar.indexCast v287
  let c2944 : Index := 2944#32
  ![v404.toNat, 2944]
def k0_off27 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v409 : Index := Scalar.indexCast v287
  let c3072 : Index := 3072#32
  ![v409.toNat, 3072]
def k0_off28 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v414 : Index := Scalar.indexCast v287
  let c3200 : Index := 3200#32
  ![v414.toNat, 3200]
def k0_off29 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v419 : Index := Scalar.indexCast v287
  let c3328 : Index := 3328#32
  ![v419.toNat, 3328]
def k0_off30 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v424 : Index := Scalar.indexCast v287
  let c3456 : Index := 3456#32
  ![v424.toNat, 3456]
def k0_off31 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v429 : Index := Scalar.indexCast v287
  let c3584 : Index := 3584#32
  ![v429.toNat, 3584]
def k0_off32 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v434 : Index := Scalar.indexCast v287
  let c3712 : Index := 3712#32
  ![v434.toNat, 3712]
def k0_off33 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v439 : Index := Scalar.indexCast v287
  let c3840 : Index := 3840#32
  ![v439.toNat, 3840]
def k0_off34 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v444 : Index := Scalar.indexCast v287
  let c3968 : Index := 3968#32
  ![v444.toNat, 3968]
def k0_off35 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v449 : Index := Scalar.indexCast v287
  let c4096 : Index := 4096#32
  ![v449.toNat, 4096]
def k0_off36 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v454 : Index := Scalar.indexCast v287
  let c4224 : Index := 4224#32
  ![v454.toNat, 4224]
def k0_off37 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v459 : Index := Scalar.indexCast v287
  let c4352 : Index := 4352#32
  ![v459.toNat, 4352]
def k0_off38 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v464 : Index := Scalar.indexCast v287
  let c4480 : Index := 4480#32
  ![v464.toNat, 4480]
def k0_off39 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v469 : Index := Scalar.indexCast v287
  let c4608 : Index := 4608#32
  ![v469.toNat, 4608]
def k0_off40 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v474 : Index := Scalar.indexCast v287
  let c4736 : Index := 4736#32
  ![v474.toNat, 4736]
def k0_off41 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v479 : Index := Scalar.indexCast v287
  let c4864 : Index := 4864#32
  ![v479.toNat, 4864]
def k0_off42 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v484 : Index := Scalar.indexCast v287
  let c4992 : Index := 4992#32
  ![v484.toNat, 4992]
def k0_off43 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v489 : Index := Scalar.indexCast v287
  let c5120 : Index := 5120#32
  ![v489.toNat, 5120]
def k0_off44 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v494 : Index := Scalar.indexCast v287
  let c5248 : Index := 5248#32
  ![v494.toNat, 5248]
def k0_off45 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v499 : Index := Scalar.indexCast v287
  let c5376 : Index := 5376#32
  ![v499.toNat, 5376]
def k0_off46 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v504 : Index := Scalar.indexCast v287
  let c5504 : Index := 5504#32
  ![v504.toNat, 5504]
def k0_off47 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v509 : Index := Scalar.indexCast v287
  let c5632 : Index := 5632#32
  ![v509.toNat, 5632]
def k0_off48 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v514 : Index := Scalar.indexCast v287
  let c5760 : Index := 5760#32
  ![v514.toNat, 5760]
def k0_off49 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v519 : Index := Scalar.indexCast v287
  let c5888 : Index := 5888#32
  ![v519.toNat, 5888]
def k0_off50 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v524 : Index := Scalar.indexCast v287
  let c6016 : Index := 6016#32
  ![v524.toNat, 6016]
def k0_off51 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v529 : Index := Scalar.indexCast v287
  let c6144 : Index := 6144#32
  ![v529.toNat, 6144]
def k0_off52 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v534 : Index := Scalar.indexCast v287
  let c6272 : Index := 6272#32
  ![v534.toNat, 6272]
def k0_off53 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v539 : Index := Scalar.indexCast v287
  let c6400 : Index := 6400#32
  ![v539.toNat, 6400]
def k0_off54 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v544 : Index := Scalar.indexCast v287
  let c6528 : Index := 6528#32
  ![v544.toNat, 6528]
def k0_off55 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v549 : Index := Scalar.indexCast v287
  let c6656 : Index := 6656#32
  ![v549.toNat, 6656]
def k0_off56 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v554 : Index := Scalar.indexCast v287
  let c6784 : Index := 6784#32
  ![v554.toNat, 6784]
def k0_off57 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v559 : Index := Scalar.indexCast v287
  let c6912 : Index := 6912#32
  ![v559.toNat, 6912]
def k0_off58 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v564 : Index := Scalar.indexCast v287
  let c7040 : Index := 7040#32
  ![v564.toNat, 7040]
def k0_off59 (k0_t1 : Fin k0_t1_loop.trips) : Fin 2 → Nat :=
  let c0_i32_191 : BitVec 32 := 0#32
  let c0_i32_78 : BitVec 32 := 0#32
  let c1_i32_79 : BitVec 32 := 1#32
  let arg29 : BitVec 32 := Scf.iv c0_i32_78 c1_i32_79 k0_t1
  let c1_i32_190 : BitVec 32 := 1#32
  let v279 : BitVec 32 := Scalar.muli arg29 c1_i32_190
  let v280 : BitVec 32 := Scalar.addi c0_i32_191 v279
  let c32_i32_195 : BitVec 32 := 32#32
  let v286 : BitVec 32 := Scalar.muli v280 c32_i32_195
  let v287 : BitVec 32 := v286
  let v1331 : Index := Scalar.indexCast v287
  let c0_505 : Index := 0#32
  ![v1331.toNat, 0]
@[reducible] def k0_t2_loop : Scf.Loop 32 :=
  let c0_i32_89 : BitVec 32 := 0#32
  let c8_i32_90 : BitVec 32 := 8#32
  let v134 : BitVec 32 := Scalar.addi c0_i32_89 c8_i32_90
  let c1_i32_91 : BitVec 32 := 1#32
  ⟨c0_i32_89, v134, c1_i32_91⟩
def k0_off60 (k0_t2 : Fin k0_t2_loop.trips) : Fin 1 → Nat :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c6_i32_192 : BitVec 32 := 6#32
  let v281 : BitVec 32 := Scalar.remsi v280 c6_i32_192
  ![v281.toNat]
def k0_off61 (k0_t2 : Fin k0_t2_loop.trips) : Fin 3 → Nat :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c6_i32_192 : BitVec 32 := 6#32
  let v281 : BitVec 32 := Scalar.remsi v280 c6_i32_192
  let c0_i32_195 : BitVec 32 := 0#32
  let c0_i32_196 : BitVec 32 := 0#32
  ![v281.toNat, 0, 0]
def k0_off62 (k0_t2 : Fin k0_t2_loop.trips) : Fin 2 → Nat :=
  let c0_i32_197 : BitVec 32 := 0#32
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c1024_i32_194 : BitVec 32 := 1024#32
  let v283 : BitVec 32 := Scalar.muli v280 c1024_i32_194
  ![0, v283.toNat]
def k0_cond1 (k0_t2 : Fin k0_t2_loop.trips) : BitVec 1 :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c2_i32_198 : BitVec 32 := 2#32
  let v289 : BitVec 1 := Scalar.cmpi .sge v280 c2_i32_198
  let v290 : BitVec 32 := Scalar.extui v289
  let c0_i32_199 : BitVec 32 := 0#32
  let v291 : BitVec 1 := Scalar.cmpi .ne v290 c0_i32_199
  v291

def k0_off63 (k0_t2 : Fin k0_t2_loop.trips) : Fin 1 → Nat :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c2_i32_193 : BitVec 32 := 2#32
  let v282 : BitVec 32 := Scalar.remsi v280 c2_i32_193
  ![v282.toNat]
def k0_off64 (k0_t2 : Fin k0_t2_loop.trips) : Fin 4 → Nat :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c2_i32_193 : BitVec 32 := 2#32
  let v282 : BitVec 32 := Scalar.remsi v280 c2_i32_193
  let c0_i32_308 : BitVec 32 := 0#32
  let c0_i32_309 : BitVec 32 := 0#32
  let c0_i32_310 : BitVec 32 := 0#32
  ![v282.toNat, 0, 0, 0]
def k0_mult2 (k0_t2 : Fin k0_t2_loop.trips) : BitVec 32 :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c1024_i32_200 : BitVec 32 := 1024#32
  let v292 : BitVec 32 := Scalar.muli v280 c1024_i32_200
  v292
def k0_off65 (k0_t2 : Fin k0_t2_loop.trips) : Fin 3 → Nat :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c6_i32_192 : BitVec 32 := 6#32
  let v281 : BitVec 32 := Scalar.remsi v280 c6_i32_192
  let v295 : Index := Scalar.indexCast v281
  let c0_203 : Index := 0#32
  let c0_204 : Index := 0#32
  ![v295.toNat, 0, 0]
def k0_mult3 (k0_t2 : Fin k0_t2_loop.trips) : BitVec 32 :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c1024_i32_200 : BitVec 32 := 1024#32
  let v292 : BitVec 32 := Scalar.muli v280 c1024_i32_200
  let v293 : BitVec 32 := v292
  let c0_i32_208 : BitVec 32 := 0#32
  let v302 : BitVec 32 := Scalar.addi v293 c0_i32_208
  let c0_i32_209 : BitVec 32 := 0#32
  let v303 : BitVec 32 := Scalar.addi v302 c0_i32_209
  v303
def k0_off66 (k0_t2 : Fin k0_t2_loop.trips) (c0_i32_208 : BitVec 32) (c0_i32_209 : BitVec 32) : Fin 2 → Nat :=
  let c0_210 : Index := 0#32
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c1024_i32_200 : BitVec 32 := 1024#32
  let v292 : BitVec 32 := Scalar.muli v280 c1024_i32_200
  let v293 : BitVec 32 := v292
  let v302 : BitVec 32 := Scalar.addi v293 c0_i32_208
  let v303 : BitVec 32 := Scalar.addi v302 c0_i32_209
  let v304 : BitVec 32 := v303
  let v305 : Index := Scalar.indexCast v304
  ![0, v305.toNat]
def k0_mult4 (k0_t2 : Fin k0_t2_loop.trips) : BitVec 32 :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c1024_i32_200 : BitVec 32 := 1024#32
  let v292 : BitVec 32 := Scalar.muli v280 c1024_i32_200
  let v293 : BitVec 32 := v292
  let c0_i32_216 : BitVec 32 := 0#32
  let v317 : BitVec 32 := Scalar.addi v293 c0_i32_216
  let c128_i32_217 : BitVec 32 := 128#32
  let v318 : BitVec 32 := Scalar.addi v317 c128_i32_217
  v318
def k0_off67 (k0_t2 : Fin k0_t2_loop.trips) : Fin 4 → Nat :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c2_i32_193 : BitVec 32 := 2#32
  let v282 : BitVec 32 := Scalar.remsi v280 c2_i32_193
  let c0_i32_224 : BitVec 32 := 0#32
  let c0_i32_225 : BitVec 32 := 0#32
  let c0_i32_226 : BitVec 32 := 0#32
  ![v282.toNat, 0, 0, 0]
def k0_off68 (k0_t2 : Fin k0_t2_loop.trips) : Fin 4 → Nat :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c2_i32_193 : BitVec 32 := 2#32
  let v282 : BitVec 32 := Scalar.remsi v280 c2_i32_193
  let c0_i32_224 : BitVec 32 := 0#32
  let c0_i32_225 : BitVec 32 := 0#32
  let c0_i32_226 : BitVec 32 := 0#32
  ![v282.toNat, 0, 0, 0]
def k0_mult5 (k0_t2 : Fin k0_t2_loop.trips) : BitVec 32 :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c1024_i32_200 : BitVec 32 := 1024#32
  let v292 : BitVec 32 := Scalar.muli v280 c1024_i32_200
  let v293 : BitVec 32 := v292
  let c0_i32_229 : BitVec 32 := 0#32
  let v340 : BitVec 32 := Scalar.addi v293 c0_i32_229
  let c256_i32_230 : BitVec 32 := 256#32
  let v341 : BitVec 32 := Scalar.addi v340 c256_i32_230
  v341
def k0_mult6 (k0_t2 : Fin k0_t2_loop.trips) : BitVec 32 :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c1024_i32_200 : BitVec 32 := 1024#32
  let v292 : BitVec 32 := Scalar.muli v280 c1024_i32_200
  let v293 : BitVec 32 := v292
  let c0_i32_237 : BitVec 32 := 0#32
  let v355 : BitVec 32 := Scalar.addi v293 c0_i32_237
  let c384_i32_238 : BitVec 32 := 384#32
  let v356 : BitVec 32 := Scalar.addi v355 c384_i32_238
  v356
def k0_off69 (k0_t2 : Fin k0_t2_loop.trips) : Fin 4 → Nat :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c2_i32_193 : BitVec 32 := 2#32
  let v282 : BitVec 32 := Scalar.remsi v280 c2_i32_193
  let c0_i32_245 : BitVec 32 := 0#32
  let c0_i32_247 : BitVec 32 := 0#32
  ![v282.toNat, 0, 2, 0]
def k0_off70 (k0_t2 : Fin k0_t2_loop.trips) : Fin 3 → Nat :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c6_i32_192 : BitVec 32 := 6#32
  let v281 : BitVec 32 := Scalar.remsi v280 c6_i32_192
  let v377 : Index := Scalar.indexCast v281
  let c0_252 : Index := 0#32
  let c512_253 : Index := 512#32
  ![v377.toNat, 0, 512]
def k0_mult7 (k0_t2 : Fin k0_t2_loop.trips) : BitVec 32 :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c1024_i32_200 : BitVec 32 := 1024#32
  let v292 : BitVec 32 := Scalar.muli v280 c1024_i32_200
  let v293 : BitVec 32 := v292
  let c512_i32_257 : BitVec 32 := 512#32
  let v384 : BitVec 32 := Scalar.addi v293 c512_i32_257
  let c0_i32_258 : BitVec 32 := 0#32
  let v385 : BitVec 32 := Scalar.addi v384 c0_i32_258
  v385
def k0_mult8 (k0_t2 : Fin k0_t2_loop.trips) : BitVec 32 :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c1024_i32_200 : BitVec 32 := 1024#32
  let v292 : BitVec 32 := Scalar.muli v280 c1024_i32_200
  let v293 : BitVec 32 := v292
  let c512_i32_265 : BitVec 32 := 512#32
  let v399 : BitVec 32 := Scalar.addi v293 c512_i32_265
  let c128_i32_266 : BitVec 32 := 128#32
  let v400 : BitVec 32 := Scalar.addi v399 c128_i32_266
  v400
def k0_off71 (k0_t2 : Fin k0_t2_loop.trips) : Fin 4 → Nat :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c2_i32_193 : BitVec 32 := 2#32
  let v282 : BitVec 32 := Scalar.remsi v280 c2_i32_193
  let c0_i32_273 : BitVec 32 := 0#32
  let c0_i32_275 : BitVec 32 := 0#32
  ![v282.toNat, 0, 4, 0]
def k0_mult9 (k0_t2 : Fin k0_t2_loop.trips) : BitVec 32 :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c1024_i32_200 : BitVec 32 := 1024#32
  let v292 : BitVec 32 := Scalar.muli v280 c1024_i32_200
  let v293 : BitVec 32 := v292
  let c512_i32_278 : BitVec 32 := 512#32
  let v422 : BitVec 32 := Scalar.addi v293 c512_i32_278
  let c256_i32_279 : BitVec 32 := 256#32
  let v423 : BitVec 32 := Scalar.addi v422 c256_i32_279
  v423
def k0_mult10 (k0_t2 : Fin k0_t2_loop.trips) : BitVec 32 :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c1024_i32_200 : BitVec 32 := 1024#32
  let v292 : BitVec 32 := Scalar.muli v280 c1024_i32_200
  let v293 : BitVec 32 := v292
  let c512_i32_286 : BitVec 32 := 512#32
  let v437 : BitVec 32 := Scalar.addi v293 c512_i32_286
  let c384_i32_287 : BitVec 32 := 384#32
  let v438 : BitVec 32 := Scalar.addi v437 c384_i32_287
  v438
def k0_off72 (k0_t2 : Fin k0_t2_loop.trips) : Fin 4 → Nat :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c2_i32_193 : BitVec 32 := 2#32
  let v282 : BitVec 32 := Scalar.remsi v280 c2_i32_193
  let c0_i32_294 : BitVec 32 := 0#32
  let c0_i32_296 : BitVec 32 := 0#32
  ![v282.toNat, 0, 6, 0]
def k0_cond2 (k0_t2 : Fin k0_t2_loop.trips) : BitVec 1 :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c6_i32_299 : BitVec 32 := 6#32
  let v458 : BitVec 32 := Scalar.addi v280 c6_i32_299
  let c9_i32 : BitVec 32 := 9#32
  let v459 : BitVec 1 := Scalar.cmpi .slt v458 c9_i32
  let v460 : BitVec 32 := Scalar.extui v459
  let c0_i32_300 : BitVec 32 := 0#32
  let v461 : BitVec 1 := Scalar.cmpi .ne v460 c0_i32_300
  v461

def k0_off73 (k0_t2 : Fin k0_t2_loop.trips) : Fin 1 → Nat :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c6_i32_192 : BitVec 32 := 6#32
  let v281 : BitVec 32 := Scalar.remsi v280 c6_i32_192
  ![v281.toNat]
def k0_off74 (k0_t2 : Fin k0_t2_loop.trips) : Fin 3 → Nat :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c6_i32_192 : BitVec 32 := 6#32
  let v281 : BitVec 32 := Scalar.remsi v280 c6_i32_192
  let c0_i32_307 : BitVec 32 := 0#32
  let c0_i32_308 : BitVec 32 := 0#32
  ![v281.toNat, 0, 0]
def k0_off75 (k0_t2 : Fin k0_t2_loop.trips) : Fin 2 → Nat :=
  let c0_i32_309 : BitVec 32 := 0#32
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c6_i32_305 : BitVec 32 := 6#32
  let v468 : BitVec 32 := Scalar.addi v280 c6_i32_305
  let c1024_i32_306 : BitVec 32 := 1024#32
  let v469 : BitVec 32 := Scalar.muli v468 c1024_i32_306
  ![0, v469.toNat]
def k0_cond3 (k0_t2 : Fin k0_t2_loop.trips) : BitVec 1 :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c7_i32_301 : BitVec 32 := 7#32
  let v462 : BitVec 1 := Scalar.cmpi .slt v280 c7_i32_301
  let v463 : BitVec 32 := Scalar.extui v462
  let c0_i32_302 : BitVec 32 := 0#32
  let v464 : BitVec 1 := Scalar.cmpi .ne v463 c0_i32_302
  v464

def k0_off76 (k0_t2 : Fin k0_t2_loop.trips) : Fin 1 → Nat :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c2_i32_193 : BitVec 32 := 2#32
  let v282 : BitVec 32 := Scalar.remsi v280 c2_i32_193
  ![v282.toNat]
def k0_off77 (k0_t2 : Fin k0_t2_loop.trips) : Fin 3 → Nat :=
  let c0_i32_306 : BitVec 32 := 0#32
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c8_i32_305 : BitVec 32 := 8#32
  let v468 : BitVec 32 := Scalar.muli v280 c8_i32_305
  let c0_i32_307 : BitVec 32 := 0#32
  ![0, v468.toNat, 0]
def k0_off78 (k0_t2 : Fin k0_t2_loop.trips) : Fin 4 → Nat :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c2_i32_193 : BitVec 32 := 2#32
  let v282 : BitVec 32 := Scalar.remsi v280 c2_i32_193
  let c0_i32_308 : BitVec 32 := 0#32
  let c0_i32_309 : BitVec 32 := 0#32
  let c0_i32_310 : BitVec 32 := 0#32
  ![v282.toNat, 0, 0, 0]
def k0_cond4 (k0_t2 : Fin k0_t2_loop.trips) : BitVec 1 :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c7_i32_303 : BitVec 32 := 7#32
  let v465 : BitVec 1 := Scalar.cmpi .eq v280 c7_i32_303
  let v466 : BitVec 32 := Scalar.extui v465
  let c0_i32_304 : BitVec 32 := 0#32
  let v467 : BitVec 1 := Scalar.cmpi .ne v466 c0_i32_304
  v467

def k0_off79 (k0_t2 : Fin k0_t2_loop.trips) : Fin 1 → Nat :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c2_i32_193 : BitVec 32 := 2#32
  let v282 : BitVec 32 := Scalar.remsi v280 c2_i32_193
  ![v282.toNat]
def k0_off80 (k0_t2 : Fin k0_t2_loop.trips) : Fin 4 → Nat :=
  let c0_i32_191 : BitVec 32 := 0#32
  let c0_i32_89 : BitVec 32 := 0#32
  let c1_i32_91 : BitVec 32 := 1#32
  let arg29 : BitVec 32 := Scf.iv c0_i32_89 c1_i32_91 k0_t2
  let c1_i32_190 : BitVec 32 := 1#32
  let v279 : BitVec 32 := Scalar.muli arg29 c1_i32_190
  let v280 : BitVec 32 := Scalar.addi c0_i32_191 v279
  let c2_i32_193 : BitVec 32 := 2#32
  let v282 : BitVec 32 := Scalar.remsi v280 c2_i32_193
  let c0_i32_308 : BitVec 32 := 0#32
  let c0_i32_309 : BitVec 32 := 0#32
  let c0_i32_310 : BitVec 32 := 0#32
  ![v282.toNat, 0, 0, 0]
def k0_mult11 : BitVec 32 :=
  let c8192_i32_106 : BitVec 32 := 8192#32
  c8192_i32_106
def k0_mult12 : BitVec 32 :=
  let c8192_i32_106 : BitVec 32 := 8192#32
  let v145 : BitVec 32 := c8192_i32_106
  let c0_i32_114 : BitVec 32 := 0#32
  let v153 : BitVec 32 := Scalar.addi v145 c0_i32_114
  let c0_i32_115 : BitVec 32 := 0#32
  let v154 : BitVec 32 := Scalar.addi v153 c0_i32_115
  v154
def k0_off81 (c0_i32_114 : BitVec 32) (c0_i32_115 : BitVec 32) : Fin 2 → Nat :=
  let c0_116 : Index := 0#32
  let c8192_i32_106 : BitVec 32 := 8192#32
  let v145 : BitVec 32 := c8192_i32_106
  let v153 : BitVec 32 := Scalar.addi v145 c0_i32_114
  let v154 : BitVec 32 := Scalar.addi v153 c0_i32_115
  let v155 : BitVec 32 := v154
  let v156 : Index := Scalar.indexCast v155
  ![0, v156.toNat]
def k0_mult13 : BitVec 32 :=
  let c8192_i32_106 : BitVec 32 := 8192#32
  let v145 : BitVec 32 := c8192_i32_106
  let c0_i32_117 : BitVec 32 := 0#32
  let v162 : BitVec 32 := Scalar.addi v145 c0_i32_117
  let c128_i32_118 : BitVec 32 := 128#32
  let v163 : BitVec 32 := Scalar.addi v162 c128_i32_118
  v163
def k0_mult14 : BitVec 32 :=
  let c8192_i32_106 : BitVec 32 := 8192#32
  let v145 : BitVec 32 := c8192_i32_106
  let c0_i32_126 : BitVec 32 := 0#32
  let v179 : BitVec 32 := Scalar.addi v145 c0_i32_126
  let c256_i32 : BitVec 32 := 256#32
  let v180 : BitVec 32 := Scalar.addi v179 c256_i32
  v180
def k0_mult15 : BitVec 32 :=
  let c8192_i32_106 : BitVec 32 := 8192#32
  let v145 : BitVec 32 := c8192_i32_106
  let c0_i32_128 : BitVec 32 := 0#32
  let v188 : BitVec 32 := Scalar.addi v145 c0_i32_128
  let c384_i32 : BitVec 32 := 384#32
  let v189 : BitVec 32 := Scalar.addi v188 c384_i32
  v189
def k0_mult16 : BitVec 32 :=
  let c8192_i32_106 : BitVec 32 := 8192#32
  let v145 : BitVec 32 := c8192_i32_106
  let c512_i32 : BitVec 32 := 512#32
  let v210 : BitVec 32 := Scalar.addi v145 c512_i32
  let c0_i32_142 : BitVec 32 := 0#32
  let v211 : BitVec 32 := Scalar.addi v210 c0_i32_142
  v211
def k0_mult17 : BitVec 32 :=
  let c8192_i32_106 : BitVec 32 := 8192#32
  let v145 : BitVec 32 := c8192_i32_106
  let c512_i32_144 : BitVec 32 := 512#32
  let v219 : BitVec 32 := Scalar.addi v145 c512_i32_144
  let c128_i32_145 : BitVec 32 := 128#32
  let v220 : BitVec 32 := Scalar.addi v219 c128_i32_145
  v220
def k0_mult18 : BitVec 32 :=
  let c8192_i32_106 : BitVec 32 := 8192#32
  let v145 : BitVec 32 := c8192_i32_106
  let c512_i32_153 : BitVec 32 := 512#32
  let v236 : BitVec 32 := Scalar.addi v145 c512_i32_153
  let c256_i32_154 : BitVec 32 := 256#32
  let v237 : BitVec 32 := Scalar.addi v236 c256_i32_154
  v237
def k0_mult19 : BitVec 32 :=
  let c8192_i32_106 : BitVec 32 := 8192#32
  let v145 : BitVec 32 := c8192_i32_106
  let c512_i32_156 : BitVec 32 := 512#32
  let v245 : BitVec 32 := Scalar.addi v145 c512_i32_156
  let c384_i32_157 : BitVec 32 := 384#32
  let v246 : BitVec 32 := Scalar.addi v245 c384_i32_157
  v246
-- ==== KernelIdeal.lean ====
variable {F : FTy → Type} [FloatOps F] [Named F]
def κ : String → Option EReal := fun
  | "inv_d" => some ((1 / 7168 : ℝ) : EReal)
  | _ => none
-- ==== ReferenceIdeal.lean ====
abbrev S1x256x7168 : Shape := ⟨3, ![1, 256, 7168]⟩
abbrev S7168 : Shape := ⟨1, ![7168]⟩
abbrev S7168x9216 : Shape := ⟨2, ![7168, 9216]⟩
abbrev S9216 : Shape := ⟨1, ![9216]⟩
abbrev S1x256 : Shape := ⟨2, ![1, 256]⟩
abbrev S253 : Shape := ⟨1, ![253]⟩
abbrev S64 : Shape := ⟨1, ![64]⟩
abbrev S256x7168 : Shape := ⟨2, ![256, 7168]⟩
abbrev S_ : Shape := ⟨0, ![]⟩
abbrev S256 : Shape := ⟨1, ![256]⟩
abbrev S256x1 : Shape := ⟨2, ![256, 1]⟩
abbrev S1x7168 : Shape := ⟨2, ![1, 7168]⟩
abbrev S1x253 : Shape := ⟨2, ![1, 253]⟩
abbrev S256x253 : Shape := ⟨2, ![256, 253]⟩
abbrev S256x9216 : Shape := ⟨2, ![256, 9216]⟩
abbrev S1x9216 : Shape := ⟨2, ![1, 9216]⟩
abbrev S256x72x128 : Shape := ⟨3, ![256, 72, 128]⟩
abbrev S1x64 : Shape := ⟨2, ![1, 64]⟩
abbrev S256x64 : Shape := ⟨2, ![256, 64]⟩
abbrev S256x1x64 : Shape := ⟨3, ![256, 1, 64]⟩
abbrev S256x56x128 : Shape := ⟨3, ![256, 56, 128]⟩
abbrev S256x56x64 : Shape := ⟨3, ![256, 56, 64]⟩
abbrev S256x8x128 : Shape := ⟨3, ![256, 8, 128]⟩
abbrev S256x8x64 : Shape := ⟨3, ![256, 8, 64]⟩

abbrev nBuf : Space → Nat
  | .hbm => 112
  | .vmem => 4
  | .smem => 0
  | _ => 0

abbrev bufTy : (tb : Table) → Fin (tcTables nBuf tb) → BufTy
  | .hbm, ⟨0, _⟩ => ⟨S1x256x7168, .bf16⟩
  | .hbm, ⟨1, _⟩ => ⟨S7168, .f32⟩
  | .hbm, ⟨2, _⟩ => ⟨S7168x9216, .fp8e4m3⟩
  | .hbm, ⟨3, _⟩ => ⟨S9216, .f32⟩
  | .hbm, ⟨4, _⟩ => ⟨S1x256, .i32⟩
  | .hbm, ⟨5, _⟩ => ⟨S253, .f32⟩
  | .hbm, ⟨6, _⟩ => ⟨S64, .f32⟩
  | .hbm, ⟨7, _⟩ => ⟨S256x7168, .bf16⟩
  | .hbm, ⟨8, _⟩ => ⟨S256x7168, .f32⟩
  | .hbm, ⟨9, _⟩ => ⟨S256x7168, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x7168, .f32⟩
  | .hbm, ⟨21, _⟩ => ⟨S256x7168, .f32⟩
  | .hbm, ⟨22, _⟩ => ⟨S1x7168, .f32⟩
  | .hbm, ⟨23, _⟩ => ⟨S256x7168, .f32⟩
  | .hbm, ⟨24, _⟩ => ⟨S256x7168, .f32⟩
  | .hbm, ⟨25, _⟩ => ⟨S256x7168, .f32⟩
  | .hbm, ⟨26, _⟩ => ⟨S_, .f32⟩
  | .hbm, ⟨27, _⟩ => ⟨S256, .f32⟩
  | .hbm, ⟨28, _⟩ => ⟨S256x1, .f32⟩
  | .hbm, ⟨29, _⟩ => ⟨S_, .f32⟩
  | .hbm, ⟨30, _⟩ => ⟨S256x1, .f32⟩
  | .hbm, ⟨31, _⟩ => ⟨S256x1, .f32⟩
  | .hbm, ⟨32, _⟩ => ⟨S1x253, .f32⟩
  | .hbm, ⟨33, _⟩ => ⟨S256x253, .f32⟩
  | .hbm, ⟨34, _⟩ => ⟨S256x253, .f32⟩
  | .hbm, ⟨35, _⟩ => ⟨S256x253, .i1⟩
  | .hbm, ⟨36, _⟩ => ⟨S_, .f32⟩
  | .hbm, ⟨37, _⟩ => ⟨S_, .f32⟩
  | .hbm, ⟨38, _⟩ => ⟨S256x253, .f32⟩
  | .hbm, ⟨39, _⟩ => ⟨S256x253, .f32⟩
  | .hbm, ⟨40, _⟩ => ⟨S256x253, .f32⟩
  | .hbm, ⟨41, _⟩ => ⟨S_, .f32⟩
  | .hbm, ⟨42, _⟩ => ⟨S256, .f32⟩
  | .hbm, ⟨43, _⟩ => ⟨S256x1, .f32⟩
  | .hbm, ⟨44, _⟩ => ⟨S_, .f32⟩
  | .hbm, ⟨45, _⟩ => ⟨S256x1, .f32⟩
  | .hbm, ⟨46, _⟩ => ⟨S256x1, .i1⟩
  | .hbm, ⟨47, _⟩ => ⟨S_, .f32⟩
  | .hbm, ⟨48, _⟩ => ⟨S_, .f32⟩
  | .hbm, ⟨49, _⟩ => ⟨S256x1, .f32⟩
  | .hbm, ⟨50, _⟩ => ⟨S256x1, .f32⟩
  | .hbm, ⟨51, _⟩ => ⟨S256x7168, .f32⟩
  | .hbm, ⟨52, _⟩ => ⟨S256x7168, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S256x7168, .f32⟩
  | .hbm, ⟨57, _⟩ => ⟨S256x7168, .f32⟩
  | .hbm, ⟨58, _⟩ => ⟨S_, .f32⟩
  | .hbm, ⟨59, _⟩ => ⟨S256x7168, .f32⟩
  | .hbm, ⟨60, _⟩ => ⟨S256x7168, .f32⟩
  | .hbm, ⟨61, _⟩ => ⟨S256x7168, .fp8e4m3⟩
  | .hbm, ⟨62, _⟩ => ⟨S256x9216, .f32⟩
  | .hbm, ⟨63, _⟩ => ⟨S256x9216, .f32⟩
  | .hbm, ⟨64, _⟩ => ⟨S256x9216, .f32⟩
  | .hbm, ⟨65, _⟩ => ⟨S1x9216, .f32⟩
  | .hbm, ⟨66, _⟩ => ⟨S256x9216, .f32⟩
  | .hbm, ⟨67, _⟩ => ⟨S256x9216, .f32⟩
  | .hbm, ⟨68, _⟩ => ⟨S256x72x128, .f32⟩
  | .hbm, ⟨69, _⟩ => ⟨S256x1, .i32⟩
  | .hbm, ⟨70, _⟩ => ⟨S256x1, .f32⟩
  | .hbm, ⟨71, _⟩ => ⟨S1x64, .f32⟩
  | .hbm, ⟨72, _⟩ => ⟨S256x64, .f32⟩
  | .hbm, ⟨73, _⟩ => ⟨S256x64, .f32⟩
  | .hbm, ⟨74, _⟩ => ⟨S256x64, .f32⟩
  | .hbm, ⟨75, _⟩ => ⟨S256x64, .f32⟩
  | .hbm, ⟨76, _⟩ => ⟨S256x1x64, .f32⟩
  | .hbm, ⟨77, _⟩ => ⟨S256x64, .f32⟩
  | .hbm, ⟨78, _⟩ => ⟨S256x1x64, .f32⟩
  | .hbm, ⟨79, _⟩ => ⟨S256x56x128, .f32⟩
  | .hbm, ⟨80, _⟩ => ⟨S256x56x64, .f32⟩
  | .hbm, ⟨81, _⟩ => ⟨S256x56x64, .f32⟩
  | .hbm, ⟨82, _⟩ => ⟨S256x56x64, .f32⟩
  | .hbm, ⟨83, _⟩ => ⟨S256x56x64, .f32⟩
  | .hbm, ⟨84, _⟩ => ⟨S256x56x64, .f32⟩
  | .hbm, ⟨85, _⟩ => ⟨S256x56x64, .f32⟩
  | .hbm, ⟨86, _⟩ => ⟨S256x56x64, .f32⟩
  | .hbm, ⟨87, _⟩ => ⟨S256x56x64, .f32⟩
  | .hbm, ⟨88, _⟩ => ⟨S256x56x64, .f32⟩
  | .hbm, ⟨89, _⟩ => ⟨S256x56x64, .f32⟩
  | .hbm, ⟨90, _⟩ => ⟨S256x56x64, .f32⟩
  | .hbm, ⟨91, _⟩ => ⟨S256x56x64, .f32⟩
  | .hbm, ⟨92, _⟩ => ⟨S256x56x128, .f32⟩
  | .hbm, ⟨93, _⟩ => ⟨S256x8x128, .f32⟩
  | .hbm, ⟨94, _⟩ => ⟨S256x8x64, .f32⟩
  | .hbm, ⟨95, _⟩ => ⟨S256x8x64, .f32⟩
  | .hbm, ⟨96, _⟩ => ⟨S256x8x64, .f32⟩
  | .hbm, ⟨97, _⟩ => ⟨S256x8x64, .f32⟩
  | .hbm, ⟨98, _⟩ => ⟨S256x8x64, .f32⟩
  | .hbm, ⟨99, _⟩ => ⟨S256x8x64, .f32⟩
  | .hbm, ⟨100, _⟩ => ⟨S256x8x64, .f32⟩
  | .hbm, ⟨101, _⟩ => ⟨S256x8x64, .f32⟩
  | .hbm, ⟨102, _⟩ => ⟨S256x8x64, .f32⟩
  | .hbm, ⟨103, _⟩ => ⟨S256x8x64, .f32⟩
  | .hbm, ⟨104, _⟩ => ⟨S256x8x64, .f32⟩
  | .hbm, ⟨105, _⟩ => ⟨S256x8x64, .f32⟩
  | .hbm, ⟨106, _⟩ => ⟨S256x8x128, .f32⟩
  | .hbm, ⟨107, _⟩ => ⟨S256x56x128, .bf16⟩
  | .hbm, ⟨108, _⟩ => ⟨S256x8x128, .bf16⟩
  | .hbm, ⟨109, _⟩ => ⟨S256x8x128, .f32⟩
  | .hbm, ⟨110, _⟩ => ⟨S256x8x128, .bf16⟩
  | .hbm, ⟨111, _⟩ => ⟨S1x256, .f32⟩
  | .local _ .vmem, ⟨0, _⟩ => ⟨S256x7168, .f32⟩
  | .local _ .vmem, ⟨1, _⟩ => ⟨S7168x9216, .fp8e4m3⟩
  | .local _ .vmem, ⟨2, _⟩ => ⟨S256x7168, .fp8e4m3⟩
  | .local _ .vmem, ⟨3, _⟩ => ⟨S256x9216, .f32⟩
  | _, _ => ⟨S1x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_call1_v0 : Ref sig .tc := ⟨.hbm, 48, rfl⟩
abbrev main_call1_v1 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_10 : Ref sig .tc := ⟨.hbm, 53, rfl⟩
abbrev main_cst_11 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v32 : Ref sig .tc := ⟨.hbm, 60, rfl⟩
abbrev main_v33_0 : Ref sig .tc := ⟨.hbm, 61, rfl⟩
abbrev main_v33_1 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x9216 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelParts.lean ====
/- The kernel's transfers, named: the row chunks of `x` and their semaphores, the column blocks of the weight and
   the six slots they land in, the two output slots and the head groups of `q` they are copied to. The printed
   slices are equated with these names, so that one run of a loop's trip serves every trip. -/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Pipeline.FrameValue
public import Idealize.ShloMosaic.Lib.Ring
public import Idealize.ShloMosaic.Lib.Tactic

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Whole arrays -/

abbrev xM : Memref sig .tc .hbm S256x7168 .bf16 := Memref.whole main_v0
abbrev wM : Memref sig .tc .hbm S7168x9216 .fp8e4m3 := Memref.whole main_arg2
abbrev qM : Memref sig .tc .hbm S256x56x128 .bf16 := Memref.whole main_v3_0
abbrev kM : Memref sig .tc .hbm S256x8x128 .bf16 := Memref.whole main_v3_1
abbrev vM : Memref sig .tc .hbm S256x8x128 .bf16 := Memref.whole main_v3_2
abbrev xbM : Memref sig .tc .vmem S256x7168 .bf16 := Memref.whole cc0_scratch0
abbrev wbM : Memref sig .tc .vmem S6x7168x1024 .fp8e4m3 := Memref.whole cc0_scratch3
abbrev obM : Memref sig .tc .vmem S2x256x8x128 .bf16 := Memref.whole cc0_scratch12

/-! ## Offsets, each within its array -/

abbrev xOff (c : Fin 8) : Fin 2 → Nat := ![32 * c.val, 0]
theorem xOff_inb : ∀ c : Fin 8, ∀ a, xOff c a + S32x7168.size a ≤ S256x7168.size a := by decide
abbrev wOff (b : Fin 9) : Fin 2 → Nat := ![0, 1024 * b.val]
theorem wOff_inb : ∀ b : Fin 9, ∀ a, wOff b a + S7168x1024.size a ≤ S7168x9216.size a := by decide
abbrev wsOff (s : Fin 6) : Fin 3 → Nat := ![s.val, 0, 0]
theorem wsOff_inb : ∀ s : Fin 6, ∀ a, wsOff s a + S1x7168x1024.size a ≤ S6x7168x1024.size a := by decide
abbrev osOff (s : Fin 2) : Fin 4 → Nat := ![s.val, 0, 0, 0]
theorem osOff_inb : ∀ s : Fin 2, ∀ a, osOff s a + S1x256x8x128.size a ≤ S2x256x8x128.size a := by decide
abbrev qOff (g : Fin 7) : Fin 3 → Nat := ![0, 8 * g.val, 0]
theorem qOff_inb : ∀ g : Fin 7, ∀ a, qOff g a + S256x8x128.size a ≤ S256x56x128.size a := by decide
abbrev o1 (s : ℕ) : Fin 1 → Nat := ![s]
theorem o8_inb : ∀ c : Fin 8, ∀ a, o1 c.val a + S1.size a ≤ S8.size a := by decide
theorem o6_inb : ∀ c : Fin 6, ∀ a, o1 c.val a + S1.size a ≤ S6.size a := by decide
theorem o4_inb : ∀ c : Fin 4, ∀ a, o1 c.val a + S1.size a ≤ S4.size a := by decide
theorem o2_inb : ∀ c : Fin 2, ∀ a, o1 c.val a + S1.size a ≤ S2.size a := by decide

instance (c : Fin 8) : ClosedOff (xOff c) := ⟨xOff c, rfl⟩
instance (b : Fin 9) : ClosedOff (wOff b) := ⟨wOff b, rfl⟩
instance (s : Fin 6) : ClosedOff (wsOff s) := ⟨wsOff s, rfl⟩
instance (s : Fin 2) : ClosedOff (osOff s) := ⟨osOff s, rfl⟩
instance (g : Fin 7) : ClosedOff (qOff g) := ⟨qOff g, rfl⟩

/-! ## The names -/

/-- Rows `32 c … 32 c + 31` of `x`, -/
def xrow (c : Fin 8) : Memref sig .tc .hbm S32x7168 .bf16 :=
  xM.slice (Rect.unit (s := S256x7168) (xOff c) S32x7168.size (xOff_inb c)) (fun _ => rfl)
/-- and where they land. -/
def xslot (c : Fin 8) : Memref sig .tc .vmem S32x7168 .bf16 :=
  xbM.slice (Rect.unit (s := S256x7168) (xOff c) S32x7168.size (xOff_inb c)) (fun _ => rfl)
/-- Columns `1024 b … 1024 b + 1023` of the weight, -/
def wcol (b : Fin 9) : Memref sig .tc .hbm S7168x1024 .fp8e4m3 :=
  wM.slice (Rect.unit (s := S7168x9216) (wOff b) S7168x1024.size (wOff_inb b)) (fun _ => rfl)
/-- and a slot such a block lands in. -/
def wslot (s : Fin 6) : Memref sig .tc .vmem S7168x1024 .fp8e4m3 :=
  (wbM.slice (Rect.unit (s := S6x7168x1024) (wsOff s) S1x7168x1024.size (wsOff_inb s)) (fun _ => rfl)).squeeze S7168x1024 squeezes_S1x7168x1024_S7168x1024
/-- One of the two output slots, -/
def oslot (s : Fin 2) : Memref sig .tc .vmem S256x8x128 .bf16 :=
  (obM.slice (Rect.unit (s := S2x256x8x128) (osOff s) S1x256x8x128.size (osOff_inb s)) (fun _ => rfl)).squeeze S256x8x128 squeezes_S1x256x8x128_S256x8x128
/-- and the eight heads of `q` a block is copied to. -/
def qgrp (g : Fin 7) : Memref sig .tc .hbm S256x8x128 .bf16 :=
  qM.slice (Rect.unit (s := S256x56x128) (qOff g) S256x8x128.size (qOff_inb g)) (fun _ => rfl)

/-- `k` and `v`, each as its one block. -/
abbrev kAll : Memref sig .tc .hbm S256x8x128 .bf16 :=
  kM.slice (Rect.unit (s := S256x8x128) ![0, 0, 0] S256x8x128.size inb_S256x8x128_S256x8x128_0_0_0) (fun _ => rfl)
abbrev vAll : Memref sig .tc .hbm S256x8x128 .bf16 :=
  vM.slice (Rect.unit (s := S256x8x128) ![0, 0, 0] S256x8x128.size inb_S256x8x128_S256x8x128_0_0_0) (fun _ => rfl)

/-- Where output block `b` is copied to. -/
def odst (b : ℕ) : Memref sig .tc .hbm S256x8x128 .bf16 := if b < 7 then qgrp (Ring.bk 7 b) else kAll
theorem odst_q {b : ℕ} (h : b < 7) : odst b = qgrp (Ring.bk 7 b) := if_pos h
theorem odst_k {b : ℕ} (h : ¬ b < 7) : odst b = kAll := if_neg h

/-- The five arrays of semaphores. -/
def csx (c : Fin 8) : DmaSems sig S_ := (cc0_scratch13.slice (Rect.unit (s := S8) (o1 c.val) S1.size (o8_inb c))).squeeze S_ squeezes_S1_S_
def csw (s : Fin 6) : DmaSems sig S_ := (cc0_scratch14.slice (Rect.unit (s := S6) (o1 s.val) S1.size (o6_inb s))).squeeze S_ squeezes_S1_S_
def css (s : Fin 4) : DmaSems sig S_ := (cc0_scratch15.slice (Rect.unit (s := S4) (o1 s.val) S1.size (o4_inb s))).squeeze S_ squeezes_S1_S_
def cso (s : Fin 2) : DmaSems sig S_ := (cc0_scratch16.slice (Rect.unit (s := S2) (o1 s.val) S1.size (o2_inb s))).squeeze S_ squeezes_S1_S_
def csm (s : Fin 2) : DmaSems sig S_ := (cc0_scratch17.slice (Rect.unit (s := S2) (o1 s.val) S1.size (o2_inb s))).squeeze S_ squeezes_S1_S_

/-! ## The printed slices are the names -/

private theorem xrow_congr {off : Fin 2 → Nat} {c : Fin 8} (e : off = xOff c) (hh hs) :
    xM.slice (Rect.unit (s := S256x7168) off S32x7168.size hh) hs = xrow c := Memref.slice_unit_congr _ e _ _ _ (fun _ => rfl)
private theorem xslot_congr {off : Fin 2 → Nat} {c : Fin 8} (e : off = xOff c) (hh hs) :
    xbM.slice (Rect.unit (s := S256x7168) off S32x7168.size hh) hs = xslot c := Memref.slice_unit_congr _ e _ _ _ (fun _ => rfl)
private theorem wcol_congr {off : Fin 2 → Nat} {b : Fin 9} (e : off = wOff b) (hh hs) :
    wM.slice (Rect.unit (s := S7168x9216) off S7168x1024.size hh) hs = wcol b := Memref.slice_unit_congr _ e _ _ _ (fun _ => rfl)
private theorem wslot_congr {off : Fin 3 → Nat} {s : Fin 6} (e : off = wsOff s) (hh hs) :
    (wbM.slice (Rect.unit (s := S6x7168x1024) off S1x7168x1024.size hh) hs).squeeze S7168x1024 squeezes_S1x7168x1024_S7168x1024 = wslot s :=
  congrArg (fun M : Memref sig .tc .vmem S1x7168x1024 .fp8e4m3 => M.squeeze S7168x1024 squeezes_S1x7168x1024_S7168x1024) (Memref.slice_unit_congr _ e _ _ _ _)
private theorem oslot_congr {off : Fin 4 → Nat} {s : Fin 2} (e : off = osOff s) (hh hs) :
    (obM.slice (Rect.unit (s := S2x256x8x128) off S1x256x8x128.size hh) hs).squeeze S256x8x128 squeezes_S1x256x8x128_S256x8x128 = oslot s :=
  congrArg (fun M : Memref sig .tc .vmem S1x256x8x128 .bf16 => M.squeeze S256x8x128 squeezes_S1x256x8x128_S256x8x128) (Memref.slice_unit_congr _ e _ _ _ _)
private theorem qgrp_congr {off : Fin 3 → Nat} {g : Fin 7} (e : off = qOff g) (hh hs) :
    qM.slice (Rect.unit (s := S256x56x128) off S256x8x128.size hh) hs = qgrp g := Memref.slice_unit_congr _ e _ _ _ (fun _ => rfl)
private theorem csx_congr {off : Fin 1 → Nat} {s : Fin 8} (e : off = o1 s.val) (hh) :
    (cc0_scratch13.slice (Rect.unit (s := S8) off S1.size hh)).squeeze S_ squeezes_S1_S_ = csx s :=
  congrArg (fun A : DmaSems sig S1 => A.squeeze S_ squeezes_S1_S_) (SemArray.slice_unit_congr _ e _ _)
private theorem csw_congr {off : Fin 1 → Nat} {s : Fin 6} (e : off = o1 s.val) (hh) :
    (cc0_scratch14.slice (Rect.unit (s := S6) off S1.size hh)).squeeze S_ squeezes_S1_S_ = csw s :=
  congrArg (fun A : DmaSems sig S1 => A.squeeze S_ squeezes_S1_S_) (SemArray.slice_unit_congr _ e _ _)
private theorem css_congr {off : Fin 1 → Nat} {s : Fin 4} (e : off = o1 s.val) (hh) :
    (cc0_scratch15.slice (Rect.unit (s := S4) off S1.size hh)).squeeze S_ squeezes_S1_S_ = css s :=
  congrArg (fun A : DmaSems sig S1 => A.squeeze S_ squeezes_S1_S_) (SemArray.slice_unit_congr _ e _ _)
private theorem cso_congr {off : Fin 1 → Nat} {s : Fin 2} (e : off = o1 s.val) (hh) :
    (cc0_scratch16.slice (Rect.unit (s := S2) off S1.size hh)).squeeze S_ squeezes_S1_S_ = cso s :=
  congrArg (fun A : DmaSems sig S1 => A.squeeze S_ squeezes_S1_S_) (SemArray.slice_unit_congr _ e _ _)
private theorem csm_congr {off : Fin 1 → Nat} {s : Fin 2} (e : off = o1 s.val) (hh) :
    (cc0_scratch17.slice (Rect.unit (s := S2) off S1.size hh)).squeeze S_ squeezes_S1_S_ = csm s :=
  congrArg (fun A : DmaSems sig S1 => A.squeeze S_ squeezes_S1_S_) (SemArray.slice_unit_congr _ e _ _)

/-! ### Outside the loops -/

@[sl_canon] theorem xrowL0 (hh hs) : xM.slice (Rect.unit (s := S256x7168) ![0, 0] S32x7168.size hh) hs = xrow 0 := xrow_congr (by decide) _ _
@[sl_canon] theorem xslotL0 (hh hs) : xbM.slice (Rect.unit (s := S256x7168) ![0, 0] S32x7168.size hh) hs = xslot 0 := xslot_congr (by decide) _ _
@[sl_canon] theorem csxL0 (hh) : (cc0_scratch13.slice (Rect.unit (s := S8) ![0] S1.size hh)).squeeze S_ squeezes_S1_S_ = csx 0 := csx_congr (by decide) _
@[sl_canon] theorem xrowL1 (hh hs) : xM.slice (Rect.unit (s := S256x7168) ![32, 0] S32x7168.size hh) hs = xrow 1 := xrow_congr (by decide) _ _
@[sl_canon] theorem xslotL1 (hh hs) : xbM.slice (Rect.unit (s := S256x7168) ![32, 0] S32x7168.size hh) hs = xslot 1 := xslot_congr (by decide) _ _
@[sl_canon] theorem csxL1 (hh) : (cc0_scratch13.slice (Rect.unit (s := S8) ![1] S1.size hh)).squeeze S_ squeezes_S1_S_ = csx 1 := csx_congr (by decide) _
@[sl_canon] theorem xrowL2 (hh hs) : xM.slice (Rect.unit (s := S256x7168) ![64, 0] S32x7168.size hh) hs = xrow 2 := xrow_congr (by decide) _ _
@[sl_canon] theorem xslotL2 (hh hs) : xbM.slice (Rect.unit (s := S256x7168) ![64, 0] S32x7168.size hh) hs = xslot 2 := xslot_congr (by decide) _ _
@[sl_canon] theorem csxL2 (hh) : (cc0_scratch13.slice (Rect.unit (s := S8) ![2] S1.size hh)).squeeze S_ squeezes_S1_S_ = csx 2 := csx_congr (by decide) _
@[sl_canon] theorem xrowL3 (hh hs) : xM.slice (Rect.unit (s := S256x7168) ![96, 0] S32x7168.size hh) hs = xrow 3 := xrow_congr (by decide) _ _
@[sl_canon] theorem xslotL3 (hh hs) : xbM.slice (Rect.unit (s := S256x7168) ![96, 0] S32x7168.size hh) hs = xslot 3 := xslot_congr (by decide) _ _
@[sl_canon] theorem csxL3 (hh) : (cc0_scratch13.slice (Rect.unit (s := S8) ![3] S1.size hh)).squeeze S_ squeezes_S1_S_ = csx 3 := csx_congr (by decide) _
@[sl_canon] theorem xrowL4 (hh hs) : xM.slice (Rect.unit (s := S256x7168) ![128, 0] S32x7168.size hh) hs = xrow 4 := xrow_congr (by decide) _ _
@[sl_canon] theorem xslotL4 (hh hs) : xbM.slice (Rect.unit (s := S256x7168) ![128, 0] S32x7168.size hh) hs = xslot 4 := xslot_congr (by decide) _ _
@[sl_canon] theorem csxL4 (hh) : (cc0_scratch13.slice (Rect.unit (s := S8) ![4] S1.size hh)).squeeze S_ squeezes_S1_S_ = csx 4 := csx_congr (by decide) _
@[sl_canon] theorem xrowL5 (hh hs) : xM.slice (Rect.unit (s := S256x7168) ![160, 0] S32x7168.size hh) hs = xrow 5 := xrow_congr (by decide) _ _
@[sl_canon] theorem xslotL5 (hh hs) : xbM.slice (Rect.unit (s := S256x7168) ![160, 0] S32x7168.size hh) hs = xslot 5 := xslot_congr (by decide) _ _
@[sl_canon] theorem csxL5 (hh) : (cc0_scratch13.slice (Rect.unit (s := S8) ![5] S1.size hh)).squeeze S_ squeezes_S1_S_ = csx 5 := csx_congr (by decide) _
@[sl_canon] theorem xrowL6 (hh hs) : xM.slice (Rect.unit (s := S256x7168) ![192, 0] S32x7168.size hh) hs = xrow 6 := xrow_congr (by decide) _ _
@[sl_canon] theorem xslotL6 (hh hs) : xbM.slice (Rect.unit (s := S256x7168) ![192, 0] S32x7168.size hh) hs = xslot 6 := xslot_congr (by decide) _ _
@[sl_canon] theorem csxL6 (hh) : (cc0_scratch13.slice (Rect.unit (s := S8) ![6] S1.size hh)).squeeze S_ squeezes_S1_S_ = csx 6 := csx_congr (by decide) _
@[sl_canon] theorem xrowL7 (hh hs) : xM.slice (Rect.unit (s := S256x7168) ![224, 0] S32x7168.size hh) hs = xrow 7 := xrow_congr (by decide) _ _
@[sl_canon] theorem xslotL7 (hh hs) : xbM.slice (Rect.unit (s := S256x7168) ![224, 0] S32x7168.size hh) hs = xslot 7 := xslot_congr (by decide) _ _
@[sl_canon] theorem csxL7 (hh) : (cc0_scratch13.slice (Rect.unit (s := S8) ![7] S1.size hh)).squeeze S_ squeezes_S1_S_ = csx 7 := csx_congr (by decide) _
@[sl_canon] theorem wcolL0 (hh hs) : wM.slice (Rect.unit (s := S7168x9216) ![0, 0] S7168x1024.size hh) hs = wcol 0 := wcol_congr (by decide) _ _
@[sl_canon] theorem wcolL1 (hh hs) : wM.slice (Rect.unit (s := S7168x9216) ![0, 1024] S7168x1024.size hh) hs = wcol 1 := wcol_congr (by decide) _ _
@[sl_canon] theorem wcolL2 (hh hs) : wM.slice (Rect.unit (s := S7168x9216) ![0, 2048] S7168x1024.size hh) hs = wcol 2 := wcol_congr (by decide) _ _
@[sl_canon] theorem wcolL3 (hh hs) : wM.slice (Rect.unit (s := S7168x9216) ![0, 3072] S7168x1024.size hh) hs = wcol 3 := wcol_congr (by decide) _ _
@[sl_canon] theorem wcolL4 (hh hs) : wM.slice (Rect.unit (s := S7168x9216) ![0, 4096] S7168x1024.size hh) hs = wcol 4 := wcol_congr (by decide) _ _
@[sl_canon] theorem wcolL5 (hh hs) : wM.slice (Rect.unit (s := S7168x9216) ![0, 5120] S7168x1024.size hh) hs = wcol 5 := wcol_congr (by decide) _ _
@[sl_canon] theorem wcolL8 (hh hs) : wM.slice (Rect.unit (s := S7168x9216) ![0, 8192] S7168x1024.size hh) hs = wcol 8 := wcol_congr (by decide) _ _
@[sl_canon] theorem wslotL0 (hh hs) : (wbM.slice (Rect.unit (s := S6x7168x1024) ![0, 0, 0] S1x7168x1024.size hh) hs).squeeze S7168x1024 squeezes_S1x7168x1024_S7168x1024 = wslot 0 := wslot_congr (by decide) _ _
@[sl_canon] theorem cswL0 (hh) : (cc0_scratch14.slice (Rect.unit (s := S6) ![0] S1.size hh)).squeeze S_ squeezes_S1_S_ = csw 0 := csw_congr (by decide) _
@[sl_canon] theorem wslotL1 (hh hs) : (wbM.slice (Rect.unit (s := S6x7168x1024) ![1, 0, 0] S1x7168x1024.size hh) hs).squeeze S7168x1024 squeezes_S1x7168x1024_S7168x1024 = wslot 1 := wslot_congr (by decide) _ _
@[sl_canon] theorem cswL1 (hh) : (cc0_scratch14.slice (Rect.unit (s := S6) ![1] S1.size hh)).squeeze S_ squeezes_S1_S_ = csw 1 := csw_congr (by decide) _
@[sl_canon] theorem wslotL2 (hh hs) : (wbM.slice (Rect.unit (s := S6x7168x1024) ![2, 0, 0] S1x7168x1024.size hh) hs).squeeze S7168x1024 squeezes_S1x7168x1024_S7168x1024 = wslot 2 := wslot_congr (by decide) _ _
@[sl_canon] theorem cswL2 (hh) : (cc0_scratch14.slice (Rect.unit (s := S6) ![2] S1.size hh)).squeeze S_ squeezes_S1_S_ = csw 2 := csw_congr (by decide) _
@[sl_canon] theorem wslotL3 (hh hs) : (wbM.slice (Rect.unit (s := S6x7168x1024) ![3, 0, 0] S1x7168x1024.size hh) hs).squeeze S7168x1024 squeezes_S1x7168x1024_S7168x1024 = wslot 3 := wslot_congr (by decide) _ _
@[sl_canon] theorem cswL3 (hh) : (cc0_scratch14.slice (Rect.unit (s := S6) ![3] S1.size hh)).squeeze S_ squeezes_S1_S_ = csw 3 := csw_congr (by decide) _
@[sl_canon] theorem wslotL4 (hh hs) : (wbM.slice (Rect.unit (s := S6x7168x1024) ![4, 0, 0] S1x7168x1024.size hh) hs).squeeze S7168x1024 squeezes_S1x7168x1024_S7168x1024 = wslot 4 := wslot_congr (by decide) _ _
@[sl_canon] theorem cswL4 (hh) : (cc0_scratch14.slice (Rect.unit (s := S6) ![4] S1.size hh)).squeeze S_ squeezes_S1_S_ = csw 4 := csw_congr (by decide) _
@[sl_canon] theorem wslotL5 (hh hs) : (wbM.slice (Rect.unit (s := S6x7168x1024) ![5, 0, 0] S1x7168x1024.size hh) hs).squeeze S7168x1024 squeezes_S1x7168x1024_S7168x1024 = wslot 5 := wslot_congr (by decide) _ _
@[sl_canon] theorem cswL5 (hh) : (cc0_scratch14.slice (Rect.unit (s := S6) ![5] S1.size hh)).squeeze S_ squeezes_S1_S_ = csw 5 := csw_congr (by decide) _
@[sl_canon] theorem cssL0 (hh) : (cc0_scratch15.slice (Rect.unit (s := S4) ![0] S1.size hh)).squeeze S_ squeezes_S1_S_ = css 0 := css_congr (by decide) _
@[sl_canon] theorem cssL1 (hh) : (cc0_scratch15.slice (Rect.unit (s := S4) ![1] S1.size hh)).squeeze S_ squeezes_S1_S_ = css 1 := css_congr (by decide) _
@[sl_canon] theorem cssL2 (hh) : (cc0_scratch15.slice (Rect.unit (s := S4) ![2] S1.size hh)).squeeze S_ squeezes_S1_S_ = css 2 := css_congr (by decide) _
@[sl_canon] theorem cssL3 (hh) : (cc0_scratch15.slice (Rect.unit (s := S4) ![3] S1.size hh)).squeeze S_ squeezes_S1_S_ = css 3 := css_congr (by decide) _
@[sl_canon] theorem csoL0 (hh) : (cc0_scratch16.slice (Rect.unit (s := S2) ![0] S1.size hh)).squeeze S_ squeezes_S1_S_ = cso 0 := cso_congr (by decide) _
@[sl_canon] theorem csmL0 (hh) : (cc0_scratch17.slice (Rect.unit (s := S2) ![0] S1.size hh)).squeeze S_ squeezes_S1_S_ = csm 0 := csm_congr (by decide) _
@[sl_canon] theorem oslotL0 (hh hs) : (obM.slice (Rect.unit (s := S2x256x8x128) ![0, 0, 0, 0] S1x256x8x128.size hh) hs).squeeze S256x8x128 squeezes_S1x256x8x128_S256x8x128 = oslot 0 := oslot_congr (by decide) _ _
@[sl_canon] theorem csoL1 (hh) : (cc0_scratch16.slice (Rect.unit (s := S2) ![1] S1.size hh)).squeeze S_ squeezes_S1_S_ = cso 1 := cso_congr (by decide) _
@[sl_canon] theorem csmL1 (hh) : (cc0_scratch17.slice (Rect.unit (s := S2) ![1] S1.size hh)).squeeze S_ squeezes_S1_S_ = csm 1 := csm_congr (by decide) _
@[sl_canon] theorem oslotL1 (hh hs) : (obM.slice (Rect.unit (s := S2x256x8x128) ![1, 0, 0, 0] S1x256x8x128.size hh) hs).squeeze S256x8x128 squeezes_S1x256x8x128_S256x8x128 = oslot 1 := oslot_congr (by decide) _ _

/-! ### In a trip -/

/-- A trip of the first loop is a chunk, -/
abbrev ck (k : Fin k0_t1_loop.trips) : Fin 8 := ⟨k.val, k.isLt⟩
/-- a trip of the second an output block. -/
abbrev bk (k : Fin k0_t2_loop.trips) : Fin 8 := ⟨k.val, k.isLt⟩
/-- The weight's block an output block is computed from. -/
abbrev wb (k : ℕ) : Fin 9 := Ring.bk 9 k
/-- The slot of a weight's block, -/
abbrev ws (k : ℕ) : Fin 6 := Ring.sl 6 k
/-- the slot of an output block. -/
abbrev os (k : ℕ) : Fin 2 := Ring.sl 2 k

instance (k : Fin k0_t1_loop.trips) : ClosedOff (xOff (ck k)) := ⟨![32 * k.val, 0], rfl⟩

@[sl_canon] theorem xrowK (k : Fin k0_t1_loop.trips) (hh hs) :
    xM.slice (Rect.unit (s := S256x7168) (k0_off2 k) S32x7168.size hh) hs = xrow (ck k) := xrow_congr (k0_off2_eq k) _ _
@[sl_canon] theorem xslotK (k : Fin k0_t1_loop.trips) (hh hs) :
    xbM.slice (Rect.unit (s := S256x7168) (k0_off2 k) S32x7168.size hh) hs = xslot (ck k) := xslot_congr (k0_off2_eq k) _ _
@[sl_canon] theorem csxK (k : Fin k0_t1_loop.trips) (hh) :
    (cc0_scratch13.slice (Rect.unit (s := S8) (k0_off1 k) S1.size hh)).squeeze S_ squeezes_S1_S_ = csx (ck k) := csx_congr (k0_off1_eq k) _

instance (k : Fin k0_t2_loop.trips) : ClosedOff (wsOff (ws k.val)) := ⟨![k.val % 6, 0, 0], rfl⟩
instance (k : Fin k0_t2_loop.trips) : ClosedOff (osOff (os k.val)) := ⟨![k.val % 2, 0, 0, 0], rfl⟩

@[sl_canon] theorem wcolK (k : Fin k0_t2_loop.trips) (hh hs) :
    wM.slice (Rect.unit (s := S7168x9216) (k0_off62 k) S7168x1024.size hh) hs = wcol (wb k.val) :=
  wcol_congr ((by decide : ∀ k, k0_off62 k = wOff (wb k.val)) k) _ _
@[sl_canon] theorem wslotK (k : Fin k0_t2_loop.trips) (hh hs) :
    (wbM.slice (Rect.unit (s := S6x7168x1024) (k0_off61 k) S1x7168x1024.size hh) hs).squeeze S7168x1024 squeezes_S1x7168x1024_S7168x1024 = wslot (ws k.val) :=
  wslot_congr ((by decide : ∀ k, k0_off61 k = wsOff (ws k.val)) k) _ _
@[sl_canon] theorem cswK (k : Fin k0_t2_loop.trips) (hh) :
    (cc0_scratch14.slice (Rect.unit (s := S6) (k0_off60 k) S1.size hh)).squeeze S_ squeezes_S1_S_ = csw (ws k.val) :=
  csw_congr ((by decide : ∀ k, k0_off60 k = o1 (ws k.val).val) k) _
@[sl_canon] theorem csoW (k : Fin k0_t2_loop.trips) (hh) :
    (cc0_scratch16.slice (Rect.unit (s := S2) (k0_off63 k) S1.size hh)).squeeze S_ squeezes_S1_S_ = cso (os k.val) :=
  cso_congr ((by decide : ∀ k, k0_off63 k = o1 (os k.val).val) k) _
@[sl_canon] theorem oslotW (k : Fin k0_t2_loop.trips) (hh hs) :
    (obM.slice (Rect.unit (s := S2x256x8x128) (k0_off64 k) S1x256x8x128.size hh) hs).squeeze S256x8x128 squeezes_S1x256x8x128_S256x8x128 = oslot (os k.val) :=
  oslot_congr ((by decide : ∀ k, k0_off64 k = osOff (os k.val)) k) _ _
@[sl_canon] theorem cswI (k : Fin k0_t2_loop.trips) (hh) :
    (cc0_scratch14.slice (Rect.unit (s := S6) (k0_off73 k) S1.size hh)).squeeze S_ squeezes_S1_S_ = csw (ws k.val) :=
  csw_congr ((by decide : ∀ k, k0_off73 k = o1 (ws k.val).val) k) _
@[sl_canon] theorem wslotI (k : Fin k0_t2_loop.trips) (hh hs) :
    (wbM.slice (Rect.unit (s := S6x7168x1024) (k0_off74 k) S1x7168x1024.size hh) hs).squeeze S7168x1024 squeezes_S1x7168x1024_S7168x1024 = wslot (ws k.val) :=
  wslot_congr ((by decide : ∀ k, k0_off74 k = wsOff (ws k.val)) k) _ _
@[sl_canon] theorem wcolI (k : Fin k0_t2_loop.trips) (hk : k.val < 3) (hh hs) :
    wM.slice (Rect.unit (s := S7168x9216) (k0_off75 k) S7168x1024.size hh) hs = wcol (wb (k.val + 6)) :=
  wcol_congr ((by decide : ∀ k : Fin k0_t2_loop.trips, k.val < 3 → k0_off75 k = wOff (wb (k.val + 6))) k hk) _ _
@[sl_canon] theorem csoI (k : Fin k0_t2_loop.trips) (hh) :
    (cc0_scratch16.slice (Rect.unit (s := S2) (k0_off76 k) S1.size hh)).squeeze S_ squeezes_S1_S_ = cso (os k.val) :=
  cso_congr ((by decide : ∀ k, k0_off76 k = o1 (os k.val).val) k) _
@[sl_canon] theorem oslotI (k : Fin k0_t2_loop.trips) (hh hs) :
    (obM.slice (Rect.unit (s := S2x256x8x128) (k0_off78 k) S1x256x8x128.size hh) hs).squeeze S256x8x128 squeezes_S1x256x8x128_S256x8x128 = oslot (os k.val) :=
  oslot_congr ((by decide : ∀ k, k0_off78 k = osOff (os k.val)) k) _ _
@[sl_canon] theorem qgrpI (k : Fin k0_t2_loop.trips) (hk : k.val < 7) (hh hs) :
    qM.slice (Rect.unit (s := S256x56x128) (k0_off77 k) S256x8x128.size hh) hs = qgrp (Ring.bk 7 k.val) :=
  qgrp_congr ((by decide : ∀ k : Fin k0_t2_loop.trips, k.val < 7 → k0_off77 k = qOff (Ring.bk 7 k.val)) k hk) _ _
@[sl_canon] theorem csoJ (k : Fin k0_t2_loop.trips) (hh) :
    (cc0_scratch16.slice (Rect.unit (s := S2) (k0_off79 k) S1.size hh)).squeeze S_ squeezes_S1_S_ = cso (os k.val) :=
  cso_congr ((by decide : ∀ k, k0_off79 k = o1 (os k.val).val) k) _
@[sl_canon] theorem oslotJ (k : Fin k0_t2_loop.trips) (hh hs) :
    (obM.slice (Rect.unit (s := S2x256x8x128) (k0_off80 k) S1x256x8x128.size hh) hs).squeeze S256x8x128 squeezes_S1x256x8x128_S256x8x128 = oslot (os k.val) :=
  oslot_congr ((by decide : ∀ k, k0_off80 k = osOff (os k.val)) k) _ _

/-! ### The conditions of a trip -/

theorem cond1_iff : ∀ k : Fin k0_t2_loop.trips, k0_cond1 k = 1#1 ↔ 2 ≤ k.val := by decide
theorem cond2_iff : ∀ k : Fin k0_t2_loop.trips, k0_cond2 k = 1#1 ↔ k.val < 3 := by decide
theorem cond3_iff : ∀ k : Fin k0_t2_loop.trips, k0_cond3 k = 1#1 ↔ k.val < 7 := by decide
theorem cond4_iff : ∀ k : Fin k0_t2_loop.trips, k0_cond4 k = 1#1 ↔ k.val = 7 := by decide

end Cert.Proof.Kernel
-- ==== Proof.KernelRows.lean ====
/- The kernel's first loop: one trip normalises, scales and rounds 32 rows. -/
module

public import proofs.«01_k».proof.Proof.KernelParts

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

abbrev UU (nD : Nat) (τ : Topo) : Type := Pipeline.UD sig nD τ
local notation "𝕄" => MT nD τ sig Unit (Elt F) ℕ (UU nD τ) ℕ
abbrev 𝒱₀ : Variants := Variants.none

section Pieces
variable (c : Dev nD)

/-- A memref held whole by the core. -/
abbrev heldP {sp : Space} {s : Shape} {e : EltTy} (M : Memref sig .tc sp s e) (f : Buf (Elt F) (M.view.loc (c : Thread nD τ))) : sProp 𝕄 :=
  M.view.loc (c : Thread nD τ) ↦[M.view.set]{fullShare} f
/-- A semaphore at zero. -/
abbrev cellP (s : DmaSems sig S_) : sProp 𝕄 := semVal ((c : Thread nD τ), SemLoc.dma s.sem) 0

/-- What a transfer of `src` leaves in `dst` over contents `f`. -/
abbrev landed {sp sp' : Space} {s : Shape} {e : EltTy} (src : Memref sig .tc sp s e) (dst : Memref sig .tc sp' s e)
    (X : Buf (Elt F) (src.view.loc (c : Thread nD τ))) (f : Buf (Elt F) (dst.view.loc (c : Thread nD τ))) : Buf (Elt F) (dst.view.loc (c : Thread nD τ)) :=
  dst.view.writes (Elt F) f [⟨Rect.whole s, ReadAs.same.apply (src.view.read (Elt F) X)⟩]

/-- A transfer of `src` into `dst` in flight on `sm`, to deliver both. -/
abbrev flightP {sp sp' : Space} {s : Shape} {e : EltTy} (sm : DmaSems sig S_) (N : ℕ) (src : Memref sig .tc sp s e) (dst : Memref sig .tc sp' s e)
    (X : Buf (Elt F) (src.view.loc (c : Thread nD τ))) (f : Buf (Elt F) (dst.view.loc (c : Thread nD τ))) : sProp 𝕄 :=
  Transfers.Flight countersEmb (c : Thread nD τ) (SemLoc.dma sm.sem) () N iprop(heldP c dst (landed c src dst X f) ∗ heldP c src X)

abbrev xflight (X : Buf (Elt F) (xM.view.loc (c : Thread nD τ))) (r : Fin 8) : sProp 𝕄 :=
  iprop(∃ f, flightP c (csx r) 14336 (xrow r) (xslot r) X f)
abbrev xhome (X : Buf (Elt F) (xM.view.loc (c : Thread nD τ))) (r : Fin 8) : sProp 𝕄 :=
  iprop((∃ f, heldP c (xslot r) f) ∗ heldP c (xrow r) X ∗ cellP c (csx r))

end Pieces

abbrev nM : Memref sig .tc .vmem S32x7168 .f32 := Memref.whole cc0_scratch1
abbrev cM : Memref sig .tc .vmem S256x7168 .fp8e4m3 := Memref.whole cc0_scratch2
abbrev nwM : Memref sig .tc .vmem S1x7168 .f32 := Memref.whole cc0_scratch4
abbrev sM : Memref sig .tc .vmem S256x128 .f32 := Memref.whole cc0_scratch10

section Trip
variable (c : Dev nD) (X : Buf (Elt F) (xM.view.loc (c : Thread nD τ))) (fnw : Buf (Elt F) (nwM.view.loc (c : Thread nD τ)))

abbrev trip1 (k : Fin k0_t1_loop.trips) (v115 : FVec F S128x128 .f32) : Prog (TpuEff nD τ sig (Elt F) Λ₀ .tc) Unit :=
  k0_t1_body (F := F) (Memref.whole main_v0) (Memref.isWhole_whole _) (Memref.whole main_v1) (Memref.isWhole_whole _) (Memref.whole main_arg2) (Memref.isWhole_whole _) (Memref.whole main_v2) (Memref.isWhole_whole _) (Memref.whole main_arg4) (Memref.isWhole_whole _) (Memref.whole main_cst) (Memref.isWhole_whole _) (Memref.whole main_v3_0) (Memref.isWhole_whole _) (Memref.whole main_v3_1) (Memref.isWhole_whole _) (Memref.whole main_v3_2) (Memref.isWhole_whole _) (Memref.whole main_v3_3) (Memref.isWhole_whole _) (Memref.whole main_v3_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 v115 k ()

/-- What a trip of the first loop touches. -/
abbrev rows1 (k : Fin k0_t1_loop.trips) (P : sProp 𝕄) (fc : Buf (Elt F) (cM.view.loc (c : Thread nD τ))) (fs : Buf (Elt F) (sM.view.loc (c : Thread nD τ))) : sProp 𝕄 :=
  iprop(P ∗ (∃ f, heldP c nM f) ∗ heldP c cM fc ∗ heldP c nwM fnw ∗ heldP c sM fs ∗ ∃ W, owes (c : Thread nD τ) 0 W)

set_option backward.proofsInPublic true in
/-- One trip: its rows arrive, and their rounded values and scales are written. -/
def trip1Run (k : Fin k0_t1_loop.trips) (v115 : FVec F S128x128 .f32) :
    Σ' (L : List (View.Piece (Elt F) S256x7168 .fp8e4m3)), { L' : List (View.Piece (Elt F) S256x128 .f32) // ∀ fc fs,
      rows1 c fnw k (xflight c X (ck k)) fc fs ⊢ wp frame (wpE (defs₀ (F := F)) 𝒱₀ (c : Thread nD τ) none) Set.univ (trip1 k v115)
        (fun _ => rows1 c fnw k (xhome c X (ck k)) (cM.view.writes (Elt F) fc L) (sM.view.writes (Elt F) fs L')) } := by
  refine ⟨?_, ?_, fun fc fs => ?run⟩
  case run =>
    iintro ⟨⟨%f0, HF⟩, ⟨%fn, HN⟩, HC, HNW, HS, ⟨%W, HW⟩⟩
    dsimp only [trip1]
    sl_unfold [k0_t1_body]
    sl_exec
    sl_step
    isplitl [HF_dst HF_src HF]
    · isplitl [HF_dst]; · iexists _; iexact HF_dst
      isplitl [HF_src]; · iexact HF_src
      iexact HF
    isplitl [HN]; · iexists _; iexact HN
    isplitl [HC]; · iexact HC
    isplitl [HNW]; · iexact HNW
    isplitl [HS]; · iexact HS
    iexists _; iexact HW

end Trip

end Cert.Proof.Kernel
-- ==== Proof.KernelBlocks.lean ====
/- The kernel's second loop: one trip multiplies the codes by a block of the weight, scales and rotates the product,
   and sends it to its heads of `q` or to `k`. -/
module

public import proofs.«01_k».proof.Proof.KernelRows

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]
local notation "𝕄" => MT nD τ sig Unit (Elt F) ℕ (UU nD τ) ℕ

abbrev wsM : Memref sig .tc .vmem S1x9216 .f32 := Memref.whole cc0_scratch5
abbrev cosM : Memref sig .tc .vmem S256x128 .f32 := Memref.whole cc0_scratch8
abbrev sinM : Memref sig .tc .vmem S256x128 .f32 := Memref.whole cc0_scratch9

section Trip
variable (c : Dev nD) (W : Buf (Elt F) (wM.view.loc (c : Thread nD τ))) (fc : Buf (Elt F) (cM.view.loc (c : Thread nD τ)))
  (fs : Buf (Elt F) (sM.view.loc (c : Thread nD τ))) (fws : Buf (Elt F) (wsM.view.loc (c : Thread nD τ)))
  (fcos : Buf (Elt F) (cosM.view.loc (c : Thread nD τ))) (fsin : Buf (Elt F) (sinM.view.loc (c : Thread nD τ)))

/-- Block `b` of the weight on its way to its slot; -/
abbrev wflight (s : Fin 6) (b : Fin 9) : sProp 𝕄 := iprop(∃ f, flightP c (csw s) 229376 (wcol b) (wslot s) W f)
/-- the block at home; -/
abbrev whome (b : Fin 9) : sProp 𝕄 := heldP c (wcol b) W
/-- a slot of the weight's ring, at rest. -/
abbrev wfree (s : Fin 6) : sProp 𝕄 := iprop((∃ f, heldP c (wslot s) f) ∗ cellP c (csw s))
/-- An output block's place; -/
abbrev oinit (M : Memref sig .tc .hbm S256x8x128 .bf16) : sProp 𝕄 := iprop(∃ f, heldP c M f)
/-- the block, staged as `L` left it in slot `s`, on its way there; -/
abbrev oflight (s : Fin 2) (M : Memref sig .tc .hbm S256x8x128 .bf16) (L : List (View.Piece (Elt F) S2x256x8x128 .bf16)) : sProp 𝕄 :=
  iprop(∃ f f', flightP c (cso s) 16384 (oslot s) M (obM.view.writes (Elt F) f L) f')
/-- and arrived. -/
abbrev odone (s : Fin 2) (M : Memref sig .tc .hbm S256x8x128 .bf16) (L : List (View.Piece (Elt F) S2x256x8x128 .bf16)) : sProp 𝕄 :=
  iprop(∃ f f', heldP c M (landed c (oslot s) M (obM.view.writes (Elt F) f L) f'))
/-- An output slot at rest. -/
abbrev ofree (s : Fin 2) : sProp 𝕄 := iprop((∃ f, heldP c (oslot s) f) ∗ cellP c (cso s))

abbrev trip2 (k : Fin k0_t2_loop.trips) (v115 : FVec F S128x128 .f32) : Prog (TpuEff nD τ sig (Elt F) Λ₀ .tc) Unit :=
  k0_t2_body (F := F) (Memref.whole main_v0) (Memref.isWhole_whole _) (Memref.whole main_v1) (Memref.isWhole_whole _) (Memref.whole main_arg2) (Memref.isWhole_whole _) (Memref.whole main_v2) (Memref.isWhole_whole _) (Memref.whole main_arg4) (Memref.isWhole_whole _) (Memref.whole main_cst) (Memref.isWhole_whole _) (Memref.whole main_v3_0) (Memref.isWhole_whole _) (Memref.whole main_v3_1) (Memref.isWhole_whole _) (Memref.whole main_v3_2) (Memref.isWhole_whole _) (Memref.whole main_v3_3) (Memref.isWhole_whole _) (Memref.whole main_v3_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 v115 k ()

/-- A memref of which the core holds a half, the other half lent to a transfer. -/
abbrev halfP {sp : Space} {s : Shape} {e : EltTy} (M : Memref sig .tc sp s e) (f : Buf (Elt F) (M.view.loc (c : Thread nD τ))) : sProp 𝕄 :=
  M.view.loc (c : Thread nD τ) ↦[M.view.set]{fullShare.left} f
/-- What a trip of the second loop reads; the codes are on their way out meanwhile, so only a half of them is held. -/
abbrev reads2 : sProp 𝕄 :=
  iprop(halfP c cM fc ∗ heldP c sM fs ∗ heldP c wsM fws ∗ heldP c cosM fcos ∗ heldP c sinM fsin ∗ ∃ W, owes (c : Thread nD τ) 0 W)

/-- A landed weight over whatever the slot held before. -/
theorem wflight_after (s : Fin 6) (b : Fin 9) (f : Buf (Elt F) ((wslot s).view.loc (c : Thread nD τ)))
    (p : S7168x1024.Idx → Elt F .fp8e4m3) :
    flightP c (csw s) 229376 (wcol b) (wslot s) W ((wslot s).view.writes (Elt F) f [⟨Rect.whole S7168x1024, p⟩])
      = Transfers.Flight (countersEmb) (c : Thread nD τ) (SemLoc.dma (SemArray.sem (csw s))) default 229376
        iprop((View.loc (c : Thread nD τ) (wslot s).view ↦[(wslot s).view.set]{fullShare}
          (wslot s).view.writes (Elt F) f [⟨Rect.whole S7168x1024, ReadAs.same.apply ((wcol b).view.read (Elt F) W)⟩, ⟨Rect.whole S7168x1024, p⟩])
          ∗ View.loc (c : Thread nD τ) (wcol b).view ↦[(wcol b).view.set]{fullShare} W) := by
  simp only [flightP, landed, View.writes]

/-- A block just sent off, stated by its four stores. -/
theorem oflight_of (s : Fin 2) (M : Memref sig .tc .hbm S256x8x128 .bf16)
    (f : Buf (Elt F) (obM.view.loc (c : Thread nD τ))) (f' : Buf (Elt F) (M.view.loc (c : Thread nD τ)))
    (r1 r2 r3 r4 : Rect S2x256x8x128) (p1 : r1.shape.Idx → Elt F .bf16) (p2 : r2.shape.Idx → Elt F .bf16)
    (p3 : r3.shape.Idx → Elt F .bf16) (p4 : r4.shape.Idx → Elt F .bf16) :
    (Transfers.Flight (countersEmb) (c : Thread nD τ) (SemLoc.dma (SemArray.sem (cso s))) default 16384
      iprop((View.loc (c : Thread nD τ) M.view ↦[M.view.set]{fullShare} M.view.writes (Elt F) f' [⟨Rect.whole S256x8x128,
          ReadAs.same.apply (View.read (Elt F) (oslot s).view
            (View.write (Elt F) ((Memref.whole cc0_scratch12).access r4)
              (View.write (Elt F) ((Memref.whole cc0_scratch12).access r3)
                (View.write (Elt F) ((Memref.whole cc0_scratch12).access r2)
                  (View.write (Elt F) ((Memref.whole cc0_scratch12).access r1) f p1 Finset.univ)
                  p2 Finset.univ) p3 Finset.univ) p4 Finset.univ))⟩])
        ∗ View.loc (c : Thread nD τ) (oslot s).view ↦[(oslot s).view.set]{fullShare}
            View.write (Elt F) ((Memref.whole cc0_scratch12).access r4)
              (View.write (Elt F) ((Memref.whole cc0_scratch12).access r3)
                (View.write (Elt F) ((Memref.whole cc0_scratch12).access r2)
                  (View.write (Elt F) ((Memref.whole cc0_scratch12).access r1) f p1 Finset.univ)
                  p2 Finset.univ) p3 Finset.univ) p4 Finset.univ) : sProp 𝕄)
      ⊢ oflight c s M [⟨r4, p4⟩, ⟨r3, p3⟩, ⟨r2, p2⟩, ⟨r1, p1⟩] := by
  iintro H; iexists f, f'; iexact H

set_option backward.proofsInPublic true in
/-- One trip: the block's weight arrives, the block is computed into its slot and sent off; the weight six blocks on
    is fetched into the slot just read. -/
def trip2Run (k : Fin k0_t2_loop.trips) (v115 : FVec F S128x128 .f32) :
    { L : List (View.Piece (Elt F) S2x256x8x128 .bf16) // ∀ Lp,
      iprop(reads2 c fc fs fws fcos fsin ∗ wflight c W (ws k.val) (wb k.val)
          ∗ (if 2 ≤ k.val then oflight c (os k.val) (odst (k.val - 2)) Lp else ofree c (os k.val))
          ∗ (if k.val < 3 then whome c W (wb (k.val + 6)) else emp)
          ∗ oinit c (odst k.val))
        ⊢ wp frame (wpE (defs₀ (F := F)) 𝒱₀ (c : Thread nD τ) none) Set.univ (trip2 k v115)
        (fun _ => iprop(reads2 c fc fs fws fcos fsin ∗ whome c W (wb k.val)
          ∗ (if k.val < 3 then wflight c W (ws k.val) (wb (k.val + 6)) else wfree c (ws k.val))
          ∗ (if 2 ≤ k.val then odone c (os k.val) (odst (k.val - 2)) Lp else emp)
          ∗ oflight c (os k.val) (odst k.val) L)) } := by
  refine ⟨?_, fun Lp => ?run⟩
  case run =>
    have hk : k.val < 8 := k.isLt
    rcases (by omega : (k.val < 2 ∨ k.val = 2) ∨ (3 ≤ k.val ∧ k.val < 7) ∨ k.val = 7) with (h | h) | h | h
    · -- the first two trips
      have hc1 : ¬ k0_cond1 k = 1#1 := fun h => by have := (cond1_iff k).1 h; omega
      have hc2 := (cond2_iff k).2 (by omega)
      have hc3 := (cond3_iff k).2 (by omega)
      have hc4 : ¬ k0_cond4 k = 1#1 := fun h => by have := (cond4_iff k).1 h; omega
      simp only [if_neg (show ¬ 2 ≤ k.val by omega), if_pos (show k.val < 3 by omega), odst_q (show k.val < 7 by omega)]
      iintro ⟨⟨HC, HS, HWS, HCOS, HSIN, ⟨%W', HW⟩⟩, ⟨%f0, HF⟩, ⟨⟨%f1, HO_src⟩, HO⟩, HH, ⟨%f3, HQ⟩⟩
      dsimp only [trip2]
      sl_unfold [k0_t2_body]
      sl_exec
      sl_step
      isplitl [HC HS HWS HCOS HSIN HW]
      · isplitl [HC]; · iexact HC
        isplitl [HS]; · iexact HS
        isplitl [HWS]; · iexact HWS
        isplitl [HCOS]; · iexact HCOS
        isplitl [HSIN]; · iexact HSIN
        iexists _; iexact HW
      isplitl [HF_src]; · iexact HF_src
      isplitl [HF]
      · iexists ((wslot (ws k.val)).view.writes (Elt F) (wslot (ws k.val)).view.junk [⟨Rect.whole S7168x1024, ReadAs.same.apply ((wcol (wb k.val)).view.read (Elt F) W)⟩])
        irw [wflight_after]; iexact HF
      isplitl []; · iempintro
      unfold trip2Run.sl.dma38_1 trip2Run.sl.HO_src_w4 trip2Run.sl.HO_src_w3 trip2Run.sl.HO_src_w2 trip2Run.sl.HO_src_w1
      iapply (oflight_of c _ _ _ f3); iexact HO
    · -- the third trip
      have hc1 := (cond1_iff k).2 (by omega)
      have hc2 := (cond2_iff k).2 (by omega)
      have hc3 := (cond3_iff k).2 (by omega)
      have hc4 : ¬ k0_cond4 k = 1#1 := fun h => by have := (cond4_iff k).1 h; omega
      simp only [if_pos (show 2 ≤ k.val by omega), if_pos (show k.val < 3 by omega), odst_q (show k.val < 7 by omega)]
      iintro ⟨⟨HC, HS, HWS, HCOS, HSIN, ⟨%W', HW⟩⟩, ⟨%f0, HF⟩, ⟨%f1, %f2, HO⟩, HH, ⟨%f3, HQ⟩⟩
      dsimp only [trip2]
      sl_unfold [k0_t2_body]
      sl_exec
      sl_step
      isplitl [HC HS HWS HCOS HSIN HW]
      · isplitl [HC]; · iexact HC
        isplitl [HS]; · iexact HS
        isplitl [HWS]; · iexact HWS
        isplitl [HCOS]; · iexact HCOS
        isplitl [HSIN]; · iexact HSIN
        iexists _; iexact HW
      isplitl [HF_src]; · iexact HF_src
      isplitl [HF]
      · iexists ((wslot (ws k.val)).view.writes (Elt F) (wslot (ws k.val)).view.junk [⟨Rect.whole S7168x1024, ReadAs.same.apply ((wcol (wb k.val)).view.read (Elt F) W)⟩])
        irw [wflight_after]; iexact HF
      isplitl [HO_dst]; · iexists _, _; iexact HO_dst
      unfold trip2Run.sl.dma38_3 trip2Run.sl.HO_src_w4_1 trip2Run.sl.HO_src_w3_1 trip2Run.sl.HO_src_w2_1 trip2Run.sl.HO_src_w1_1
      iapply (oflight_of c _ _ _ f3); iexact HO
    · -- trips four to seven
      have hc1 := (cond1_iff k).2 (by omega)
      have hc2 : ¬ k0_cond2 k = 1#1 := fun h => by have := (cond2_iff k).1 h; omega
      have hc3 := (cond3_iff k).2 (by omega)
      have hc4 : ¬ k0_cond4 k = 1#1 := fun h => by have := (cond4_iff k).1 h; omega
      simp only [if_pos (show 2 ≤ k.val by omega), if_neg (show ¬ k.val < 3 by omega), odst_q (show k.val < 7 by omega)]
      iintro ⟨⟨HC, HS, HWS, HCOS, HSIN, ⟨%W', HW⟩⟩, ⟨%f0, HF⟩, ⟨%f1, %f2, HO⟩, -, ⟨%f3, HQ⟩⟩
      dsimp only [trip2]
      sl_unfold [k0_t2_body]
      sl_exec
      sl_step
      isplitl [HC HS HWS HCOS HSIN HW]
      · isplitl [HC]; · iexact HC
        isplitl [HS]; · iexact HS
        isplitl [HWS]; · iexact HWS
        isplitl [HCOS]; · iexact HCOS
        isplitl [HSIN]; · iexact HSIN
        iexists _; iexact HW
      isplitl [HF_src]; · iexact HF_src
      isplitl [HF_dst HF]
      · isplitl [HF_dst]; · iexists _; iexact HF_dst
        iexact HF
      isplitl [HO_dst]; · iexists _, _; iexact HO_dst
      unfold trip2Run.sl.dma38_4 trip2Run.sl.HO_src_w4_2 trip2Run.sl.HO_src_w3_2 trip2Run.sl.HO_src_w2_2 trip2Run.sl.HO_src_w1_2
      iapply (oflight_of c _ _ _ f3); iexact HO
    · -- the last trip
      have hc1 := (cond1_iff k).2 (by omega)
      have hc2 : ¬ k0_cond2 k = 1#1 := fun h => by have := (cond2_iff k).1 h; omega
      have hc3 : ¬ k0_cond3 k = 1#1 := fun h => by have := (cond3_iff k).1 h; omega
      have hc4 := (cond4_iff k).2 (by omega)
      simp only [if_pos (show 2 ≤ k.val by omega), if_neg (show ¬ k.val < 3 by omega), odst_k (show ¬ k.val < 7 by omega)]
      iintro ⟨⟨HC, HS, HWS, HCOS, HSIN, ⟨%W', HW⟩⟩, ⟨%f0, HF⟩, ⟨%f1, %f2, HO⟩, -, ⟨%f3, HQ⟩⟩
      dsimp only [trip2]
      sl_unfold [k0_t2_body]
      sl_exec
      sl_step
      isplitl [HC HS HWS HCOS HSIN HW]
      · isplitl [HC]; · iexact HC
        isplitl [HS]; · iexact HS
        isplitl [HWS]; · iexact HWS
        isplitl [HCOS]; · iexact HCOS
        isplitl [HSIN]; · iexact HSIN
        iexists _; iexact HW
      isplitl [HF_src]; · iexact HF_src
      isplitl [HF_dst HF]
      · isplitl [HF_dst]; · iexists _; iexact HF_dst
        iexact HF
      isplitl [HO_dst]; · iexists _, _; iexact HO_dst
      unfold trip2Run.sl.dma38_5 trip2Run.sl.HO_src_w4_3 trip2Run.sl.HO_src_w3_3 trip2Run.sl.HO_src_w2_3 trip2Run.sl.HO_src_w1_3
      iapply (oflight_of c _ _ _ f3); iexact HO

end Trip

end Cert.Proof.Kernel
-- ==== Proof.KernelLoops.lean ====
/- The invariants of the kernel's two loops. -/
module

public import proofs.«01_k».proof.Proof.KernelBlocks

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]
local notation "𝕄" => MT nD τ sig Unit (Elt F) ℕ (UU nD τ) ℕ

/-! ## One block taken from, or put to, a range of blocks -/

section Ranges
variable {M : Type} [RA.URA M] {NB : ℕ} [NeZero NB] (Φ : Fin NB → sProp M)

theorem emp_sep_eq (P : sProp M) : iprop(emp ∗ P) = P := BI.equiv_iff.mp BI.emp_sep
theorem sep_emp_eq (P : sProp M) : iprop(P ∗ emp) = P := BI.equiv_iff.mp BI.sep_emp

theorem entails_of_eq {P Q : sProp M} (e : P = Q) : P ⊢ Q := e ▸ .rfl
/-- The first block of a range, if it has one, and the rest. -/
theorem range_head (lo hi lo' : ℕ) (p : Prop) [Decidable p] (hp : p → lo < hi ∧ lo < NB ∧ lo' = lo + 1)
    (hn : ¬ p → Ring.rangeSet NB lo hi = Ring.rangeSet NB lo' hi) :
    bigSep (Ring.rangeSet NB lo hi) Φ = iprop((if p then Φ (Ring.bk NB lo) else emp) ∗ bigSep (Ring.rangeSet NB lo' hi) Φ) := by
  by_cases h : p
  · obtain ⟨h1, h2, rfl⟩ := hp h
    have e : Ring.bk NB lo = ⟨lo, h2⟩ := Fin.ext (Ring.bk_val h2)
    rw [if_pos h, e]; exact Ring.bigSep_rangeSet_head h1 h2
  · rw [if_neg h, emp_sep_eq, hn h]
/-- The last block of a range, if it has one, and the rest. -/
theorem range_last (lo hi hi' n : ℕ) (p : Prop) [Decidable p] (hp : p → lo ≤ n ∧ n < NB ∧ hi = n + 1 ∧ hi' = n)
    (hn : ¬ p → Ring.rangeSet NB lo hi = Ring.rangeSet NB lo hi') :
    bigSep (Ring.rangeSet NB lo hi) Φ = iprop((if p then Φ (Ring.bk NB n) else emp) ∗ bigSep (Ring.rangeSet NB lo hi') Φ) := by
  by_cases h : p
  · obtain ⟨h1, h2, rfl, rfl⟩ := hp h
    have e : Ring.bk NB hi' = ⟨hi', h2⟩ := Fin.ext (Ring.bk_val h2)
    rw [if_pos h, e]; exact Ring.bigSep_rangeSet_last (Nat.lt_succ_of_le h1) h2
  · rw [if_neg h, emp_sep_eq, hn h]
theorem ite_join (p : Prop) [Decidable p] (A B : sProp M) :
    iprop((if p then A else emp) ∗ (if p then emp else B)) = if p then A else B := by
  split
  · exact sep_emp_eq _
  · exact emp_sep_eq _
theorem ite_congr_pos (p : Prop) [Decidable p] {A A' : sProp M} (B : sProp M) (h : p → A = A') : (if p then A else B) = if p then A' else B := by
  split
  · next hp => exact h hp
  · rfl
end Ranges

/-! ## The first loop -/

section Loops
variable (c : Dev nD)

section Rows
variable (X : Buf (Elt F) (xM.view.loc (c : Thread nD τ))) (fnw : Buf (Elt F) (nwM.view.loc (c : Thread nD τ))) (v115 : FVec F S128x128 .f32)

/-- The codes before trip `k`: each trip's stores put on what the loop found. -/
def cAcc (f : Buf (Elt F) (cM.view.loc (c : Thread nD τ))) : ℕ → Buf (Elt F) (cM.view.loc (c : Thread nD τ))
  | 0 => f
  | k + 1 => if h : k < k0_t1_loop.trips then cM.view.writes (Elt F) (cAcc f k) (trip1Run c X fnw ⟨k, h⟩ v115).1 else cAcc f k
/-- The scales before trip `k`. -/
def sAcc (f : Buf (Elt F) (sM.view.loc (c : Thread nD τ))) : ℕ → Buf (Elt F) (sM.view.loc (c : Thread nD τ))
  | 0 => f
  | k + 1 => if h : k < k0_t1_loop.trips then sM.view.writes (Elt F) (sAcc f k) (trip1Run c X fnw ⟨k, h⟩ v115).2.1 else sAcc f k

/-- Before trip `k` the rows from `k` on are on their way, the ones before are here. -/
abbrev inv1 (fc : Buf (Elt F) (cM.view.loc (c : Thread nD τ))) (fs : Buf (Elt F) (sM.view.loc (c : Thread nD τ))) (k : ℕ) : sProp 𝕄 :=
  iprop(bigSep (Ring.rangeSet 8 k 8) (xflight c X) ∗ bigSep (Ring.rangeSet 8 0 k) (xhome c X) ∗ (∃ f, heldP c nM f)
    ∗ heldP c cM (cAcc c X fnw v115 fc k) ∗ heldP c nwM fnw ∗ heldP c sM (sAcc c X fnw v115 fs k) ∗ ∃ W, owes (c : Thread nD τ) 0 W)

theorem cAcc_succ (f : Buf (Elt F) (cM.view.loc (c : Thread nD τ))) (k : Fin k0_t1_loop.trips) :
    cAcc c X fnw v115 f (k.val + 1) = cM.view.writes (Elt F) (cAcc c X fnw v115 f k.val) (trip1Run c X fnw k v115).1 :=
  dif_pos k.isLt
theorem sAcc_succ (f : Buf (Elt F) (sM.view.loc (c : Thread nD τ))) (k : Fin k0_t1_loop.trips) :
    sAcc c X fnw v115 f (k.val + 1) = sM.view.writes (Elt F) (sAcc c X fnw v115 f k.val) (trip1Run c X fnw k v115).2.1 :=
  dif_pos k.isLt

theorem step1 (fc : Buf (Elt F) (cM.view.loc (c : Thread nD τ))) (fs : Buf (Elt F) (sM.view.loc (c : Thread nD τ))) (k : Fin k0_t1_loop.trips) :
    inv1 c X fnw v115 fc fs k.val ⊢ wp frame (wpE (defs₀ (F := F)) 𝒱₀ (c : Thread nD τ) none) Set.univ (trip1 k v115)
      (fun _ => inv1 c X fnw v115 fc fs (k.val + 1)) := by
  have hk : k.val < 8 := k.isLt
  unfold inv1
  rw [cAcc_succ, sAcc_succ, range_head (xflight c X) k.val 8 (k.val + 1) True (fun _ => ⟨by omega, by omega, by omega⟩) (fun h => (h trivial).elim),
    range_last (xhome c X) 0 (k.val + 1) k.val k.val True (fun _ => ⟨by omega, by omega, by omega, by omega⟩) (fun h => (h trivial).elim), if_pos trivial, if_pos trivial,
    show Ring.bk 8 k.val = ck k from Fin.ext (Ring.bk_val hk)]
  iintro ⟨⟨HF, HFs⟩, Hh, HN, HC, HNW, HS, HW⟩
  iapply (wp_wand_r Idealize.ShloMosaic.frame (wpE (defs₀ (F := F)) 𝒱₀ (c : Thread nD τ) none) Set.univ)
  isplitl [HF HN HC HNW HS HW]
  · iapply (trip1Run c X fnw k v115).2.2
    isplitl [HF]; · iexact HF
    isplitl [HN]; · iexact HN
    isplitl [HC]; · iexact HC
    isplitl [HNW]; · iexact HNW
    isplitl [HS]; · iexact HS
    iexact HW
  · iintro %_ ⟨HF, HN, HC, HNW, HS, HW⟩
    isplitl [HFs]; · iexact HFs
    isplitl [HF Hh]
    · isplitl [HF]; · iexact HF
      iexact Hh
    isplitl [HN]; · iexact HN
    isplitl [HC]; · iexact HC
    isplitl [HNW]; · iexact HNW
    isplitl [HS]; · iexact HS
    iexact HW
set_option maxRecDepth 100000 in
set_option warn.classDefReducibility false in
@[sl_loop] def loopInv_k0_t1 (fc : Buf (Elt F) (cM.view.loc (c : Thread nD τ))) (fs : Buf (Elt F) (sM.view.loc (c : Thread nD τ))) :
    LoopInvTy_k0_t1 (F := F) Unit ℕ (UU nD τ) ℕ 𝒱₀ c none Set.univ (Memref.whole main_v0) (Memref.isWhole_whole _) (Memref.whole main_v1) (Memref.isWhole_whole _) (Memref.whole main_arg2) (Memref.isWhole_whole _) (Memref.whole main_v2) (Memref.isWhole_whole _) (Memref.whole main_arg4) (Memref.isWhole_whole _) (Memref.whole main_cst) (Memref.isWhole_whole _) (Memref.whole main_v3_0) (Memref.isWhole_whole _) (Memref.whole main_v3_1) (Memref.isWhole_whole _) (Memref.whole main_v3_2) (Memref.isWhole_whole _) (Memref.whole main_v3_3) (Memref.isWhole_whole _) (Memref.whole main_v3_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 v115 where
  inv k _ := inv1 c X fnw v115 fc fs k
  step k _ := step1 c X fnw v115 fc fs k
end Rows

/-! ## The second loop -/

section Blocks
variable (W : Buf (Elt F) (wM.view.loc (c : Thread nD τ))) (fc : Buf (Elt F) (cM.view.loc (c : Thread nD τ)))
  (fs : Buf (Elt F) (sM.view.loc (c : Thread nD τ))) (fws : Buf (Elt F) (wsM.view.loc (c : Thread nD τ)))
  (fcos : Buf (Elt F) (cosM.view.loc (c : Thread nD τ))) (fsin : Buf (Elt F) (sinM.view.loc (c : Thread nD τ))) (v115 : FVec F S128x128 .f32)

/-- What trip `b` stores. -/
def blockL (b : ℕ) : List (View.Piece (Elt F) S2x256x8x128 .bf16) :=
  if h : b < k0_t2_loop.trips then (trip2Run c W fc fs fws fcos fsin ⟨b, h⟩ v115).1 else []

/-- Before trip `k` the weight's blocks `k` to `k + 5` and the outputs of the two blocks before are on their way. -/
abbrev inv2 (k : ℕ) : sProp 𝕄 :=
  iprop(reads2 c fc fs fws fcos fsin
    ∗ bigSep (Ring.rangeSet 9 k (k + 6)) (fun b => wflight c W (ws b.val) b)
    ∗ bigSep (Ring.rangeSet 9 0 k) (whome c W) ∗ bigSep (Ring.rangeSet 9 (k + 6) 9) (whome c W)
    ∗ bigSep (Ring.rangeSet 9 3 k) (fun b => wfree (F := F) c (ws b.val))
    ∗ bigSep (Ring.rangeSet 8 (k - 2) k) (fun b => oflight c (os b.val) (odst b.val) (blockL c W fc fs fws fcos fsin v115 b.val))
    ∗ bigSep (Ring.rangeSet 2 k 2) (ofree (F := F) c)
    ∗ bigSep (Ring.rangeSet 8 k 8) (fun b => oinit (F := F) c (odst b.val))
    ∗ bigSep (Ring.rangeSet 8 0 (k - 2)) (fun b => odone c (os b.val) (odst b.val) (blockL c W fc fs fws fcos fsin v115 b.val)))

theorem rangeSet_ext (NB a b a' b' : ℕ) (h : ∀ x < NB, (a ≤ x ∧ x < b) ↔ (a' ≤ x ∧ x < b')) : Ring.rangeSet NB a b = Ring.rangeSet NB a' b' := by
  ext x; rw [Ring.mem_rangeSet, Ring.mem_rangeSet]; exact h x.val x.isLt

theorem blockL_eq (k : Fin k0_t2_loop.trips) : blockL c W fc fs fws fcos fsin v115 k.val = (trip2Run c W fc fs fws fcos fsin k v115).1 := dif_pos k.isLt

theorem step2 (k : Fin k0_t2_loop.trips) :
    inv2 c W fc fs fws fcos fsin v115 k.val ⊢ wp frame (wpE (defs₀ (F := F)) 𝒱₀ (c : Thread nD τ) none) Set.univ (trip2 k v115)
      (fun _ => inv2 c W fc fs fws fcos fsin v115 (k.val + 1)) := by
  have hk : k.val < 8 := k.isLt
  have eL := blockL_eq c W fc fs fws fcos fsin v115 k
  have b9 : (Ring.bk 9 k.val).val = k.val := Ring.bk_val (by omega)
  have b8 : (Ring.bk 8 k.val).val = k.val := Ring.bk_val hk
  have b8' : 2 ≤ k.val → (Ring.bk 8 (k.val - 2)).val = k.val - 2 := fun _ => Ring.bk_val (by omega)
  have b9' : k.val < 3 → (Ring.bk 9 (k.val + 6)).val = k.val + 6 := fun _ => Ring.bk_val (by omega)
  have s6 : ws (k.val + 6) = ws k.val := Ring.sl_add 6 k.val
  have s2 : 2 ≤ k.val → os (k.val - 2) = os k.val := fun h => by
    have := Ring.sl_add 2 (k.val - 2); rw [show k.val - 2 + 2 = k.val by omega] at this; exact this.symm
  unfold inv2
  rw [range_head (fun b => wflight c W (ws b.val) b) k.val (k.val + 6) (k.val + 1) True (fun _ => ⟨by omega, by omega, by omega⟩) (fun h => (h trivial).elim),
    range_last (fun b => wflight c W (ws b.val) b) (k.val + 1) (k.val + 1 + 6) (k.val + 6) (k.val + 6) (k.val < 3) (by omega) (fun h => rangeSet_ext _ _ _ _ _ (by omega)),
    range_last (whome c W) 0 (k.val + 1) k.val k.val True (fun _ => ⟨by omega, by omega, by omega, by omega⟩) (fun h => (h trivial).elim),
    range_head (whome c W) (k.val + 6) 9 (k.val + 1 + 6) (k.val < 3) (by omega) (fun h => rangeSet_ext _ _ _ _ _ (by omega)),
    range_last (fun b => wfree (F := F) c (ws b.val)) 3 (k.val + 1) k.val k.val (¬ k.val < 3) (by omega) (fun h => rangeSet_ext _ _ _ _ _ (by omega)),
    range_head (fun b => oflight c (os b.val) (odst b.val) (blockL c W fc fs fws fcos fsin v115 b.val)) (k.val - 2) k.val (k.val + 1 - 2) (2 ≤ k.val) (by omega) (fun h => rangeSet_ext _ _ _ _ _ (by omega)),
    range_last (fun b => oflight c (os b.val) (odst b.val) (blockL c W fc fs fws fcos fsin v115 b.val)) (k.val + 1 - 2) (k.val + 1) k.val k.val True (fun _ => ⟨by omega, by omega, by omega, by omega⟩) (fun h => (h trivial).elim),
    range_head (ofree (F := F) c) k.val 2 (k.val + 1) (¬ 2 ≤ k.val) (by omega) (fun h => rangeSet_ext _ _ _ _ _ (by omega)),
    range_head (fun b => oinit (F := F) c (odst b.val)) k.val 8 (k.val + 1) True (fun _ => ⟨by omega, by omega, by omega⟩) (fun h => (h trivial).elim),
    range_last (fun b => odone c (os b.val) (odst b.val) (blockL c W fc fs fws fcos fsin v115 b.val)) 0 (k.val + 1 - 2) (k.val - 2) (k.val - 2) (2 ≤ k.val) (by omega) (fun h => rangeSet_ext _ _ _ _ _ (by omega))]
  simp only [if_true, b9, b8, eL]
  rw [ite_congr_pos (2 ≤ k.val) emp (fun h => by rw [b8' h, s2 h] : 2 ≤ k.val →
      oflight c (os (Ring.bk 8 (k.val - 2)).val) (odst (Ring.bk 8 (k.val - 2)).val) (blockL c W fc fs fws fcos fsin v115 (Ring.bk 8 (k.val - 2)).val)
        = oflight c (os k.val) (odst (k.val - 2)) (blockL c W fc fs fws fcos fsin v115 (k.val - 2))),
    ite_congr_pos (2 ≤ k.val) emp (fun h => by rw [b8' h, s2 h] : 2 ≤ k.val →
      odone c (os (Ring.bk 8 (k.val - 2)).val) (odst (Ring.bk 8 (k.val - 2)).val) (blockL c W fc fs fws fcos fsin v115 (Ring.bk 8 (k.val - 2)).val)
        = odone c (os k.val) (odst (k.val - 2)) (blockL c W fc fs fws fcos fsin v115 (k.val - 2))),
    ite_congr_pos (k.val < 3) emp (fun h => by rw [b9' h, s6] : k.val < 3 →
      wflight c W (ws (Ring.bk 9 (k.val + 6)).val) (Ring.bk 9 (k.val + 6)) = wflight c W (ws k.val) (wb (k.val + 6))),
    ite_not, ite_not]
  iintro ⟨HR, ⟨HF, HFs⟩, Hh, ⟨HN, HNs⟩, Hfr, ⟨HO, HOs⟩, ⟨HE, HEs⟩, ⟨HI, HIs⟩, HD⟩
  iapply (wp_wand_r Idealize.ShloMosaic.frame (wpE (defs₀ (F := F)) 𝒱₀ (c : Thread nD τ) none) Set.univ)
  isplitl [HR HF HN HO HE HI]
  · iapply ((trip2Run c W fc fs fws fcos fsin k v115).2 (blockL c W fc fs fws fcos fsin v115 (k.val - 2)))
    isplitl [HR]; · iexact HR
    isplitl [HF]; · iexact HF
    isplitl [HO HE]
    · iapply (entails_of_eq (ite_join _ _ _))
      isplitl [HO]; · iexact HO
      iexact HE
    isplitl [HN]; · iexact HN
    iexact HI
  · iintro %_ ⟨HR, Hk, HN, HO, HI⟩
    ihave HN := (entails_of_eq (ite_join _ _ _).symm) $$ HN
    icases HN with ⟨HN, HE⟩
    isplitl [HR]; · iexact HR
    isplitl [HN HFs]
    · isplitl [HN]; · iexact HN
      iexact HFs
    isplitl [Hk Hh]
    · isplitl [Hk]; · iexact Hk
      iexact Hh
    isplitl [HNs]; · iexact HNs
    isplitl [HE Hfr]
    · isplitl [HE]; · iexact HE
      iexact Hfr
    isplitl [HI HOs]
    · isplitl [HI]; · iexact HI
      iexact HOs
    isplitl [HEs]; · iexact HEs
    isplitl [HIs]; · iexact HIs
    isplitl [HO]; · iexact HO
    iexact HD
set_option maxRecDepth 100000 in
set_option warn.classDefReducibility false in
@[sl_loop] def loopInv_k0_t2 :
    LoopInvTy_k0_t2 (F := F) Unit ℕ (UU nD τ) ℕ 𝒱₀ c none Set.univ (Memref.whole main_v0) (Memref.isWhole_whole _) (Memref.whole main_v1) (Memref.isWhole_whole _) (Memref.whole main_arg2) (Memref.isWhole_whole _) (Memref.whole main_v2) (Memref.isWhole_whole _) (Memref.whole main_arg4) (Memref.isWhole_whole _) (Memref.whole main_cst) (Memref.isWhole_whole _) (Memref.whole main_v3_0) (Memref.isWhole_whole _) (Memref.whole main_v3_1) (Memref.isWhole_whole _) (Memref.whole main_v3_2) (Memref.isWhole_whole _) (Memref.whole main_v3_3) (Memref.isWhole_whole _) (Memref.whole main_v3_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 v115 where
  inv k _ := inv2 c W fc fs fws fcos fsin v115 k
  step k _ := step2 c W fc fs fws fcos fsin v115 k
end Blocks

end Loops

end Cert.Proof.Kernel
-- ==== Proof.KernelBody.lean ====
/- The kernel's body, run once from its resources to its results. -/
module

public import proofs.«01_k».proof.Proof.KernelLoops

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]
local notation "𝕄" => MT nD τ sig Unit (Elt F) ℕ (UU nD τ) ℕ

/-- The memrefs not named so far: the operands' and results' homes, and the buffers the small operands arrive in. -/
abbrev nwH : Memref sig .tc .hbm S1x7168 .f32 := Memref.whole main_v1
abbrev wsH : Memref sig .tc .hbm S1x9216 .f32 := Memref.whole main_v2
abbrev posH : Memref sig .tc .hbm S1x256 .i32 := Memref.whole main_arg4
abbrev frH : Memref sig .tc .hbm S1x128 .f32 := Memref.whole main_cst
abbrev codeH : Memref sig .tc .hbm S256x7168 .fp8e4m3 := Memref.whole main_v3_3
abbrev scaleH : Memref sig .tc .hbm S1x256 .f32 := Memref.whole main_v3_4
abbrev posM : Memref sig .tc .vmem S1x256 .i32 := Memref.whole cc0_scratch6
abbrev frM : Memref sig .tc .vmem S1x128 .f32 := Memref.whole cc0_scratch7
abbrev rowM : Memref sig .tc .vmem S1x256 .f32 := Memref.whole cc0_scratch11

section Body
variable (c : Dev nD) (X : Buf (Elt F) (xM.view.loc (c : Thread nD τ))) (W : Buf (Elt F) (wM.view.loc (c : Thread nD τ)))
  (NW : Buf (Elt F) (nwH.view.loc (c : Thread nD τ))) (WS : Buf (Elt F) (wsH.view.loc (c : Thread nD τ)))
  (POS : Buf (Elt F) (posH.view.loc (c : Thread nD τ))) (FR : Buf (Elt F) (frH.view.loc (c : Thread nD τ)))

abbrev body : Prog (TpuEff nD τ sig (Elt F) Λ₀ .tc) PUnit :=
  cc0_attn_input (F := F) (Memref.whole main_v0) (Memref.isWhole_whole _) (Memref.whole main_v1) (Memref.isWhole_whole _) (Memref.whole main_arg2) (Memref.isWhole_whole _) (Memref.whole main_v2) (Memref.isWhole_whole _) (Memref.whole main_arg4) (Memref.isWhole_whole _) (Memref.whole main_cst) (Memref.isWhole_whole _) (Memref.whole main_v3_0) (Memref.isWhole_whole _) (Memref.whole main_v3_1) (Memref.isWhole_whole _) (Memref.whole main_v3_2) (Memref.isWhole_whole _) (Memref.whole main_v3_3) (Memref.isWhole_whole _) (Memref.whole main_v3_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17

abbrev anyP {sp : Space} {s : Shape} {e : EltTy} (M : Memref sig .tc sp s e) : sProp 𝕄 := iprop(∃ f, heldP c M f)

/-- The operands at home, every buffer at anything, every semaphore at zero. -/
abbrev bodyPre : sProp 𝕄 :=
  iprop(bigSep Finset.univ (xhome c X) ∗ bigSep Finset.univ (whome c W) ∗ bigSep Finset.univ (wfree (F := F) c)
    ∗ heldP c nwH NW ∗ heldP c wsH WS ∗ heldP c posH POS ∗ heldP c frH FR
    ∗ anyP (F := F) c nwM ∗ anyP (F := F) c wsM ∗ anyP (F := F) c posM ∗ anyP (F := F) c frM
    ∗ (cellP c (css 0) ∗ cellP c (css 1) ∗ cellP c (css 2) ∗ cellP c (css 3))
    ∗ anyP (F := F) c nM ∗ anyP (F := F) c cM ∗ anyP (F := F) c sM ∗ anyP (F := F) c cosM ∗ anyP (F := F) c sinM ∗ anyP (F := F) c rowM
    ∗ bigSep Finset.univ (ofree (F := F) c) ∗ bigSep Finset.univ (fun b : Fin 8 => oinit (F := F) c (odst b.val)) ∗ oinit (F := F) c vAll
    ∗ anyP (F := F) c codeH ∗ anyP (F := F) c scaleH ∗ (cellP c (csm 0) ∗ cellP c (csm 1)) ∗ ∃ Wt, owes (c : Thread nD τ) 0 Wt)

theorem fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ
theorem fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [(0 : Fin 9), 1, 2, 3, 4, 5, 6, 7, 8] (by decide) (by decide) Φ
theorem fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

/-- What a loop over blocks starts from: no block behind it, -/
theorem range_none (NB n : ℕ) (Φ : Fin NB → sProp 𝕄) : (emp : sProp 𝕄) ⊢ bigSep (Ring.rangeSet NB n n) Φ :=
  entails_of_eq (Ring.bigSep_rangeSet_empty (le_refl n)).symm
theorem range_none' (NB m n : ℕ) (h : n ≤ m) (Φ : Fin NB → sProp 𝕄) : (emp : sProp 𝕄) ⊢ bigSep (Ring.rangeSet NB m n) Φ :=
  entails_of_eq (Ring.bigSep_rangeSet_empty h).symm
theorem range_six (Φ : Fin 9 → sProp 𝕄) : iprop(Φ 0 ∗ Φ 1 ∗ Φ 2 ∗ Φ 3 ∗ Φ 4 ∗ Φ 5) ⊢ bigSep (Ring.rangeSet 9 0 6) Φ :=
  entails_of_eq (bigSep_eq_bigSepL_of_eq [(0 : Fin 9), 1, 2, 3, 4, 5] (by decide) (by decide) Φ).symm
theorem range_three (Φ : Fin 9 → sProp 𝕄) : iprop(Φ 6 ∗ Φ 7 ∗ Φ 8) ⊢ bigSep (Ring.rangeSet 9 6 9) Φ :=
  entails_of_eq (bigSep_eq_bigSepL_of_eq [(6 : Fin 9), 7, 8] (by decide) (by decide) Φ).symm
/-- all of them before it. -/
theorem range_all (NB : ℕ) (Φ : Fin NB → sProp 𝕄) : bigSep Finset.univ Φ ⊢ bigSep (Ring.rangeSet NB 0 NB) Φ :=
  entails_of_eq (by rw [Ring.rangeSet_univ])

/-- After the second loop: the last weight block is on its way, -/
theorem last_flight (n : ℕ) (h : n = 8) : bigSep (Ring.rangeSet 9 n (n + 6)) (fun b => wflight c W (ws b.val) b) ⊢ wflight c W 2 8 := by
  subst h
  exact entails_of_eq (bigSep_eq_bigSepL_of_eq [(8 : Fin 9)] (by decide) (by decide) _)
/-- and so are the last two output blocks. -/
theorem last_out (n : ℕ) (h : n = 8) (L : ℕ → List (View.Piece (Elt F) S2x256x8x128 .bf16)) :
    bigSep (Ring.rangeSet 8 (n - 2) n) (fun b => oflight c (os b.val) (odst b.val) (L b.val))
      ⊢ iprop(oflight c 0 (qgrp 6) (L 6) ∗ oflight c 1 kAll (L 7)) := by
  subst h
  exact entails_of_eq (bigSep_eq_bigSepL_of_eq [(6 : Fin 8), 7] (by decide) (by decide) _)

theorem fin2 (Φ : Fin 2 → sProp 𝕄) : bigSep Finset.univ Φ = iprop(Φ 0 ∗ Φ 1) :=
  bigSep_univ_eq_bigSepL [(0 : Fin 2), 1] (by decide) (by decide) Φ
theorem range_back (NB n : ℕ) (h : n = NB) (Φ : Fin NB → sProp 𝕄) : bigSep (Ring.rangeSet NB 0 n) Φ ⊢ bigSep Finset.univ Φ := by
  subst h; exact entails_of_eq (by rw [Ring.rangeSet_univ])
/-- The pieces back together: the weight's blocks, -/
theorem weight_back (n : ℕ) (h : n = 8) : iprop(bigSep (Ring.rangeSet 9 0 n) (whome c W) ∗ whome c W 8) ⊢ bigSep Finset.univ (whome c W) := by
  subst h
  rw [fin9, show bigSep (Ring.rangeSet 9 0 8) (whome c W) = iprop((whome c W) 0 ∗ (whome c W) 1 ∗ (whome c W) 2 ∗ (whome c W) 3 ∗ (whome c W) 4 ∗ (whome c W) 5 ∗ (whome c W) 6 ∗ (whome c W) 7) from
    bigSep_eq_bigSepL_of_eq [(0 : Fin 9), 1, 2, 3, 4, 5, 6, 7] (by decide) (by decide) _]
  iintro ⟨⟨H0, H1, H2, H3, H4, H5, H6, H7⟩, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8
/-- its slots, -/
theorem slots_back (n : ℕ) (h : n = 8) : iprop(bigSep (Ring.rangeSet 9 3 n) (fun b => wfree (F := F) c (ws b.val)) ∗ wfree (F := F) c 2)
    ⊢ bigSep Finset.univ (wfree (F := F) c) := by
  subst h
  rw [fin6, show bigSep (Ring.rangeSet 9 3 8) (fun b => wfree (F := F) c (ws b.val)) = iprop(wfree (F := F) c 3 ∗ wfree (F := F) c 4 ∗ wfree (F := F) c 5 ∗ wfree (F := F) c 0 ∗ wfree (F := F) c 1) from
    bigSep_eq_bigSepL_of_eq [(3 : Fin 9), 4, 5, 6, 7] (by decide) (by decide) _]
  iintro ⟨⟨H3, H4, H5, H0, H1⟩, H2⟩
  isplitl [H0]; · iexact H0
  isplitl [H1]; · iexact H1
  isplitl [H2]; · iexact H2
  isplitl [H3]; · iexact H3
  isplitl [H4]; · iexact H4
  iexact H5
/-- the output blocks. -/
theorem outs_back (n : ℕ) (h : n = 8) (L : ℕ → List (View.Piece (Elt F) S2x256x8x128 .bf16)) :
    iprop(bigSep (Ring.rangeSet 8 0 (n - 2)) (fun b => odone c (os b.val) (odst b.val) (L b.val)) ∗ oinit (F := F) c (qgrp 6) ∗ oinit (F := F) c kAll)
    ⊢ bigSep Finset.univ (fun b : Fin 8 => oinit (F := F) c (odst b.val)) := by
  subst h
  rw [fin8, show bigSep (Ring.rangeSet 8 0 (8 - 2)) (fun b => odone c (os b.val) (odst b.val) (L b.val)) = iprop(odone c (os 0) (qgrp 0) (L 0) ∗ odone c (os 1) (qgrp 1) (L 1) ∗ odone c (os 2) (qgrp 2) (L 2) ∗ odone c (os 3) (qgrp 3) (L 3) ∗ odone c (os 4) (qgrp 4) (L 4) ∗ odone c (os 5) (qgrp 5) (L 5)) from
    bigSep_eq_bigSepL_of_eq [(0 : Fin 8), 1, 2, 3, 4, 5] (by decide) (by decide) _]
  iintro ⟨⟨⟨%f0, %g0, H0⟩, ⟨%f1, %g1, H1⟩, ⟨%f2, %g2, H2⟩, ⟨%f3, %g3, H3⟩, ⟨%f4, %g4, H4⟩, ⟨%f5, %g5, H5⟩⟩, ⟨%f6, H6⟩, ⟨%f7, H7⟩⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

set_option sl_exec.lendShare "HC" in
theorem bodyRun :
    bodyPre c X W NW WS POS FR
    ⊢ wp frame (wpE (defs₀ (F := F)) 𝒱₀ (c : Thread nD τ) none) Set.univ body (fun _ => bodyPre c X W NW WS POS FR) := by
  conv_lhs => unfold bodyPre; rw [fin8 (xhome c X), fin9, fin6]
  iintro ⟨⟨⟨⟨%fx0, HX0_dst⟩, HX0_src, HX0⟩, ⟨⟨%fx1, HX1_dst⟩, HX1_src, HX1⟩, ⟨⟨%fx2, HX2_dst⟩, HX2_src, HX2⟩, ⟨⟨%fx3, HX3_dst⟩, HX3_src, HX3⟩, ⟨⟨%fx4, HX4_dst⟩, HX4_src, HX4⟩, ⟨⟨%fx5, HX5_dst⟩, HX5_src, HX5⟩, ⟨⟨%fx6, HX6_dst⟩, HX6_src, HX6⟩, ⟨⟨%fx7, HX7_dst⟩, HX7_src, HX7⟩⟩, ⟨HH0, HH1, HH2, HH3, HH4, HH5, HH6, HH7, HH8⟩, ⟨⟨⟨%fw0, HW0_dst⟩, HW0⟩, ⟨⟨%fw1, HW1_dst⟩, HW1⟩, ⟨⟨%fw2, HW2_dst⟩, HW2⟩, ⟨⟨%fw3, HW3_dst⟩, HW3⟩, ⟨⟨%fw4, HW4_dst⟩, HW4⟩, ⟨⟨%fw5, HW5_dst⟩, HW5⟩⟩, HNWs, HWSs, HPOSs, HFRs, ⟨%fnw, HNW⟩, ⟨%fws, HWS⟩, ⟨%fpos, HPOS⟩, ⟨%ffr, HFR⟩, ⟨HP0, HP1, HP2, HP3⟩,
    ⟨%fn, HN⟩, ⟨%fc, HC⟩, ⟨%fs, HS⟩, ⟨%fcos, HCOS⟩, ⟨%fsin, HSIN⟩, ⟨%frow, HROW⟩, HO, HI, ⟨%fv, HV⟩, ⟨%fcode, HCODE⟩, ⟨%fscale, HSCALE⟩, ⟨HM0, HM1⟩, ⟨%Wt, HW⟩⟩
  dsimp only [body]
  sl_unfold [cc0_attn_input]
  sl_exec
  ihave HX := (range_all 8 (xflight c X)) $$ [HX0 HX1 HX2 HX3 HX4 HX5 HX6 HX7]
  · rw [fin8 (xflight c X)]
    isplitl [HX0]; · iexists fx0; iexact HX0
    isplitl [HX1]; · iexists fx1; iexact HX1
    isplitl [HX2]; · iexists fx2; iexact HX2
    isplitl [HX3]; · iexists fx3; iexact HX3
    isplitl [HX4]; · iexists fx4; iexact HX4
    isplitl [HX5]; · iexists fx5; iexact HX5
    isplitl [HX6]; · iexists fx6; iexact HX6
    iexists fx7; iexact HX7
  ihave HXh := (range_none 8 0 (xhome c X)) $$ []
  · iempintro
  sl_exec
  ihave HWt := (range_six (fun b => wflight c W (ws b.val) b)) $$ [HW0 HW1 HW2 HW3 HW4 HW5]
  · isplitl [HW0]; · iexists fw0; iexact HW0
    isplitl [HW1]; · iexists fw1; iexact HW1
    isplitl [HW2]; · iexists fw2; iexact HW2
    isplitl [HW3]; · iexists fw3; iexact HW3
    isplitl [HW4]; · iexists fw4; iexact HW4
    iexists fw5; iexact HW5
  ihave HWh := (range_none 9 0 (whome c W)) $$ []
  · iempintro
  ihave HWr := (range_three (whome c W)) $$ [HH6 HH7 HH8]
  · isplitl [HH6]; · iexact HH6
    isplitl [HH7]; · iexact HH7
    iexact HH8
  ihave HWf := (range_none' 9 3 0 (by decide) (fun b => wfree (F := F) c (ws b.val))) $$ []
  · iempintro
  ihave HOf := (range_none' 8 (0 - 2) 0 (by decide) (fun b => oflight c (os b) (odst b)
    (blockL c W (cAcc c X (nwM.view.writes (Elt F) nwM.view.junk [⟨Rect.whole S1x7168, bodyRun.sl.dma0_2 c NW⟩]) (bodyRun.sl.r c POS FR) fc (Scf.trips k0_t1_loop.lb k0_t1_loop.ub k0_t1_loop.st)) (sAcc c X (nwM.view.writes (Elt F) nwM.view.junk [⟨Rect.whole S1x7168, bodyRun.sl.dma0_2 c NW⟩]) (bodyRun.sl.r c POS FR) fs (Scf.trips k0_t1_loop.lb k0_t1_loop.ub k0_t1_loop.st))
    (wsM.view.writes (Elt F) wsM.view.junk [⟨Rect.whole S1x9216, bodyRun.sl.dma0_3 c WS⟩])
    (cosM.view.writes (Elt F) cosM.view.junk (bodyRun.sl.HCOS_2 c POS FR)) (sinM.view.writes (Elt F) sinM.view.junk (bodyRun.sl.HSIN_2 c POS FR)) (bodyRun.sl.r c POS FR) b))) $$ []
  · iempintro
  ihave HOd := (range_none 8 0 (fun b => odone c (os b) (odst b)
    (blockL c W (cAcc c X (nwM.view.writes (Elt F) nwM.view.junk [⟨Rect.whole S1x7168, bodyRun.sl.dma0_2 c NW⟩]) (bodyRun.sl.r c POS FR) fc (Scf.trips k0_t1_loop.lb k0_t1_loop.ub k0_t1_loop.st)) (sAcc c X (nwM.view.writes (Elt F) nwM.view.junk [⟨Rect.whole S1x7168, bodyRun.sl.dma0_2 c NW⟩]) (bodyRun.sl.r c POS FR) fs (Scf.trips k0_t1_loop.lb k0_t1_loop.ub k0_t1_loop.st))
    (wsM.view.writes (Elt F) wsM.view.junk [⟨Rect.whole S1x9216, bodyRun.sl.dma0_3 c WS⟩])
    (cosM.view.writes (Elt F) cosM.view.junk (bodyRun.sl.HCOS_2 c POS FR)) (sinM.view.writes (Elt F) sinM.view.junk (bodyRun.sl.HSIN_2 c POS FR)) (bodyRun.sl.r c POS FR) b))) $$ []
  · iempintro
  ihave HO := (range_all 2 (ofree c)) $$ [HO]
  · iexact HO
  ihave HI := (range_all 8 (fun b => oinit c (odst b))) $$ [HI]
  · iexact HI
  sl_exec
  ihave HW2 := (last_flight c W (Scf.trips k0_t2_loop.lb k0_t2_loop.ub k0_t2_loop.st) (by decide)) $$ [HWt]
  · iexact HWt
  icases HW2 with ⟨%fw2', HW2⟩
  ihave HOf := (last_out c (Scf.trips k0_t2_loop.lb k0_t2_loop.ub k0_t2_loop.st) (by decide) (fun b =>
    (blockL c W (cAcc c X (nwM.view.writes (Elt F) nwM.view.junk [⟨Rect.whole S1x7168, bodyRun.sl.dma0_2 c NW⟩]) (bodyRun.sl.r c POS FR) fc (Scf.trips k0_t1_loop.lb k0_t1_loop.ub k0_t1_loop.st)) (sAcc c X (nwM.view.writes (Elt F) nwM.view.junk [⟨Rect.whole S1x7168, bodyRun.sl.dma0_2 c NW⟩]) (bodyRun.sl.r c POS FR) fs (Scf.trips k0_t1_loop.lb k0_t1_loop.ub k0_t1_loop.st))
    (wsM.view.writes (Elt F) wsM.view.junk [⟨Rect.whole S1x9216, bodyRun.sl.dma0_3 c WS⟩])
    (cosM.view.writes (Elt F) cosM.view.junk (bodyRun.sl.HCOS_2 c POS FR)) (sinM.view.writes (Elt F) sinM.view.junk (bodyRun.sl.HSIN_2 c POS FR)) (bodyRun.sl.r c POS FR) b))) $$ [HOf]
  · iexact HOf
  icases HOf with ⟨⟨%fo0, %fo0', HO0⟩, ⟨%fo1, %fo1', HO1⟩⟩
  sl_exec
  sl_step
  unfold bodyPre
  isplitl [HXh]
  · iapply (range_back 8 (Scf.trips k0_t1_loop.lb k0_t1_loop.ub k0_t1_loop.st) (by decide) (xhome c X)); iexact HXh
  isplitl [HWh HW2_src]
  · iapply (weight_back c W (Scf.trips k0_t2_loop.lb k0_t2_loop.ub k0_t2_loop.st) (by decide))
    isplitl [HWh]; · iexact HWh
    iexact HW2_src
  isplitl [HWf HW2_dst HW2]
  · iapply (slots_back (F := F) c (Scf.trips k0_t2_loop.lb k0_t2_loop.ub k0_t2_loop.st) (by decide))
    isplitl [HWf]; · iexact HWf
    isplitl [HW2_dst]; · iexists _; iexact HW2_dst
    iexact HW2
  isplitl [HNWs]; · iexact HNWs
  isplitl [HWSs]; · iexact HWSs
  isplitl [HPOSs]; · iexact HPOSs
  isplitl [HFRs]; · iexact HFRs
  isplitl [HNW]; · iexists _; iexact HNW
  isplitl [HWS]; · iexists _; iexact HWS
  isplitl [HPOS]; · iexists _; iexact HPOS
  isplitl [HFR]; · iexists _; iexact HFR
  isplitl [HP0 HP1 HP2 HP3]
  · isplitl [HP0]; · iexact HP0
    isplitl [HP1]; · iexact HP1
    isplitl [HP2]; · iexact HP2
    iexact HP3
  isplitl [HN]; · iexists _; iexact HN
  isplitl [HC]; · iexists _; iexact HC
  isplitl [HS]; · iexists _; iexact HS
  isplitl [HCOS]; · iexists _; iexact HCOS
  isplitl [HSIN]; · iexists _; iexact HSIN
  isplitl [HROW]; · iexists _; iexact HROW
  isplitl [HO0 HO0_src HO1 HO1_src]
  · rw [fin2]
    isplitl [HO0 HO0_src]
    · isplitl [HO0_src]; · iexists _; iexact HO0_src
      iexact HO0
    · isplitl [HO1_src]; · iexists _; iexact HO1_src
      iexact HO1
  isplitl [HOd HO0_dst HO1_dst]
  · iapply (outs_back c (Scf.trips k0_t2_loop.lb k0_t2_loop.ub k0_t2_loop.st) (by decide))
    isplitl [HOd]; · iexact HOd
    isplitl [HO0_dst]; · iexists _; iexact HO0_dst
    iexists _; iexact HO1_dst
  isplitl [HV]; · iexists _; iexact HV
  isplitl [HCODE]; · iexists _; iexact HCODE
  isplitl [HSCALE]; · iexists _; iexact HSCALE
  isplitl [HM0 HM1]
  · isplitl [HM0]; · iexact HM0
    iexact HM1
  iexists _; iexact HW
end Body

end Cert.Proof.Kernel
-- ==== Proof.KernelSplit.lean ====
/- The arrays the kernel's transfers cut into blocks: each is held whole exactly when its blocks are held. -/
module

public import proofs.«01_k».proof.Proof.KernelBody

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]
local notation "𝕄" => MT nD τ sig Unit (Elt F) ℕ (UU nD τ) ℕ

/-! ## The blocks as sets of elements -/

/-- Rows of `x` and of the buffer they land in. -/
abbrev XS (b : Fin 8) : Finset S256x7168.Idx := (Rect.unit (s := S256x7168) (xOff b) S32x7168.size (xOff_inb b)).set
theorem mem_XS (b : Fin 8) (y : S256x7168.Idx) : y ∈ XS b ↔ 32 * b.val ≤ (y 0).val ∧ (y 0).val < 32 * b.val + 32 := by
  rw [Rect.mem_set_unit]
  have h1 : (y 1).val < 7168 := (y 1).isLt
  constructor
  · intro H; have a0 : 32 * b.val ≤ (y 0).val ∧ (y 0).val < 32 * b.val + 32 := H 0; omega
  · intro H i; fin_cases i
    · show 32 * b.val ≤ (y 0).val ∧ (y 0).val < 32 * b.val + 32; omega
    · show 0 ≤ (y 1).val ∧ (y 1).val < 0 + 7168; omega
theorem XS_disjoint : ∀ b b' : Fin 8, b ≠ b' → Disjoint (XS b) (XS b') := by
  intro b b' hne; rw [Finset.disjoint_left]; intro y hy hy'; rw [mem_XS] at hy hy'; exact hne (Fin.ext (by omega))
theorem XS_cover : (Finset.univ : Finset (Fin 8)).biUnion XS = Finset.univ := by
  ext y; simp only [Finset.mem_biUnion, Finset.mem_univ, true_and, iff_true]
  have h : (y 0).val < 256 := (y 0).isLt
  exact ⟨⟨(y 0).val / 32, by omega⟩, by rw [mem_XS]; show 32 * ((y 0).val / 32) ≤ _ ∧ _ < 32 * ((y 0).val / 32) + 32; omega⟩

/-- Columns of the weight. -/
abbrev WC (b : Fin 9) : Finset S7168x9216.Idx := (Rect.unit (s := S7168x9216) (wOff b) S7168x1024.size (wOff_inb b)).set
theorem mem_WC (b : Fin 9) (y : S7168x9216.Idx) : y ∈ WC b ↔ 1024 * b.val ≤ (y 1).val ∧ (y 1).val < 1024 * b.val + 1024 := by
  rw [Rect.mem_set_unit]
  have h0 : (y 0).val < 7168 := (y 0).isLt
  constructor
  · intro H; have a0 : 1024 * b.val ≤ (y 1).val ∧ (y 1).val < 1024 * b.val + 1024 := H 1; omega
  · intro H i; fin_cases i
    · show 0 ≤ (y 0).val ∧ (y 0).val < 0 + 7168; omega
    · show 1024 * b.val ≤ (y 1).val ∧ (y 1).val < 1024 * b.val + 1024; omega
theorem WC_disjoint : ∀ b b' : Fin 9, b ≠ b' → Disjoint (WC b) (WC b') := by
  intro b b' hne; rw [Finset.disjoint_left]; intro y hy hy'; rw [mem_WC] at hy hy'; exact hne (Fin.ext (by omega))
theorem WC_cover : (Finset.univ : Finset (Fin 9)).biUnion WC = Finset.univ := by
  ext y; simp only [Finset.mem_biUnion, Finset.mem_univ, true_and, iff_true]
  have h : (y 1).val < 9216 := (y 1).isLt
  exact ⟨⟨(y 1).val / 1024, by omega⟩, by rw [mem_WC]; show 1024 * ((y 1).val / 1024) ≤ _ ∧ _ < 1024 * ((y 1).val / 1024) + 1024; omega⟩

/-- The weight's slots. -/
abbrev WB (b : Fin 6) : Finset S6x7168x1024.Idx := (Rect.unit (s := S6x7168x1024) (wsOff b) S1x7168x1024.size (wsOff_inb b)).set
theorem mem_WB (b : Fin 6) (y : S6x7168x1024.Idx) : y ∈ WB b ↔ 1 * b.val ≤ (y 0).val ∧ (y 0).val < 1 * b.val + 1 := by
  rw [Rect.mem_set_unit]
  have h1 : (y 1).val < 7168 := (y 1).isLt
  have h2 : (y 2).val < 1024 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 7168; omega
    · show 0 ≤ (y 2).val ∧ (y 2).val < 0 + 1024; omega
theorem WB_disjoint : ∀ b b' : Fin 6, b ≠ b' → Disjoint (WB b) (WB b') := by
  intro b b' hne; rw [Finset.disjoint_left]; intro y hy hy'; rw [mem_WB] at hy hy'; exact hne (Fin.ext (by omega))
theorem WB_cover : (Finset.univ : Finset (Fin 6)).biUnion WB = Finset.univ := by
  ext y; simp only [Finset.mem_biUnion, Finset.mem_univ, true_and, iff_true]
  have h : (y 0).val < 6 := (y 0).isLt
  exact ⟨⟨(y 0).val / 1, by omega⟩, by rw [mem_WB]; show 1 * ((y 0).val / 1) ≤ _ ∧ _ < 1 * ((y 0).val / 1) + 1; omega⟩

/-- The output slots. -/
abbrev OB (b : Fin 2) : Finset S2x256x8x128.Idx := (Rect.unit (s := S2x256x8x128) (osOff b) S1x256x8x128.size (osOff_inb b)).set
theorem mem_OB (b : Fin 2) (y : S2x256x8x128.Idx) : y ∈ OB b ↔ 1 * b.val ≤ (y 0).val ∧ (y 0).val < 1 * b.val + 1 := by
  rw [Rect.mem_set_unit]
  have h1 : (y 1).val < 256 := (y 1).isLt
  have h2 : (y 2).val < 8 := (y 2).isLt
  have h3 : (y 3).val < 128 := (y 3).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 256; omega
    · show 0 ≤ (y 2).val ∧ (y 2).val < 0 + 8; omega
    · show 0 ≤ (y 3).val ∧ (y 3).val < 0 + 128; omega
theorem OB_disjoint : ∀ b b' : Fin 2, b ≠ b' → Disjoint (OB b) (OB b') := by
  intro b b' hne; rw [Finset.disjoint_left]; intro y hy hy'; rw [mem_OB] at hy hy'; exact hne (Fin.ext (by omega))
theorem OB_cover : (Finset.univ : Finset (Fin 2)).biUnion OB = Finset.univ := by
  ext y; simp only [Finset.mem_biUnion, Finset.mem_univ, true_and, iff_true]
  have h : (y 0).val < 2 := (y 0).isLt
  exact ⟨⟨(y 0).val / 1, by omega⟩, by rw [mem_OB]; show 1 * ((y 0).val / 1) ≤ _ ∧ _ < 1 * ((y 0).val / 1) + 1; omega⟩

/-- The head groups of `q`. -/
abbrev QG (b : Fin 7) : Finset S256x56x128.Idx := (Rect.unit (s := S256x56x128) (qOff b) S256x8x128.size (qOff_inb b)).set
theorem mem_QG (b : Fin 7) (y : S256x56x128.Idx) : y ∈ QG b ↔ 8 * b.val ≤ (y 1).val ∧ (y 1).val < 8 * b.val + 8 := by
  rw [Rect.mem_set_unit]
  have h0 : (y 0).val < 256 := (y 0).isLt
  have h2 : (y 2).val < 128 := (y 2).isLt
  constructor
  · intro H; have a0 : 8 * b.val ≤ (y 1).val ∧ (y 1).val < 8 * b.val + 8 := H 1; omega
  · intro H i; fin_cases i
    · show 0 ≤ (y 0).val ∧ (y 0).val < 0 + 256; omega
    · show 8 * b.val ≤ (y 1).val ∧ (y 1).val < 8 * b.val + 8; omega
    · show 0 ≤ (y 2).val ∧ (y 2).val < 0 + 128; omega
theorem QG_disjoint : ∀ b b' : Fin 7, b ≠ b' → Disjoint (QG b) (QG b') := by
  intro b b' hne; rw [Finset.disjoint_left]; intro y hy hy'; rw [mem_QG] at hy hy'; exact hne (Fin.ext (by omega))
theorem QG_cover : (Finset.univ : Finset (Fin 7)).biUnion QG = Finset.univ := by
  ext y; simp only [Finset.mem_biUnion, Finset.mem_univ, true_and, iff_true]
  have h : (y 1).val < 56 := (y 1).isLt
  exact ⟨⟨(y 1).val / 8, by omega⟩, by rw [mem_QG]; show 8 * ((y 1).val / 8) ≤ _ ∧ _ < 8 * ((y 1).val / 8) + 8; omega⟩

theorem unit_zero3 (h) : (Rect.unit (s := S256x8x128) ![0, 0, 0] S256x8x128.size h).set = Finset.univ := by
  ext y; rw [Rect.mem_set_unit]; simp only [Finset.mem_univ, iff_true]
  have h0 : (y 0).val < 256 := (y 0).isLt
  have h1 : (y 1).val < 8 := (y 1).isLt
  have h2 : (y 2).val < 128 := (y 2).isLt
  intro i; fin_cases i
  · show 0 ≤ (y 0).val ∧ (y 0).val < 0 + 256; omega
  · show 0 ≤ (y 1).val ∧ (y 1).val < 0 + 8; omega
  · show 0 ≤ (y 2).val ∧ (y 2).val < 0 + 128; omega

theorem xrow_set (b : Fin 8) : (xrow b).view.set = XS b := View.set_slice_whole _ _
theorem xslot_set (b : Fin 8) : (xslot b).view.set = XS b := View.set_slice_whole _ _
theorem wcol_set (b : Fin 9) : (wcol b).view.set = WC b := View.set_slice_whole _ _
theorem wslot_set (b : Fin 6) : (wslot b).view.set = WB b := (View.set_reshape _ _).trans (View.set_slice_whole _ _)
theorem oslot_set (b : Fin 2) : (oslot b).view.set = OB b := (View.set_reshape _ _).trans (View.set_slice_whole _ _)
theorem qgrp_set (b : Fin 7) : (qgrp b).view.set = QG b := View.set_slice_whole _ _
theorem kAll_set : kAll.view.set = Finset.univ := (View.set_slice_whole _ _).trans (unit_zero3 _)
theorem vAll_set : vAll.view.set = Finset.univ := (View.set_slice_whole _ _).trans (unit_zero3 _)

section Split
variable (c : Dev nD)

/-- A buffer of its own, whole. -/
theorem held_whole (b : Ref sig .tc) (f : Buf (Elt F) ((c : Thread nD τ).loc b)) :
    (heldP c (Memref.whole b : Memref sig .tc _ _ _) f : sProp 𝕄) = (((c : Thread nD τ).loc b) ↦{fullShare} f) :=
  congrArg (fun S => (((c : Thread nD τ).loc b) ↦[S]{fullShare} f : sProp 𝕄)) (View.set_whole b)

/-- Whole at some contents: its blocks, each at some contents. -/
theorem blocks_any {ℓ : Loc nD τ sig} [Inhabited (Buf (Elt F) ℓ)] {NB : ℕ} (S : Fin NB → Finset _)
    (hd : ∀ b b', b ≠ b' → Disjoint (S b) (S b')) (hc : (Finset.univ : Finset (Fin NB)).biUnion S = Finset.univ) :
    (iprop(∃ f : Buf (Elt F) ℓ, ℓ ↦{fullShare} f) : sProp 𝕄) = bigSep Finset.univ fun b => iprop(∃ f, ℓ ↦[S b]{fullShare} f) := by
  have h0 : ∀ (f : Buf (Elt F) ℓ) b, (iprop(ℓ ↦[S b]{fullShare} f) : sProp 𝕄) ⊢ iprop(∃ g : Buf (Elt F) ℓ, ℓ ↦[S b]{fullShare} g) := fun f b => by
    iintro H; iexists f; iexact H
  have h1 : ∀ f : Buf (Elt F) ℓ, (iprop(ℓ ↦{fullShare} f) : sProp 𝕄) ⊢ bigSep Finset.univ fun b => iprop(∃ f, ℓ ↦[S b]{fullShare} f) := fun f =>
    (entails_of_eq (Ring.pointsTo_blocks (ℓ := ℓ) S hd hc f)).trans (bigSep_mono fun b _ => h0 f b)
  have h2 : (iprop(∃ f : Buf (Elt F) ℓ, ℓ ↦{fullShare} f) : sProp 𝕄) ⊢ bigSep Finset.univ fun b => iprop(∃ f, ℓ ↦[S b]{fullShare} f) := by
    iintro ⟨%f, H⟩; iapply (h1 f); iexact H
  exact Entails.antisymm h2 (Ring.pointsTo_blocks_join_exists (ℓ := ℓ) S hd hc default)

instance (b : Ref sig .tc) : Inhabited (Buf (Elt F) ((c : Thread nD τ).loc b)) := ⟨fun _ => default⟩

/-- The arrays read are their blocks, -/
theorem x_blocks (X : Buf (Elt F) ((c : Thread nD τ).loc main_v0)) :
    (((c : Thread nD τ).loc main_v0) ↦{fullShare} X : sProp 𝕄) = bigSep Finset.univ fun b => heldP c (xrow b) X := by
  rw [Ring.pointsTo_blocks (ℓ := (c : Thread nD τ).loc main_v0) XS XS_disjoint XS_cover]
  exact bigSep_congr fun b _ => by rw [← xrow_set]; rfl
theorem w_blocks (X : Buf (Elt F) ((c : Thread nD τ).loc main_arg2)) :
    (((c : Thread nD τ).loc main_arg2) ↦{fullShare} X : sProp 𝕄) = bigSep Finset.univ (whome c X) := by
  rw [Ring.pointsTo_blocks (ℓ := (c : Thread nD τ).loc main_arg2) WC WC_disjoint WC_cover]
  exact bigSep_congr fun b _ => by rw [← wcol_set]; rfl
/-- and so are the buffers written. -/
theorem xb_blocks : (iprop(∃ f, ((c : Thread nD τ).loc cc0_scratch0) ↦{fullShare} f) : sProp 𝕄) = bigSep Finset.univ fun b => iprop(∃ f, heldP c (xslot b) f) := by
  rw [blocks_any (ℓ := (c : Thread nD τ).loc cc0_scratch0) XS XS_disjoint XS_cover]
  exact bigSep_congr fun b _ => by rw [← xslot_set]; rfl
theorem wb_blocks : (iprop(∃ f, ((c : Thread nD τ).loc cc0_scratch3) ↦{fullShare} f) : sProp 𝕄) = bigSep Finset.univ fun b => iprop(∃ f, heldP c (wslot b) f) := by
  rw [blocks_any (ℓ := (c : Thread nD τ).loc cc0_scratch3) WB WB_disjoint WB_cover]
  exact bigSep_congr fun b _ => by rw [← wslot_set]; rfl
theorem ob_blocks : (iprop(∃ f, ((c : Thread nD τ).loc cc0_scratch12) ↦{fullShare} f) : sProp 𝕄) = bigSep Finset.univ fun b => iprop(∃ f, heldP c (oslot b) f) := by
  rw [blocks_any (ℓ := (c : Thread nD τ).loc cc0_scratch12) OB OB_disjoint OB_cover]
  exact bigSep_congr fun b _ => by rw [← oslot_set]; rfl
theorem q_blocks : (iprop(∃ f, ((c : Thread nD τ).loc main_v3_0) ↦{fullShare} f) : sProp 𝕄) = bigSep Finset.univ fun b => oinit c (qgrp b) := by
  rw [blocks_any (ℓ := (c : Thread nD τ).loc main_v3_0) QG QG_disjoint QG_cover]
  exact bigSep_congr fun b _ => by rw [← qgrp_set]; rfl
theorem k_block : (iprop(∃ f, ((c : Thread nD τ).loc main_v3_1) ↦{fullShare} f) : sProp 𝕄) = oinit c kAll :=
  congrArg (fun S => (iprop(∃ f, ((c : Thread nD τ).loc main_v3_1) ↦[S]{fullShare} f) : sProp 𝕄)) kAll_set.symm
theorem v_block : (iprop(∃ f, ((c : Thread nD τ).loc main_v3_2) ↦{fullShare} f) : sProp 𝕄) = oinit c vAll :=
  congrArg (fun S => (iprop(∃ f, ((c : Thread nD τ).loc main_v3_2) ↦[S]{fullShare} f) : sProp 𝕄)) vAll_set.symm
theorem any_whole (b : Ref sig .tc) :
    (iprop(∃ f, ((c : Thread nD τ).loc b) ↦{fullShare} f) : sProp 𝕄) = iprop(∃ f, heldP c (Memref.whole b : Memref sig .tc _ _ _) f) := by
  congr 1; funext f; exact (held_whole c b f).symm

theorem fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

theorem sep_assoc_eq (A B C : sProp 𝕄) : iprop((A ∗ B) ∗ C) = iprop(A ∗ B ∗ C) := Entails.antisymm sep_assoc sep_assoc'

/-- The eight output blocks of the loop: `q`'s seven head groups and `k`. -/
theorem qk_blocks : (bigSep Finset.univ (fun b : Fin 8 => oinit (F := F) c (odst b.val)) : sProp 𝕄)
    = iprop((∃ f, ((c : Thread nD τ).loc main_v3_0) ↦{fullShare} f) ∗ (∃ f, ((c : Thread nD τ).loc main_v3_1) ↦{fullShare} f)) := by
  rw [q_blocks, k_block, fin8, fin7]
  simp only [sep_assoc_eq]
  rfl

end Split

end Cert.Proof.Kernel

end
-- ==== Proof.KernelLaunch.lean ====
/- The launch: what the region hands the body is what the body's run starts from, and the arrays end as they were
   launched. -/
module

public import proofs.«01_k».proof.Proof.KernelSplit

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]
local notation "𝕄" => MT nD τ sig Unit (Elt F) ℕ (UU nD τ) ℕ

variable (m : (ℓ : Loc nD τ sig) → Buf (Elt F) ℓ) (ρ : Dev nD → PrngReg)

/-! ## The semaphores, the arrays read and the arrays written -/

abbrev osem0 : Fin 22 → SemLoc sig := fun j => SemLoc.dma j
theorem ownSemFacts0 : Pipeline.OwnSemFacts (cfg0.spec) osem0 := by decide

def H0 : Finset (Ref sig .tc) := {main_v0, main_v1, main_arg2, main_v2, main_arg4, main_cst}
theorem H0_sub : H0 ⊆ Pipeline.restRefs sig (cfg0.spec) := by decide
def R0 : Finset (Ref sig .tc) := {main_v3_0, main_v3_1, main_v3_2, main_v3_3, main_v3_4}
theorem R0_sub : R0 ⊆ Pipeline.restRefs sig (cfg0.spec) \ H0 := by decide

theorem hmain0 : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

theorem mem_rest (b : Ref sig .tc) (h : b ∈ Pipeline.restRefs sig (cfg0.spec) \ R0) : b ∈ Pipeline.restRefs sig (cfg0.spec) \ R0 := h

/-- The arguments end as launched, whatever the run leaves in the arrays it writes. -/
theorem args_of {r : PUnit × MemSt nD τ sig (Elt F)}
    (h : ∀ c : Dev nD, ∀ b ∈ Pipeline.restRefs sig (cfg0.spec) \ R0, r.2.mem ((c : Thread nD τ).loc b) = V m c b) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c main_arg0 (by decide)).trans (V_main_arg0 m c), (h c main_arg1 (by decide)).trans (V_main_arg1 m c),
    (h c main_arg2 (by decide)).trans (V_main_arg2 m c), (h c main_arg3 (by decide)).trans (V_main_arg3 m c),
    (h c main_arg4 (by decide)).trans (V_main_arg4 m c)⟩

/-! ## The region's resources are the body's -/

theorem eq_of_both {A B : sProp 𝕄} (h : A ⊢ B) (h' : B ⊢ A) : A = B := Entails.antisymm h h'

/-- The resources besides the results': as the body's run states them, -/
abbrev restP (c : Dev nD) : sProp 𝕄 :=
  iprop(bigSep Finset.univ (xhome c (V m c main_v0)) ∗ bigSep Finset.univ (whome c (V m c main_arg2)) ∗ bigSep Finset.univ (wfree (F := F) c)
    ∗ heldP c nwH (V m c main_v1) ∗ heldP c wsH (V m c main_v2) ∗ heldP c posH (V m c main_arg4) ∗ heldP c frH (V m c main_cst)
    ∗ anyP (F := F) c nwM ∗ anyP (F := F) c wsM ∗ anyP (F := F) c posM ∗ anyP (F := F) c frM
    ∗ (cellP c (css 0) ∗ cellP c (css 1) ∗ cellP c (css 2) ∗ cellP c (css 3))
    ∗ anyP (F := F) c nM ∗ anyP (F := F) c cM ∗ anyP (F := F) c sM ∗ anyP (F := F) c cosM ∗ anyP (F := F) c sinM ∗ anyP (F := F) c rowM
    ∗ bigSep Finset.univ (ofree (F := F) c) ∗ (cellP c (csm 0) ∗ cellP c (csm 1)))

/-- the buffer `b` at some contents, -/
abbrev bufP (c : Dev nD) (b : Ref sig .tc) : sProp 𝕄 := iprop(∃ f : Buf (Elt F) ((c : Thread nD τ).loc b), ((c : Thread nD τ).loc b) ↦{fullShare} f)
/-- the array `b` at its contents, -/
abbrev arrP (c : Dev nD) (b : Ref sig .tc) : sProp 𝕄 := iprop(((c : Thread nD τ).loc b) ↦{fullShare} V m c b)
/-- and semaphore `j` at zero: -/
abbrev semP (c : Dev nD) (j : Fin 22) : sProp 𝕄 := semVal ((c : Thread nD τ), SemLoc.dma j) 0

/-- as the region holds them. -/
abbrev flatP (c : Dev nD) : sProp 𝕄 :=
  iprop((bufP (F := F) c cc0_scratch0 ∗ bufP (F := F) c cc0_scratch1 ∗ bufP (F := F) c cc0_scratch2 ∗ bufP (F := F) c cc0_scratch3 ∗ bufP (F := F) c cc0_scratch4 ∗ bufP (F := F) c cc0_scratch5 ∗ bufP (F := F) c cc0_scratch6 ∗ bufP (F := F) c cc0_scratch7 ∗ bufP (F := F) c cc0_scratch8 ∗ bufP (F := F) c cc0_scratch9 ∗ bufP (F := F) c cc0_scratch10 ∗ bufP (F := F) c cc0_scratch11 ∗ bufP (F := F) c cc0_scratch12)
    ∗ (semP (F := F) c 0 ∗ semP (F := F) c 1 ∗ semP (F := F) c 2 ∗ semP (F := F) c 3 ∗ semP (F := F) c 4 ∗ semP (F := F) c 5 ∗ semP (F := F) c 6 ∗ semP (F := F) c 7 ∗ semP (F := F) c 8 ∗ semP (F := F) c 9 ∗ semP (F := F) c 10 ∗ semP (F := F) c 11 ∗ semP (F := F) c 12 ∗ semP (F := F) c 13 ∗ semP (F := F) c 14 ∗ semP (F := F) c 15 ∗ semP (F := F) c 16 ∗ semP (F := F) c 17 ∗ semP (F := F) c 18 ∗ semP (F := F) c 19 ∗ semP (F := F) c 20 ∗ semP (F := F) c 21)
    ∗ arrP m c main_v0 ∗ arrP m c main_v1 ∗ arrP m c main_arg2 ∗ arrP m c main_v2 ∗ arrP m c main_arg4 ∗ arrP m c main_cst)

theorem sem_x (c : Dev nD) (k : Fin 8) : cellP (F := F) c (csx k) = semP c (k.castLE (by decide)) :=
  congrArg (fun j : Fin 22 => semP (F := F) c j) ((by decide : ∀ k : Fin 8, ((csx k).sem : Fin 22) = k.castLE (by decide)) k)
theorem sem_w (c : Dev nD) (k : Fin 6) : cellP (F := F) c (csw k) = semP c ((k.natAdd 8).castLE (by decide)) :=
  congrArg (fun j : Fin 22 => semP (F := F) c j) ((by decide : ∀ k : Fin 6, ((csw k).sem : Fin 22) = (k.natAdd 8).castLE (by decide)) k)
theorem sem_s (c : Dev nD) (k : Fin 4) : cellP (F := F) c (css k) = semP c ((k.natAdd 14).castLE (by decide)) :=
  congrArg (fun j : Fin 22 => semP (F := F) c j) ((by decide : ∀ k : Fin 4, ((css k).sem : Fin 22) = (k.natAdd 14).castLE (by decide)) k)
theorem sem_o (c : Dev nD) (k : Fin 2) : cellP (F := F) c (cso k) = semP c ((k.natAdd 18).castLE (by decide)) :=
  congrArg (fun j : Fin 22 => semP (F := F) c j) ((by decide : ∀ k : Fin 2, ((cso k).sem : Fin 22) = (k.natAdd 18).castLE (by decide)) k)
theorem sem_m (c : Dev nD) (k : Fin 2) : cellP (F := F) c (csm k) = semP c (k.natAdd 20) :=
  congrArg (fun j : Fin 22 => semP (F := F) c j) ((by decide : ∀ k : Fin 2, ((csm k).sem : Fin 22) = k.natAdd 20) k)

set_option maxHeartbeats 1000000 in
theorem rest_flat (c : Dev nD) : restP m c = flatP m c := by
  have ex : bigSep Finset.univ (xhome c (V m c main_v0)) = iprop(bufP (F := F) c cc0_scratch0 ∗ arrP m c main_v0 ∗ (semP (F := F) c 0 ∗ semP (F := F) c 1 ∗ semP (F := F) c 2 ∗ semP (F := F) c 3 ∗ semP (F := F) c 4 ∗ semP (F := F) c 5 ∗ semP (F := F) c 6 ∗ semP (F := F) c 7)) := by
    unfold xhome
    rw [bigSep_sep', bigSep_sep', ← xb_blocks, ← x_blocks, fin8]
    simp only [sem_x]; rfl
  have ew : bigSep Finset.univ (whome c (V m c main_arg2)) = arrP m c main_arg2 := (w_blocks c _).symm
  have ef : bigSep Finset.univ (wfree (F := F) c) = iprop(bufP (F := F) c cc0_scratch3 ∗ (semP (F := F) c 8 ∗ semP (F := F) c 9 ∗ semP (F := F) c 10 ∗ semP (F := F) c 11 ∗ semP (F := F) c 12 ∗ semP (F := F) c 13)) := by
    unfold wfree
    rw [bigSep_sep', ← wb_blocks, fin6]
    simp only [sem_w]; rfl
  have eo : bigSep Finset.univ (ofree (F := F) c) = iprop(bufP (F := F) c cc0_scratch12 ∗ (semP (F := F) c 18 ∗ semP (F := F) c 19)) := by
    unfold ofree
    rw [bigSep_sep', ← ob_blocks, fin2]
    simp only [sem_o]; rfl
  have es : (iprop(cellP c (css 0) ∗ cellP c (css 1) ∗ cellP c (css 2) ∗ cellP c (css 3)) : sProp 𝕄) = iprop(semP (F := F) c 14 ∗ semP (F := F) c 15 ∗ semP (F := F) c 16 ∗ semP (F := F) c 17) := by simp only [sem_s]; rfl
  have em : (iprop(cellP c (csm 0) ∗ cellP c (csm 1)) : sProp 𝕄) = iprop(semP (F := F) c 20 ∗ semP (F := F) c 21) := by simp only [sem_m]; rfl
  have ea : ∀ b : Ref sig .tc, (iprop(∃ f, heldP c (Memref.whole b : Memref sig .tc _ _ _) f) : sProp 𝕄) = bufP (F := F) c b := fun b => (any_whole c b).symm
  have eh : ∀ b : Ref sig .tc, (heldP c (Memref.whole b : Memref sig .tc _ _ _) (V m c b) : sProp 𝕄) = arrP m c b := fun b => held_whole c b _
  unfold restP flatP
  rw [ex, ew, ef, eo, es, em,
    show (heldP c nwH (V m c main_v1) : sProp 𝕄) = arrP m c main_v1 from eh main_v1, show (heldP c wsH (V m c main_v2) : sProp 𝕄) = arrP m c main_v2 from eh main_v2,
    show (heldP c posH (V m c main_arg4) : sProp 𝕄) = arrP m c main_arg4 from eh main_arg4, show (heldP c frH (V m c main_cst) : sProp 𝕄) = arrP m c main_cst from eh main_cst,
    show anyP (F := F) c nwM = bufP (F := F) c cc0_scratch4 from ea cc0_scratch4, show anyP (F := F) c wsM = bufP (F := F) c cc0_scratch5 from ea cc0_scratch5,
    show anyP (F := F) c posM = bufP (F := F) c cc0_scratch6 from ea cc0_scratch6, show anyP (F := F) c frM = bufP (F := F) c cc0_scratch7 from ea cc0_scratch7,
    show anyP (F := F) c nM = bufP (F := F) c cc0_scratch1 from ea cc0_scratch1, show anyP (F := F) c cM = bufP (F := F) c cc0_scratch2 from ea cc0_scratch2,
    show anyP (F := F) c sM = bufP (F := F) c cc0_scratch10 from ea cc0_scratch10, show anyP (F := F) c cosM = bufP (F := F) c cc0_scratch8 from ea cc0_scratch8,
    show anyP (F := F) c sinM = bufP (F := F) c cc0_scratch9 from ea cc0_scratch9, show anyP (F := F) c rowM = bufP (F := F) c cc0_scratch11 from ea cc0_scratch11]
  refine eq_of_both ?_ ?_
  · iintro ⟨⟨B0, Av0, ⟨C0, C1, C2, C3, C4, C5, C6, C7⟩⟩, Aarg2, ⟨B3, ⟨C8, C9, C10, C11, C12, C13⟩⟩, Av1, Av2, Aarg4, Acst, B4, B5, B6, B7, ⟨C14, C15, C16, C17⟩, B1, B2, B10, B8, B9, B11, ⟨B12, ⟨C18, C19⟩⟩, ⟨C20, C21⟩⟩
    isplitl [B0 B1 B2 B3 B4 B5 B6 B7 B8 B9 B10 B11 B12]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      iexact B12
    isplitl [C0 C1 C2 C3 C4 C5 C6 C7 C8 C9 C10 C11 C12 C13 C14 C15 C16 C17 C18 C19 C20 C21]
    · isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      isplitl [C8]; · iexact C8
      isplitl [C9]; · iexact C9
      isplitl [C10]; · iexact C10
      isplitl [C11]; · iexact C11
      isplitl [C12]; · iexact C12
      isplitl [C13]; · iexact C13
      isplitl [C14]; · iexact C14
      isplitl [C15]; · iexact C15
      isplitl [C16]; · iexact C16
      isplitl [C17]; · iexact C17
      isplitl [C18]; · iexact C18
      isplitl [C19]; · iexact C19
      isplitl [C20]; · iexact C20
      iexact C21
    isplitl [Av0]; · iexact Av0
    isplitl [Av1]; · iexact Av1
    isplitl [Aarg2]; · iexact Aarg2
    isplitl [Av2]; · iexact Av2
    isplitl [Aarg4]; · iexact Aarg4
    iexact Acst
  · iintro ⟨⟨B0, B1, B2, B3, B4, B5, B6, B7, B8, B9, B10, B11, B12⟩, ⟨C0, C1, C2, C3, C4, C5, C6, C7, C8, C9, C10, C11, C12, C13, C14, C15, C16, C17, C18, C19, C20, C21⟩, ⟨Av0, Av1, Aarg2, Av2, Aarg4, Acst⟩⟩
    isplitl [B0 Av0 C0 C1 C2 C3 C4 C5 C6 C7]
    · isplitl [B0]; · iexact B0
      isplitl [Av0]; · iexact Av0
      isplitl [C0]; · iexact C0
      isplitl [C1]; · iexact C1
      isplitl [C2]; · iexact C2
      isplitl [C3]; · iexact C3
      isplitl [C4]; · iexact C4
      isplitl [C5]; · iexact C5
      isplitl [C6]; · iexact C6
      iexact C7
    isplitl [Aarg2]; · iexact Aarg2
    isplitl [B3 C8 C9 C10 C11 C12 C13]
    · isplitl [B3]; · iexact B3
      isplitl [C8]; · iexact C8
      isplitl [C9]; · iexact C9
      isplitl [C10]; · iexact C10
      isplitl [C11]; · iexact C11
      isplitl [C12]; · iexact C12
      iexact C13
    isplitl [Av1]; · iexact Av1
    isplitl [Av2]; · iexact Av2
    isplitl [Aarg4]; · iexact Aarg4
    isplitl [Acst]; · iexact Acst
    isplitl [B4]; · iexact B4
    isplitl [B5]; · iexact B5
    isplitl [B6]; · iexact B6
    isplitl [B7]; · iexact B7
    isplitl [C14 C15 C16 C17]
    · isplitl [C14]; · iexact C14
      isplitl [C15]; · iexact C15
      isplitl [C16]; · iexact C16
      iexact C17
    isplitl [B1]; · iexact B1
    isplitl [B2]; · iexact B2
    isplitl [B10]; · iexact B10
    isplitl [B8]; · iexact B8
    isplitl [B9]; · iexact B9
    isplitl [B11]; · iexact B11
    isplitl [B12 C18 C19]
    · isplitl [B12]; · iexact B12
      isplitl [C18]; · iexact C18
      iexact C19
    isplitl [C20]; · iexact C20
    iexact C21

theorem ownSems00_eq (c : Dev nD) :
    (Pipeline.ownSems0 (Ix := Unit) (Name := ℕ) (U := Pipeline.UD sig nD τ) (Lvl := ℕ) (Val := Elt F) (τ := τ) osem0 c : sProp 𝕄) = iprop(semP (F := F) c 0 ∗ semP (F := F) c 1 ∗ semP (F := F) c 2 ∗ semP (F := F) c 3 ∗ semP (F := F) c 4 ∗ semP (F := F) c 5 ∗ semP (F := F) c 6 ∗ semP (F := F) c 7 ∗ semP (F := F) c 8 ∗ semP (F := F) c 9 ∗ semP (F := F) c 10 ∗ semP (F := F) c 11 ∗ semP (F := F) c 12 ∗ semP (F := F) c 13 ∗ semP (F := F) c 14 ∗ semP (F := F) c 15 ∗ semP (F := F) c 16 ∗ semP (F := F) c 17 ∗ semP (F := F) c 18 ∗ semP (F := F) c 19 ∗ semP (F := F) c 20 ∗ semP (F := F) c 21) := by
  rw [Pipeline.ownSems0_eq_of_list c osem0 [0, 1, 2, 3, 4, 5, 6, 7, 8, 9, 10, 11, 12, 13, 14, 15, 16, 17, 18, 19, 20, 21] (by decide) (by decide)]; rfl
theorem hbmPts0_eq (c : Dev nD) :
    (bigSep H0 (fun b => ((c : Thread nD τ).loc b) ↦{fullShare} V m c b) : sProp 𝕄) = iprop(arrP m c main_v0 ∗ arrP m c main_v1 ∗ arrP m c main_arg2 ∗ arrP m c main_v2 ∗ arrP m c main_arg4 ∗ arrP m c main_cst) := by
  rw [BI.bigSep_eq_bigSepL_of_eq [main_v0, main_v1, main_arg2, main_v2, main_arg4, main_cst] (by decide) (by decide)]; rfl
theorem ownedPts0_eq (c : Dev nD) :
    (Pipeline.owned R0 c : sProp 𝕄) = iprop(bufP (F := F) c main_v3_0 ∗ bufP (F := F) c main_v3_1 ∗ bufP (F := F) c main_v3_2 ∗ bufP (F := F) c main_v3_3 ∗ bufP (F := F) c main_v3_4) := by
  unfold Pipeline.owned; rw [BI.bigSep_eq_bigSepL_of_eq [main_v3_0, main_v3_1, main_v3_2, main_v3_3, main_v3_4] (by decide) (by decide)]; rfl

/-- What the region holds, by parts. -/
theorem region_eq (c : Dev nD) : (Pipeline.ΦDR osem0 (cfg0.spec) H0 R0 (V m) c : sProp 𝕄)
    = iprop((bufP (F := F) c cc0_scratch0 ∗ bufP (F := F) c cc0_scratch1 ∗ bufP (F := F) c cc0_scratch2 ∗ bufP (F := F) c cc0_scratch3 ∗ bufP (F := F) c cc0_scratch4 ∗ bufP (F := F) c cc0_scratch5 ∗ bufP (F := F) c cc0_scratch6 ∗ bufP (F := F) c cc0_scratch7 ∗ bufP (F := F) c cc0_scratch8 ∗ bufP (F := F) c cc0_scratch9 ∗ bufP (F := F) c cc0_scratch10 ∗ bufP (F := F) c cc0_scratch11 ∗ bufP (F := F) c cc0_scratch12) ∗ (∃ r, prngReg c r) ∗ (semP (F := F) c 0 ∗ semP (F := F) c 1 ∗ semP (F := F) c 2 ∗ semP (F := F) c 3 ∗ semP (F := F) c 4 ∗ semP (F := F) c 5 ∗ semP (F := F) c 6 ∗ semP (F := F) c 7 ∗ semP (F := F) c 8 ∗ semP (F := F) c 9 ∗ semP (F := F) c 10 ∗ semP (F := F) c 11 ∗ semP (F := F) c 12 ∗ semP (F := F) c 13 ∗ semP (F := F) c 14 ∗ semP (F := F) c 15 ∗ semP (F := F) c 16 ∗ semP (F := F) c 17 ∗ semP (F := F) c 18 ∗ semP (F := F) c 19 ∗ semP (F := F) c 20 ∗ semP (F := F) c 21) ∗ (arrP m c main_v0 ∗ arrP m c main_v1 ∗ arrP m c main_arg2 ∗ arrP m c main_v2 ∗ arrP m c main_arg4 ∗ arrP m c main_cst)
      ∗ bufP (F := F) c main_v3_0 ∗ bufP (F := F) c main_v3_1 ∗ bufP (F := F) c main_v3_2 ∗ bufP (F := F) c main_v3_3 ∗ bufP (F := F) c main_v3_4) := by
  rw [Pipeline.ΦDR_eq, show (Pipeline.scopedRest (Ix := Unit) (Name := ℕ) (U := Pipeline.UD sig nD τ) (Lvl := ℕ) (Val := Elt F) (cfg0.spec) c : sProp 𝕄) = iprop(bufP (F := F) c cc0_scratch0 ∗ bufP (F := F) c cc0_scratch1 ∗ bufP (F := F) c cc0_scratch2 ∗ bufP (F := F) c cc0_scratch3 ∗ bufP (F := F) c cc0_scratch4 ∗ bufP (F := F) c cc0_scratch5 ∗ bufP (F := F) c cc0_scratch6 ∗ bufP (F := F) c cc0_scratch7 ∗ bufP (F := F) c cc0_scratch8 ∗ bufP (F := F) c cc0_scratch9 ∗ bufP (F := F) c cc0_scratch10 ∗ bufP (F := F) c cc0_scratch11 ∗ bufP (F := F) c cc0_scratch12) from scopedRest0_eq c, ownSems00_eq, hbmPts0_eq, ownedPts0_eq]

/-- The body's pre- and postcondition, the results apart. -/
theorem bodyPre_eq (c : Dev nD) : bodyPre c (V m c main_v0) (V m c main_arg2) (V m c main_v1) (V m c main_v2) (V m c main_arg4) (V m c main_cst)
    = iprop(flatP m c ∗ (bufP (F := F) c main_v3_0 ∗ bufP (F := F) c main_v3_1 ∗ bufP (F := F) c main_v3_2 ∗ bufP (F := F) c main_v3_3 ∗ bufP (F := F) c main_v3_4)
      ∗ ∃ Wt, owes (c : Thread nD τ) 0 Wt) := by
  rw [← rest_flat]
  unfold restP bodyPre
  rw [qk_blocks, ← v_block, show anyP (F := F) c codeH = bufP (F := F) c main_v3_3 from (any_whole c main_v3_3).symm,
    show anyP (F := F) c scaleH = bufP (F := F) c main_v3_4 from (any_whole c main_v3_4).symm]
  refine eq_of_both ?_ ?_
  · iintro ⟨K0, K1, K2, K3, K4, K5, K6, K7, K8, K9, K10, K11, K12, K13, K14, K15, K16, K17, K18, ⟨Hq, Hk⟩, Hv, Hc, Hs, K19, HW⟩
    isplitl [K0 K1 K2 K3 K4 K5 K6 K7 K8 K9 K10 K11 K12 K13 K14 K15 K16 K17 K18 K19]
    · isplitl [K0]; · iexact K0
      isplitl [K1]; · iexact K1
      isplitl [K2]; · iexact K2
      isplitl [K3]; · iexact K3
      isplitl [K4]; · iexact K4
      isplitl [K5]; · iexact K5
      isplitl [K6]; · iexact K6
      isplitl [K7]; · iexact K7
      isplitl [K8]; · iexact K8
      isplitl [K9]; · iexact K9
      isplitl [K10]; · iexact K10
      isplitl [K11]; · iexact K11
      isplitl [K12]; · iexact K12
      isplitl [K13]; · iexact K13
      isplitl [K14]; · iexact K14
      isplitl [K15]; · iexact K15
      isplitl [K16]; · iexact K16
      isplitl [K17]; · iexact K17
      isplitl [K18]; · iexact K18
      iexact K19
    isplitl [Hq Hk Hv Hc Hs]
    · isplitl [Hq]; · iexact Hq
      isplitl [Hk]; · iexact Hk
      isplitl [Hv]; · iexact Hv
      isplitl [Hc]; · iexact Hc
      iexact Hs
    iexact HW
  · iintro ⟨⟨K0, K1, K2, K3, K4, K5, K6, K7, K8, K9, K10, K11, K12, K13, K14, K15, K16, K17, K18, K19⟩, ⟨Hq, Hk, Hv, Hc, Hs⟩, HW⟩
    isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [K10]; · iexact K10
    isplitl [K11]; · iexact K11
    isplitl [K12]; · iexact K12
    isplitl [K13]; · iexact K13
    isplitl [K14]; · iexact K14
    isplitl [K15]; · iexact K15
    isplitl [K16]; · iexact K16
    isplitl [K17]; · iexact K17
    isplitl [K18]; · iexact K18
    isplitl [Hq Hk]
    · isplitl [Hq]; · iexact Hq
      iexact Hk
    isplitl [Hv]; · iexact Hv
    isplitl [Hc]; · iexact Hc
    isplitl [Hs]; · iexact Hs
    isplitl [K19]; · iexact K19
    iexact HW

/-! ## The run -/

def dats (_ : Fin 1) (c : Dev nD) : Dat τ (Elt F) Unit ℕ (Pipeline.UD sig nD τ) ℕ cfg0 c where
  A w := w.elim0
  after w t := w.elim0
  Φ _ := Pipeline.ΦDR osem0 (cfg0.spec) H0 R0 (V m) c
  q _ := fullShare
  owed _ := 0

/-- Resources no run of the body looks at stay. -/
theorem framed (c : Dev nD) {A B R : sProp 𝕄} (h : A ⊢ wp frame (wpE (defs₀ (F := F)) Variants.none (c : Thread nD τ) none) Set.univ body (fun _ => B)) :
    iprop(A ∗ R) ⊢ wp frame (wpE (defs₀ (F := F)) Variants.none (c : Thread nD τ) none) Set.univ body (fun _ => iprop(B ∗ R)) :=
  BIBase.Entails.trans (sep_mono_l h) (wp_frame_r _ _ _)

theorem body_frame (c : Dev nD) :
    iprop(Pipeline.ΦDR osem0 (cfg0.spec) H0 R0 (V m) c ∗ ∃ Wt, owes (c : Thread nD τ) 0 Wt)
      ⊢ wp frame (wpE (defs₀ (F := F)) Variants.none (c : Thread nD τ) none) Set.univ body
        (fun _ => iprop(Pipeline.ΦDR osem0 (cfg0.spec) H0 R0 (V m) c ∗ ∃ Wt, owes (c : Thread nD τ) 0 Wt)) := by
  rw [region_eq]
  have h := bodyRun c (V m c main_v0) (V m c main_arg2) (V m c main_v1) (V m c main_v2) (V m c main_arg4) (V m c main_cst)
  rw [bodyPre_eq] at h
  have h' := framed c (R := iprop(∃ r, prngReg c r)) h
  refine BIBase.Entails.trans ?_ (BIBase.Entails.trans h' (wp_mono _ _ _ fun _ => ?_))
  · iintro ⟨⟨HB, HP, HC, HA, HR⟩, HW⟩
    isplitl [HB HC HA HR HW]
    · isplitl [HB HC HA]
      · isplitl [HB]; · iexact HB
        isplitl [HC]; · iexact HC
        iexact HA
      isplitl [HR]; · iexact HR
      iexact HW
    iexact HP
  · iintro ⟨⟨⟨HB, HC, HA⟩, HR, HW⟩, HP⟩
    isplitl [HB HC HA HR HP]
    · isplitl [HB]; · iexact HB
      isplitl [HP]; · iexact HP
      isplitl [HC]; · iexact HC
      isplitl [HA]; · iexact HA
      iexact HR
    iexact HW

theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t) (fun _ => iprop((dats m 0 c).Φ t.succ ∗ (dats m 0 c).owesAt () t.succ)) := by
  rw [show (dats m 0 c).Φ t.succ = Pipeline.ΦDR osem0 (cfg0.spec) H0 R0 (V m) c from rfl, show (dats m 0 c).Φ t.castSucc = Pipeline.ΦDR osem0 (cfg0.spec) H0 R0 (V m) c from rfl]
  unfold Dat.owesAt Pipeline.owesWithin
  rw [show (dats m 0 c).owed t.castSucc = 0 from rfl, show (dats m 0 c).owed t.succ = 0 from rfl]
  refine BIBase.Entails.trans ?_ (BIBase.Entails.trans (body_frame m c) (wp_mono _ _ _ fun _ => ?_))
  · iintro ⟨HΦ, ⟨%W, -, HW⟩⟩
    isplitl [HΦ]; · iexact HΦ
    iexists W; iexact HW
  · iintro ⟨HΦ, ⟨%W, HW⟩⟩
    isplitl [HΦ]; · iexact HΦ
    iexists W; isplitr; · ipureintro; exact fun _ _ => Or.inl trivial
    iexact HW

theorem defs₀_row (t : Fin cfg0.N) : defs₀ (F := F) .tc cfg0.body (cfg0.bodyArgs t (cfg0.slots t)) = bodyAt0 t := by
  unfold defs₀; rw [Defs.onTc_tc]

theorem no_window (Φ : Fin cfg0.W → sProp 𝕄) : bigSep Finset.univ Φ = iprop(emp) := rfl

theorem body_obligation (c : Dev nD) : BodyObligation (dats (F := F) m 0 c) (defs₀ (F := F)) Variants.none () Set.univ := fun t => by
  rw [no_window, no_window, defs₀_row]
  refine triple_restated (sound_body m c t) rfl ?_ fun _ => ?_
  · iintro ⟨H1, H2, -⟩
    isplitl [H1]; · iexact H1
    iexact H2
  · iintro ⟨H1, H2⟩
    isplitl [H1]; · iexact H1
    isplitl [H2]; · iexact H2
    iempintro

set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain0 m) (hA := fun _ w => w.elim0)
    (hin := fun _ => .rfl) (hout := fun _ => .rfl)

/-- The kernel runs from every memory, leaves its arguments as they were and every semaphore at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of m fun c => (h.1 c).2, h.2⟩) (run_main m ρ)

end Cert.Proof.Kernel

end
-- ==== Proof.IdealParts.lean ====
/- The kernel's transfers, named: the row chunks of `x` and their semaphores, the column blocks of the weight and
   the six slots they land in, the two output slots and the head groups of `q` they are copied to. The printed
   slices are equated with these names, so that one run of a loop's trip serves every trip. -/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Whole arrays -/

abbrev xM : Memref sig .tc .hbm S256x7168 .bf16 := Memref.whole main_v0
abbrev wM : Memref sig .tc .hbm S7168x9216 .fp8e4m3 := Memref.whole main_arg2
abbrev qM : Memref sig .tc .hbm S256x56x128 .bf16 := Memref.whole main_v3_0
abbrev kM : Memref sig .tc .hbm S256x8x128 .bf16 := Memref.whole main_v3_1
abbrev vM : Memref sig .tc .hbm S256x8x128 .bf16 := Memref.whole main_v3_2
abbrev xbM : Memref sig .tc .vmem S256x7168 .bf16 := Memref.whole cc0_scratch0
abbrev wbM : Memref sig .tc .vmem S6x7168x1024 .fp8e4m3 := Memref.whole cc0_scratch3
abbrev obM : Memref sig .tc .vmem S2x256x8x128 .bf16 := Memref.whole cc0_scratch12

/-! ## Offsets, each within its array -/

abbrev xOff (c : Fin 8) : Fin 2 → Nat := ![32 * c.val, 0]
theorem xOff_inb : ∀ c : Fin 8, ∀ a, xOff c a + S32x7168.size a ≤ S256x7168.size a := by decide
abbrev wOff (b : Fin 9) : Fin 2 → Nat := ![0, 1024 * b.val]
theorem wOff_inb : ∀ b : Fin 9, ∀ a, wOff b a + S7168x1024.size a ≤ S7168x9216.size a := by decide
abbrev wsOff (s : Fin 6) : Fin 3 → Nat := ![s.val, 0, 0]
theorem wsOff_inb : ∀ s : Fin 6, ∀ a, wsOff s a + S1x7168x1024.size a ≤ S6x7168x1024.size a := by decide
abbrev osOff (s : Fin 2) : Fin 4 → Nat := ![s.val, 0, 0, 0]
theorem osOff_inb : ∀ s : Fin 2, ∀ a, osOff s a + S1x256x8x128.size a ≤ S2x256x8x128.size a := by decide
abbrev qOff (g : Fin 7) : Fin 3 → Nat := ![0, 8 * g.val, 0]
theorem qOff_inb : ∀ g : Fin 7, ∀ a, qOff g a + S256x8x128.size a ≤ S256x56x128.size a := by decide
abbrev o1 (s : ℕ) : Fin 1 → Nat := ![s]
theorem o8_inb : ∀ c : Fin 8, ∀ a, o1 c.val a + S1.size a ≤ S8.size a := by decide
theorem o6_inb : ∀ c : Fin 6, ∀ a, o1 c.val a + S1.size a ≤ S6.size a := by decide
theorem o4_inb : ∀ c : Fin 4, ∀ a, o1 c.val a + S1.size a ≤ S4.size a := by decide
theorem o2_inb : ∀ c : Fin 2, ∀ a, o1 c.val a + S1.size a ≤ S2.size a := by decide

instance (c : Fin 8) : ClosedOff (xOff c) := ⟨xOff c, rfl⟩
instance (b : Fin 9) : ClosedOff (wOff b) := ⟨wOff b, rfl⟩
instance (s : Fin 6) : ClosedOff (wsOff s) := ⟨wsOff s, rfl⟩
instance (s : Fin 2) : ClosedOff (osOff s) := ⟨osOff s, rfl⟩
instance (g : Fin 7) : ClosedOff (qOff g) := ⟨qOff g, rfl⟩

/-! ## The names -/

/-- Rows `32 c … 32 c + 31` of `x`, -/
def xrow (c : Fin 8) : Memref sig .tc .hbm S32x7168 .bf16 :=
  xM.slice (Rect.unit (s := S256x7168) (xOff c) S32x7168.size (xOff_inb c)) (fun _ => rfl)
/-- and where they land. -/
def xslot (c : Fin 8) : Memref sig .tc .vmem S32x7168 .bf16 :=
  xbM.slice (Rect.unit (s := S256x7168) (xOff c) S32x7168.size (xOff_inb c)) (fun _ => rfl)
/-- Columns `1024 b … 1024 b + 1023` of the weight, -/
def wcol (b : Fin 9) : Memref sig .tc .hbm S7168x1024 .fp8e4m3 :=
  wM.slice (Rect.unit (s := S7168x9216) (wOff b) S7168x1024.size (wOff_inb b)) (fun _ => rfl)
/-- and a slot such a block lands in. -/
def wslot (s : Fin 6) : Memref sig .tc .vmem S7168x1024 .fp8e4m3 :=
  (wbM.slice (Rect.unit (s := S6x7168x1024) (wsOff s) S1x7168x1024.size (wsOff_inb s)) (fun _ => rfl)).squeeze S7168x1024 squeezes_S1x7168x1024_S7168x1024
/-- One of the two output slots, -/
def oslot (s : Fin 2) : Memref sig .tc .vmem S256x8x128 .bf16 :=
  (obM.slice (Rect.unit (s := S2x256x8x128) (osOff s) S1x256x8x128.size (osOff_inb s)) (fun _ => rfl)).squeeze S256x8x128 squeezes_S1x256x8x128_S256x8x128
/-- and the eight heads of `q` a block is copied to. -/
def qgrp (g : Fin 7) : Memref sig .tc .hbm S256x8x128 .bf16 :=
  qM.slice (Rect.unit (s := S256x56x128) (qOff g) S256x8x128.size (qOff_inb g)) (fun _ => rfl)

/-- `k` and `v`, each as its one block. -/
abbrev kAll : Memref sig .tc .hbm S256x8x128 .bf16 :=
  kM.slice (Rect.unit (s := S256x8x128) ![0, 0, 0] S256x8x128.size inb_S256x8x128_S256x8x128_0_0_0) (fun _ => rfl)
abbrev vAll : Memref sig .tc .hbm S256x8x128 .bf16 :=
  vM.slice (Rect.unit (s := S256x8x128) ![0, 0, 0] S256x8x128.size inb_S256x8x128_S256x8x128_0_0_0) (fun _ => rfl)

/-- Where output block `b` is copied to. -/
def odst (b : ℕ) : Memref sig .tc .hbm S256x8x128 .bf16 := if b < 7 then qgrp (Ring.bk 7 b) else kAll
theorem odst_q {b : ℕ} (h : b < 7) : odst b = qgrp (Ring.bk 7 b) := if_pos h
theorem odst_k {b : ℕ} (h : ¬ b < 7) : odst b = kAll := if_neg h

/-- The five arrays of semaphores. -/
def csx (c : Fin 8) : DmaSems sig S_ := (cc0_scratch13.slice (Rect.unit (s := S8) (o1 c.val) S1.size (o8_inb c))).squeeze S_ squeezes_S1_S_
def csw (s : Fin 6) : DmaSems sig S_ := (cc0_scratch14.slice (Rect.unit (s := S6) (o1 s.val) S1.size (o6_inb s))).squeeze S_ squeezes_S1_S_
def css (s : Fin 4) : DmaSems sig S_ := (cc0_scratch15.slice (Rect.unit (s := S4) (o1 s.val) S1.size (o4_inb s))).squeeze S_ squeezes_S1_S_
def cso (s : Fin 2) : DmaSems sig S_ := (cc0_scratch16.slice (Rect.unit (s := S2) (o1 s.val) S1.size (o2_inb s))).squeeze S_ squeezes_S1_S_
def csm (s : Fin 2) : DmaSems sig S_ := (cc0_scratch17.slice (Rect.unit (s := S2) (o1 s.val) S1.size (o2_inb s))).squeeze S_ squeezes_S1_S_

/-! ## The printed slices are the names -/

private theorem xrow_congr {off : Fin 2 → Nat} {c : Fin 8} (e : off = xOff c) (hh hs) :
    xM.slice (Rect.unit (s := S256x7168) off S32x7168.size hh) hs = xrow c := Memref.slice_unit_congr _ e _ _ _ (fun _ => rfl)
private theorem xslot_congr {off : Fin 2 → Nat} {c : Fin 8} (e : off = xOff c) (hh hs) :
    xbM.slice (Rect.unit (s := S256x7168) off S32x7168.size hh) hs = xslot c := Memref.slice_unit_congr _ e _ _ _ (fun _ => rfl)
private theorem wcol_congr {off : Fin 2 → Nat} {b : Fin 9} (e : off = wOff b) (hh hs) :
    wM.slice (Rect.unit (s := S7168x9216) off S7168x1024.size hh) hs = wcol b := Memref.slice_unit_congr _ e _ _ _ (fun _ => rfl)
private theorem wslot_congr {off : Fin 3 → Nat} {s : Fin 6} (e : off = wsOff s) (hh hs) :
    (wbM.slice (Rect.unit (s := S6x7168x1024) off S1x7168x1024.size hh) hs).squeeze S7168x1024 squeezes_S1x7168x1024_S7168x1024 = wslot s :=
  congrArg (fun M : Memref sig .tc .vmem S1x7168x1024 .fp8e4m3 => M.squeeze S7168x1024 squeezes_S1x7168x1024_S7168x1024) (Memref.slice_unit_congr _ e _ _ _ _)
private theorem oslot_congr {off : Fin 4 → Nat} {s : Fin 2} (e : off = osOff s) (hh hs) :
    (obM.slice (Rect.unit (s := S2x256x8x128) off S1x256x8x128.size hh) hs).squeeze S256x8x128 squeezes_S1x256x8x128_S256x8x128 = oslot s :=
  congrArg (fun M : Memref sig .tc .vmem S1x256x8x128 .bf16 => M.squeeze S256x8x128 squeezes_S1x256x8x128_S256x8x128) (Memref.slice_unit_congr _ e _ _ _ _)
private theorem qgrp_congr {off : Fin 3 → Nat} {g : Fin 7} (e : off = qOff g) (hh hs) :
    qM.slice (Rect.unit (s := S256x56x128) off S256x8x128.size hh) hs = qgrp g := Memref.slice_unit_congr _ e _ _ _ (fun _ => rfl)
private theorem csx_congr {off : Fin 1 → Nat} {s : Fin 8} (e : off = o1 s.val) (hh) :
    (cc0_scratch13.slice (Rect.unit (s := S8) off S1.size hh)).squeeze S_ squeezes_S1_S_ = csx s :=
  congrArg (fun A : DmaSems sig S1 => A.squeeze S_ squeezes_S1_S_) (SemArray.slice_unit_congr _ e _ _)
private theorem csw_congr {off : Fin 1 → Nat} {s : Fin 6} (e : off = o1 s.val) (hh) :
    (cc0_scratch14.slice (Rect.unit (s := S6) off S1.size hh)).squeeze S_ squeezes_S1_S_ = csw s :=
  congrArg (fun A : DmaSems sig S1 => A.squeeze S_ squeezes_S1_S_) (SemArray.slice_unit_congr _ e _ _)
private theorem css_congr {off : Fin 1 → Nat} {s : Fin 4} (e : off = o1 s.val) (hh) :
    (cc0_scratch15.slice (Rect.unit (s := S4) off S1.size hh)).squeeze S_ squeezes_S1_S_ = css s :=
  congrArg (fun A : DmaSems sig S1 => A.squeeze S_ squeezes_S1_S_) (SemArray.slice_unit_congr _ e _ _)
private theorem cso_congr {off : Fin 1 → Nat} {s : Fin 2} (e : off = o1 s.val) (hh) :
    (cc0_scratch16.slice (Rect.unit (s := S2) off S1.size hh)).squeeze S_ squeezes_S1_S_ = cso s :=
  congrArg (fun A : DmaSems sig S1 => A.squeeze S_ squeezes_S1_S_) (SemArray.slice_unit_congr _ e _ _)
private theorem csm_congr {off : Fin 1 → Nat} {s : Fin 2} (e : off = o1 s.val) (hh) :
    (cc0_scratch17.slice (Rect.unit (s := S2) off S1.size hh)).squeeze S_ squeezes_S1_S_ = csm s :=
  congrArg (fun A : DmaSems sig S1 => A.squeeze S_ squeezes_S1_S_) (SemArray.slice_unit_congr _ e _ _)

/-! ### Outside the loops -/

@[sl_canon] theorem xrowL0 (hh hs) : xM.slice (Rect.unit (s := S256x7168) ![0, 0] S32x7168.size hh) hs = xrow 0 := xrow_congr (by decide) _ _
@[sl_canon] theorem xslotL0 (hh hs) : xbM.slice (Rect.unit (s := S256x7168) ![0, 0] S32x7168.size hh) hs = xslot 0 := xslot_congr (by decide) _ _
@[sl_canon] theorem csxL0 (hh) : (cc0_scratch13.slice (Rect.unit (s := S8) ![0] S1.size hh)).squeeze S_ squeezes_S1_S_ = csx 0 := csx_congr (by decide) _
@[sl_canon] theorem xrowL1 (hh hs) : xM.slice (Rect.unit (s := S256x7168) ![32, 0] S32x7168.size hh) hs = xrow 1 := xrow_congr (by decide) _ _
@[sl_canon] theorem xslotL1 (hh hs) : xbM.slice (Rect.unit (s := S256x7168) ![32, 0] S32x7168.size hh) hs = xslot 1 := xslot_congr (by decide) _ _
@[sl_canon] theorem csxL1 (hh) : (cc0_scratch13.slice (Rect.unit (s := S8) ![1] S1.size hh)).squeeze S_ squeezes_S1_S_ = csx 1 := csx_congr (by decide) _
@[sl_canon] theorem xrowL2 (hh hs) : xM.slice (Rect.unit (s := S256x7168) ![64, 0] S32x7168.size hh) hs = xrow 2 := xrow_congr (by decide) _ _
@[sl_canon] theorem xslotL2 (hh hs) : xbM.slice (Rect.unit (s := S256x7168) ![64, 0] S32x7168.size hh) hs = xslot 2 := xslot_congr (by decide) _ _
@[sl_canon] theorem csxL2 (hh) : (cc0_scratch13.slice (Rect.unit (s := S8) ![2] S1.size hh)).squeeze S_ squeezes_S1_S_ = csx 2 := csx_congr (by decide) _
@[sl_canon] theorem xrowL3 (hh hs) : xM.slice (Rect.unit (s := S256x7168) ![96, 0] S32x7168.size hh) hs = xrow 3 := xrow_congr (by decide) _ _
@[sl_canon] theorem xslotL3 (hh hs) : xbM.slice (Rect.unit (s := S256x7168) ![96, 0] S32x7168.size hh) hs = xslot 3 := xslot_congr (by decide) _ _
@[sl_canon] theorem csxL3 (hh) : (cc0_scratch13.slice (Rect.unit (s := S8) ![3] S1.size hh)).squeeze S_ squeezes_S1_S_ = csx 3 := csx_congr (by decide) _
@[sl_canon] theorem xrowL4 (hh hs) : xM.slice (Rect.unit (s := S256x7168) ![128, 0] S32x7168.size hh) hs = xrow 4 := xrow_congr (by decide) _ _
@[sl_canon] theorem xslotL4 (hh hs) : xbM.slice (Rect.unit (s := S256x7168) ![128, 0] S32x7168.size hh) hs = xslot 4 := xslot_congr (by decide) _ _
@[sl_canon] theorem csxL4 (hh) : (cc0_scratch13.slice (Rect.unit (s := S8) ![4] S1.size hh)).squeeze S_ squeezes_S1_S_ = csx 4 := csx_congr (by decide) _
@[sl_canon] theorem xrowL5 (hh hs) : xM.slice (Rect.unit (s := S256x7168) ![160, 0] S32x7168.size hh) hs = xrow 5 := xrow_congr (by decide) _ _
@[sl_canon] theorem xslotL5 (hh hs) : xbM.slice (Rect.unit (s := S256x7168) ![160, 0] S32x7168.size hh) hs = xslot 5 := xslot_congr (by decide) _ _
@[sl_canon] theorem csxL5 (hh) : (cc0_scratch13.slice (Rect.unit (s := S8) ![5] S1.size hh)).squeeze S_ squeezes_S1_S_ = csx 5 := csx_congr (by decide) _
@[sl_canon] theorem xrowL6 (hh hs) : xM.slice (Rect.unit (s := S256x7168) ![192, 0] S32x7168.size hh) hs = xrow 6 := xrow_congr (by decide) _ _
@[sl_canon] theorem xslotL6 (hh hs) : xbM.slice (Rect.unit (s := S256x7168) ![192, 0] S32x7168.size hh) hs = xslot 6 := xslot_congr (by decide) _ _
@[sl_canon] theorem csxL6 (hh) : (cc0_scratch13.slice (Rect.unit (s := S8) ![6] S1.size hh)).squeeze S_ squeezes_S1_S_ = csx 6 := csx_congr (by decide) _
@[sl_canon] theorem xrowL7 (hh hs) : xM.slice (Rect.unit (s := S256x7168) ![224, 0] S32x7168.size hh) hs = xrow 7 := xrow_congr (by decide) _ _
@[sl_canon] theorem xslotL7 (hh hs) : xbM.slice (Rect.unit (s := S256x7168) ![224, 0] S32x7168.size hh) hs = xslot 7 := xslot_congr (by decide) _ _
@[sl_canon] theorem csxL7 (hh) : (cc0_scratch13.slice (Rect.unit (s := S8) ![7] S1.size hh)).squeeze S_ squeezes_S1_S_ = csx 7 := csx_congr (by decide) _
@[sl_canon] theorem wcolL0 (hh hs) : wM.slice (Rect.unit (s := S7168x9216) ![0, 0] S7168x1024.size hh) hs = wcol 0 := wcol_congr (by decide) _ _
@[sl_canon] theorem wcolL1 (hh hs) : wM.slice (Rect.unit (s := S7168x9216) ![0, 1024] S7168x1024.size hh) hs = wcol 1 := wcol_congr (by decide) _ _
@[sl_canon] theorem wcolL2 (hh hs) : wM.slice (Rect.unit (s := S7168x9216) ![0, 2048] S7168x1024.size hh) hs = wcol 2 := wcol_congr (by decide) _ _
@[sl_canon] theorem wcolL3 (hh hs) : wM.slice (Rect.unit (s := S7168x9216) ![0, 3072] S7168x1024.size hh) hs = wcol 3 := wcol_congr (by decide) _ _
@[sl_canon] theorem wcolL4 (hh hs) : wM.slice (Rect.unit (s := S7168x9216) ![0, 4096] S7168x1024.size hh) hs = wcol 4 := wcol_congr (by decide) _ _
@[sl_canon] theorem wcolL5 (hh hs) : wM.slice (Rect.unit (s := S7168x9216) ![0, 5120] S7168x1024.size hh) hs = wcol 5 := wcol_congr (by decide) _ _
@[sl_canon] theorem wcolL8 (hh hs) : wM.slice (Rect.unit (s := S7168x9216) ![0, 8192] S7168x1024.size hh) hs = wcol 8 := wcol_congr (by decide) _ _
@[sl_canon] theorem wslotL0 (hh hs) : (wbM.slice (Rect.unit (s := S6x7168x1024) ![0, 0, 0] S1x7168x1024.size hh) hs).squeeze S7168x1024 squeezes_S1x7168x1024_S7168x1024 = wslot 0 := wslot_congr (by decide) _ _
@[sl_canon] theorem cswL0 (hh) : (cc0_scratch14.slice (Rect.unit (s := S6) ![0] S1.size hh)).squeeze S_ squeezes_S1_S_ = csw 0 := csw_congr (by decide) _
@[sl_canon] theorem wslotL1 (hh hs) : (wbM.slice (Rect.unit (s := S6x7168x1024) ![1, 0, 0] S1x7168x1024.size hh) hs).squeeze S7168x1024 squeezes_S1x7168x1024_S7168x1024 = wslot 1 := wslot_congr (by decide) _ _
@[sl_canon] theorem cswL1 (hh) : (cc0_scratch14.slice (Rect.unit (s := S6) ![1] S1.size hh)).squeeze S_ squeezes_S1_S_ = csw 1 := csw_congr (by decide) _
@[sl_canon] theorem wslotL2 (hh hs) : (wbM.slice (Rect.unit (s := S6x7168x1024) ![2, 0, 0] S1x7168x1024.size hh) hs).squeeze S7168x1024 squeezes_S1x7168x1024_S7168x1024 = wslot 2 := wslot_congr (by decide) _ _
@[sl_canon] theorem cswL2 (hh) : (cc0_scratch14.slice (Rect.unit (s := S6) ![2] S1.size hh)).squeeze S_ squeezes_S1_S_ = csw 2 := csw_congr (by decide) _
@[sl_canon] theorem wslotL3 (hh hs) : (wbM.slice (Rect.unit (s := S6x7168x1024) ![3, 0, 0] S1x7168x1024.size hh) hs).squeeze S7168x1024 squeezes_S1x7168x1024_S7168x1024 = wslot 3 := wslot_congr (by decide) _ _
@[sl_canon] theorem cswL3 (hh) : (cc0_scratch14.slice (Rect.unit (s := S6) ![3] S1.size hh)).squeeze S_ squeezes_S1_S_ = csw 3 := csw_congr (by decide) _
@[sl_canon] theorem wslotL4 (hh hs) : (wbM.slice (Rect.unit (s := S6x7168x1024) ![4, 0, 0] S1x7168x1024.size hh) hs).squeeze S7168x1024 squeezes_S1x7168x1024_S7168x1024 = wslot 4 := wslot_congr (by decide) _ _
@[sl_canon] theorem cswL4 (hh) : (cc0_scratch14.slice (Rect.unit (s := S6) ![4] S1.size hh)).squeeze S_ squeezes_S1_S_ = csw 4 := csw_congr (by decide) _
@[sl_canon] theorem wslotL5 (hh hs) : (wbM.slice (Rect.unit (s := S6x7168x1024) ![5, 0, 0] S1x7168x1024.size hh) hs).squeeze S7168x1024 squeezes_S1x7168x1024_S7168x1024 = wslot 5 := wslot_congr (by decide) _ _
@[sl_canon] theorem cswL5 (hh) : (cc0_scratch14.slice (Rect.unit (s := S6) ![5] S1.size hh)).squeeze S_ squeezes_S1_S_ = csw 5 := csw_congr (by decide) _
@[sl_canon] theorem cssL0 (hh) : (cc0_scratch15.slice (Rect.unit (s := S4) ![0] S1.size hh)).squeeze S_ squeezes_S1_S_ = css 0 := css_congr (by decide) _
@[sl_canon] theorem cssL1 (hh) : (cc0_scratch15.slice (Rect.unit (s := S4) ![1] S1.size hh)).squeeze S_ squeezes_S1_S_ = css 1 := css_congr (by decide) _
@[sl_canon] theorem cssL2 (hh) : (cc0_scratch15.slice (Rect.unit (s := S4) ![2] S1.size hh)).squeeze S_ squeezes_S1_S_ = css 2 := css_congr (by decide) _
@[sl_canon] theorem cssL3 (hh) : (cc0_scratch15.slice (Rect.unit (s := S4) ![3] S1.size hh)).squeeze S_ squeezes_S1_S_ = css 3 := css_congr (by decide) _
@[sl_canon] theorem csoL0 (hh) : (cc0_scratch16.slice (Rect.unit (s := S2) ![0] S1.size hh)).squeeze S_ squeezes_S1_S_ = cso 0 := cso_congr (by decide) _
@[sl_canon] theorem csmL0 (hh) : (cc0_scratch17.slice (Rect.unit (s := S2) ![0] S1.size hh)).squeeze S_ squeezes_S1_S_ = csm 0 := csm_congr (by decide) _
@[sl_canon] theorem oslotL0 (hh hs) : (obM.slice (Rect.unit (s := S2x256x8x128) ![0, 0, 0, 0] S1x256x8x128.size hh) hs).squeeze S256x8x128 squeezes_S1x256x8x128_S256x8x128 = oslot 0 := oslot_congr (by decide) _ _
@[sl_canon] theorem csoL1 (hh) : (cc0_scratch16.slice (Rect.unit (s := S2) ![1] S1.size hh)).squeeze S_ squeezes_S1_S_ = cso 1 := cso_congr (by decide) _
@[sl_canon] theorem csmL1 (hh) : (cc0_scratch17.slice (Rect.unit (s := S2) ![1] S1.size hh)).squeeze S_ squeezes_S1_S_ = csm 1 := csm_congr (by decide) _
@[sl_canon] theorem oslotL1 (hh hs) : (obM.slice (Rect.unit (s := S2x256x8x128) ![1, 0, 0, 0] S1x256x8x128.size hh) hs).squeeze S256x8x128 squeezes_S1x256x8x128_S256x8x128 = oslot 1 := oslot_congr (by decide) _ _

/-! ### In a trip -/

/-- A trip of the first loop is a chunk, -/
abbrev ck (k : Fin k0_t1_loop.trips) : Fin 8 := ⟨k.val, k.isLt⟩
/-- a trip of the second an output block. -/
abbrev bk (k : Fin k0_t2_loop.trips) : Fin 8 := ⟨k.val, k.isLt⟩
/-- The weight's block an output block is computed from. -/
abbrev wb (k : ℕ) : Fin 9 := Ring.bk 9 k
/-- The slot of a weight's block, -/
abbrev ws (k : ℕ) : Fin 6 := Ring.sl 6 k
/-- the slot of an output block. -/
abbrev os (k : ℕ) : Fin 2 := Ring.sl 2 k

instance (k : Fin k0_t1_loop.trips) : ClosedOff (xOff (ck k)) := ⟨![32 * k.val, 0], rfl⟩

@[sl_canon] theorem xrowK (k : Fin k0_t1_loop.trips) (hh hs) :
    xM.slice (Rect.unit (s := S256x7168) (k0_off2 k) S32x7168.size hh) hs = xrow (ck k) := xrow_congr (k0_off2_eq k) _ _
@[sl_canon] theorem xslotK (k : Fin k0_t1_loop.trips) (hh hs) :
    xbM.slice (Rect.unit (s := S256x7168) (k0_off2 k) S32x7168.size hh) hs = xslot (ck k) := xslot_congr (k0_off2_eq k) _ _
@[sl_canon] theorem csxK (k : Fin k0_t1_loop.trips) (hh) :
    (cc0_scratch13.slice (Rect.unit (s := S8) (k0_off1 k) S1.size hh)).squeeze S_ squeezes_S1_S_ = csx (ck k) := csx_congr (k0_off1_eq k) _

instance (k : Fin k0_t2_loop.trips) : ClosedOff (wsOff (ws k.val)) := ⟨![k.val % 6, 0, 0], rfl⟩
instance (k : Fin k0_t2_loop.trips) : ClosedOff (osOff (os k.val)) := ⟨![k.val % 2, 0, 0, 0], rfl⟩

@[sl_canon] theorem wcolK (k : Fin k0_t2_loop.trips) (hh hs) :
    wM.slice (Rect.unit (s := S7168x9216) (k0_off62 k) S7168x1024.size hh) hs = wcol (wb k.val) :=
  wcol_congr ((by decide : ∀ k, k0_off62 k = wOff (wb k.val)) k) _ _
@[sl_canon] theorem wslotK (k : Fin k0_t2_loop.trips) (hh hs) :
    (wbM.slice (Rect.unit (s := S6x7168x1024) (k0_off61 k) S1x7168x1024.size hh) hs).squeeze S7168x1024 squeezes_S1x7168x1024_S7168x1024 = wslot (ws k.val) :=
  wslot_congr ((by decide : ∀ k, k0_off61 k = wsOff (ws k.val)) k) _ _
@[sl_canon] theorem cswK (k : Fin k0_t2_loop.trips) (hh) :
    (cc0_scratch14.slice (Rect.unit (s := S6) (k0_off60 k) S1.size hh)).squeeze S_ squeezes_S1_S_ = csw (ws k.val) :=
  csw_congr ((by decide : ∀ k, k0_off60 k = o1 (ws k.val).val) k) _
@[sl_canon] theorem csoW (k : Fin k0_t2_loop.trips) (hh) :
    (cc0_scratch16.slice (Rect.unit (s := S2) (k0_off63 k) S1.size hh)).squeeze S_ squeezes_S1_S_ = cso (os k.val) :=
  cso_congr ((by decide : ∀ k, k0_off63 k = o1 (os k.val).val) k) _
@[sl_canon] theorem oslotW (k : Fin k0_t2_loop.trips) (hh hs) :
    (obM.slice (Rect.unit (s := S2x256x8x128) (k0_off64 k) S1x256x8x128.size hh) hs).squeeze S256x8x128 squeezes_S1x256x8x128_S256x8x128 = oslot (os k.val) :=
  oslot_congr ((by decide : ∀ k, k0_off64 k = osOff (os k.val)) k) _ _
@[sl_canon] theorem cswI (k : Fin k0_t2_loop.trips) (hh) :
    (cc0_scratch14.slice (Rect.unit (s := S6) (k0_off73 k) S1.size hh)).squeeze S_ squeezes_S1_S_ = csw (ws k.val) :=
  csw_congr ((by decide : ∀ k, k0_off73 k = o1 (ws k.val).val) k) _
@[sl_canon] theorem wslotI (k : Fin k0_t2_loop.trips) (hh hs) :
    (wbM.slice (Rect.unit (s := S6x7168x1024) (k0_off74 k) S1x7168x1024.size hh) hs).squeeze S7168x1024 squeezes_S1x7168x1024_S7168x1024 = wslot (ws k.val) :=
  wslot_congr ((by decide : ∀ k, k0_off74 k = wsOff (ws k.val)) k) _ _
@[sl_canon] theorem wcolI (k : Fin k0_t2_loop.trips) (hk : k.val < 3) (hh hs) :
    wM.slice (Rect.unit (s := S7168x9216) (k0_off75 k) S7168x1024.size hh) hs = wcol (wb (k.val + 6)) :=
  wcol_congr ((by decide : ∀ k : Fin k0_t2_loop.trips, k.val < 3 → k0_off75 k = wOff (wb (k.val + 6))) k hk) _ _
@[sl_canon] theorem csoI (k : Fin k0_t2_loop.trips) (hh) :
    (cc0_scratch16.slice (Rect.unit (s := S2) (k0_off76 k) S1.size hh)).squeeze S_ squeezes_S1_S_ = cso (os k.val) :=
  cso_congr ((by decide : ∀ k, k0_off76 k = o1 (os k.val).val) k) _
@[sl_canon] theorem oslotI (k : Fin k0_t2_loop.trips) (hh hs) :
    (obM.slice (Rect.unit (s := S2x256x8x128) (k0_off78 k) S1x256x8x128.size hh) hs).squeeze S256x8x128 squeezes_S1x256x8x128_S256x8x128 = oslot (os k.val) :=
  oslot_congr ((by decide : ∀ k, k0_off78 k = osOff (os k.val)) k) _ _
@[sl_canon] theorem qgrpI (k : Fin k0_t2_loop.trips) (hk : k.val < 7) (hh hs) :
    qM.slice (Rect.unit (s := S256x56x128) (k0_off77 k) S256x8x128.size hh) hs = qgrp (Ring.bk 7 k.val) :=
  qgrp_congr ((by decide : ∀ k : Fin k0_t2_loop.trips, k.val < 7 → k0_off77 k = qOff (Ring.bk 7 k.val)) k hk) _ _
@[sl_canon] theorem csoJ (k : Fin k0_t2_loop.trips) (hh) :
    (cc0_scratch16.slice (Rect.unit (s := S2) (k0_off79 k) S1.size hh)).squeeze S_ squeezes_S1_S_ = cso (os k.val) :=
  cso_congr ((by decide : ∀ k, k0_off79 k = o1 (os k.val).val) k) _
@[sl_canon] theorem oslotJ (k : Fin k0_t2_loop.trips) (hh hs) :
    (obM.slice (Rect.unit (s := S2x256x8x128) (k0_off80 k) S1x256x8x128.size hh) hs).squeeze S256x8x128 squeezes_S1x256x8x128_S256x8x128 = oslot (os k.val) :=
  oslot_congr ((by decide : ∀ k, k0_off80 k = osOff (os k.val)) k) _ _

/-! ### The conditions of a trip -/

theorem cond1_iff : ∀ k : Fin k0_t2_loop.trips, k0_cond1 k = 1#1 ↔ 2 ≤ k.val := by decide
theorem cond2_iff : ∀ k : Fin k0_t2_loop.trips, k0_cond2 k = 1#1 ↔ k.val < 3 := by decide
theorem cond3_iff : ∀ k : Fin k0_t2_loop.trips, k0_cond3 k = 1#1 ↔ k.val < 7 := by decide
theorem cond4_iff : ∀ k : Fin k0_t2_loop.trips, k0_cond4 k = 1#1 ↔ k.val = 7 := by decide

end Cert.Proof.KernelIdeal
-- ==== Proof.IdealRows.lean ====
/- The kernel's first loop: one trip normalises, scales and rounds 32 rows. -/
module

public import proofs.«01_k».proof.Proof.IdealParts

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : Nat) (τ : Topo) : Type := Pipeline.UD sig nD τ
local notation "𝕄" => MT nD τ sig Unit (Elt F) ℕ (UU nD τ) ℕ
abbrev 𝒱₀ : Variants := Variants.none

section Pieces
variable (c : Dev nD)

/-- A memref held whole by the core. -/
abbrev heldP {sp : Space} {s : Shape} {e : EltTy} (M : Memref sig .tc sp s e) (f : Buf (Elt F) (M.view.loc (c : Thread nD τ))) : sProp 𝕄 :=
  M.view.loc (c : Thread nD τ) ↦[M.view.set]{fullShare} f
/-- A semaphore at zero. -/
abbrev cellP (s : DmaSems sig S_) : sProp 𝕄 := semVal ((c : Thread nD τ), SemLoc.dma s.sem) 0

/-- What a transfer of `src` leaves in `dst` over contents `f`. -/
abbrev landed {sp sp' : Space} {s : Shape} {e : EltTy} (src : Memref sig .tc sp s e) (dst : Memref sig .tc sp' s e)
    (X : Buf (Elt F) (src.view.loc (c : Thread nD τ))) (f : Buf (Elt F) (dst.view.loc (c : Thread nD τ))) : Buf (Elt F) (dst.view.loc (c : Thread nD τ)) :=
  dst.view.writes (Elt F) f [⟨Rect.whole s, ReadAs.same.apply (src.view.read (Elt F) X)⟩]

/-- A transfer of `src` into `dst` in flight on `sm`, to deliver both. -/
abbrev flightP {sp sp' : Space} {s : Shape} {e : EltTy} (sm : DmaSems sig S_) (N : ℕ) (src : Memref sig .tc sp s e) (dst : Memref sig .tc sp' s e)
    (X : Buf (Elt F) (src.view.loc (c : Thread nD τ))) (f : Buf (Elt F) (dst.view.loc (c : Thread nD τ))) : sProp 𝕄 :=
  Transfers.Flight countersEmb (c : Thread nD τ) (SemLoc.dma sm.sem) () N iprop(heldP c dst (landed c src dst X f) ∗ heldP c src X)

abbrev xflight (X : Buf (Elt F) (xM.view.loc (c : Thread nD τ))) (r : Fin 8) : sProp 𝕄 :=
  iprop(∃ f, flightP c (csx r) 14336 (xrow r) (xslot r) X f)
abbrev xhome (X : Buf (Elt F) (xM.view.loc (c : Thread nD τ))) (r : Fin 8) : sProp 𝕄 :=
  iprop((∃ f, heldP c (xslot r) f) ∗ heldP c (xrow r) X ∗ cellP c (csx r))

end Pieces

abbrev nM : Memref sig .tc .vmem S32x7168 .f32 := Memref.whole cc0_scratch1
abbrev cM : Memref sig .tc .vmem S256x7168 .fp8e4m3 := Memref.whole cc0_scratch2
abbrev nwM : Memref sig .tc .vmem S1x7168 .f32 := Memref.whole cc0_scratch4
abbrev sM : Memref sig .tc .vmem S256x128 .f32 := Memref.whole cc0_scratch10

section Trip
variable (c : Dev nD) (X : Buf (Elt F) (xM.view.loc (c : Thread nD τ))) (fnw : Buf (Elt F) (nwM.view.loc (c : Thread nD τ)))

abbrev trip1 (k : Fin k0_t1_loop.trips) (v115 : FVec F S128x128 .f32) : Prog (TpuEff nD τ sig (Elt F) Λ₀ .tc) Unit :=
  k0_t1_body (F := F) (Memref.whole main_v0) (Memref.isWhole_whole _) (Memref.whole main_v1) (Memref.isWhole_whole _) (Memref.whole main_arg2) (Memref.isWhole_whole _) (Memref.whole main_v2) (Memref.isWhole_whole _) (Memref.whole main_arg4) (Memref.isWhole_whole _) (Memref.whole main_cst) (Memref.isWhole_whole _) (Memref.whole main_v3_0) (Memref.isWhole_whole _) (Memref.whole main_v3_1) (Memref.isWhole_whole _) (Memref.whole main_v3_2) (Memref.isWhole_whole _) (Memref.whole main_v3_3) (Memref.isWhole_whole _) (Memref.whole main_v3_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 v115 k ()

/-- What a trip of the first loop touches. -/
abbrev rows1 (k : Fin k0_t1_loop.trips) (P : sProp 𝕄) (fc : Buf (Elt F) (cM.view.loc (c : Thread nD τ))) (fs : Buf (Elt F) (sM.view.loc (c : Thread nD τ))) : sProp 𝕄 :=
  iprop(P ∗ (∃ f, heldP c nM f) ∗ heldP c cM fc ∗ heldP c nwM fnw ∗ heldP c sM fs ∗ ∃ W, owes (c : Thread nD τ) 0 W)

set_option backward.proofsInPublic true in
/-- One trip: its rows arrive, and their rounded values and scales are written. -/
def trip1Run (k : Fin k0_t1_loop.trips) (v115 : FVec F S128x128 .f32) :
    Σ' (L : List (View.Piece (Elt F) S256x7168 .fp8e4m3)), { L' : List (View.Piece (Elt F) S256x128 .f32) // ∀ fc fs,
      rows1 c fnw k (xflight c X (ck k)) fc fs ⊢ wp frame (wpE (defs₀ (F := F)) 𝒱₀ (c : Thread nD τ) none) Set.univ (trip1 k v115)
        (fun _ => rows1 c fnw k (xhome c X (ck k)) (cM.view.writes (Elt F) fc L) (sM.view.writes (Elt F) fs L')) } := by
  refine ⟨?_, ?_, fun fc fs => ?run⟩
  case run =>
    iintro ⟨⟨%f0, HF⟩, ⟨%fn, HN⟩, HC, HNW, HS, ⟨%W, HW⟩⟩
    dsimp only [trip1]
    sl_unfold [k0_t1_body]
    sl_exec
    sl_step
    isplitl [HF_dst HF_src HF]
    · isplitl [HF_dst]; · iexists _; iexact HF_dst
      isplitl [HF_src]; · iexact HF_src
      iexact HF
    isplitl [HN]; · iexists _; iexact HN
    isplitl [HC]; · iexact HC
    isplitl [HNW]; · iexact HNW
    isplitl [HS]; · iexact HS
    iexists _; iexact HW

end Trip

end Cert.Proof.KernelIdeal
-- ==== Proof.IdealTiles.lean ====
/- What one trip of the first loop computes, tile by tile: a row's 56 tiles of 128 lanes indexed by a number. -/
module

public import proofs.«01_k».proof.Proof.IdealRows

@[expose] public section

noncomputable section

namespace Cert.Proof.KernelIdeal

open Cert.KernelIdeal Cert.KernelIdeal.Gen
open Idealize.ShloMosaic
open Idealize.ShloMosaic.TcCoe Idealize.ShloMosaic.Tactic

variable {F : FTy → Type} [FloatOps F] [Named F]

section Tiles
variable (c : Dev nD) (X : Buf (Elt F) (xM.view.loc (c : Thread nD τ))) (fnw : Buf (Elt F) (nwM.view.loc (c : Thread nD τ)))

/-- Where tile `t` begins in the rows of trip `k`. -/
abbrev tOff (k : Fin k0_t1_loop.trips) (t : ℕ) : Fin 2 → ℕ := ![k0_off3 k 0, 128 * (t % 56)]
theorem tile_lt (t : ℕ) : 128 * (t % 56) + 128 ≤ 7168 := by have := Nat.mod_lt t (show 56 > 0 by decide); omega
theorem tOff_inb (k : Fin k0_t1_loop.trips) (t : ℕ) (a : Fin 2) : tOff k t a + S32x128.size a ≤ S256x7168.size a := by
  match a with
  | ⟨0, _⟩ => exact k0_off3_inb k 0
  | ⟨1, _⟩ => exact tile_lt t
theorem ntOff_inb (t : ℕ) (a : Fin 2) : (![0, 128 * (t % 56)] : Fin 2 → ℕ) a + S32x128.size a ≤ S32x7168.size a := by
  match a with
  | ⟨0, _⟩ => exact Nat.le_refl _
  | ⟨1, _⟩ => exact tile_lt t
theorem wtOff_inb (t : ℕ) (a : Fin 2) : (![0, 128 * (t % 56)] : Fin 2 → ℕ) a + S1x128.size a ≤ S1x7168.size a := by
  match a with
  | ⟨0, _⟩ => exact Nat.le_refl _
  | ⟨1, _⟩ => exact tile_lt t

/-- The tile's boxes: in the whole array, in the 32 rows at hand, in the one row of weights. -/
abbrev tRect (k : Fin k0_t1_loop.trips) (t : ℕ) : Rect S256x7168 := Rect.unit (tOff k t) S32x128.size (tOff_inb k t)
abbrev nRect (t : ℕ) : Rect S32x7168 := Rect.unit ![0, 128 * (t % 56)] S32x128.size (ntOff_inb t)
abbrev wRect (t : ℕ) : Rect S1x7168 := Rect.unit ![0, 128 * (t % 56)] S1x128.size (wtOff_inb t)
abbrev tRectS (k : Fin k0_t1_loop.trips) : Rect S256x128 := Rect.unit (k0_off59 k) S32x128.size (k0_off59_inb k)

/-- The tile of the input. -/
def xTile (k : Fin k0_t1_loop.trips) (t : ℕ) : FVec F S32x128 .f32 :=
  extf .f32 (View.readAt (Elt F) xbM.view (tRect k t).toLoadRect (landed c (xrow (ck k)) (xslot (ck k)) X (xslot (ck k)).view.junk) : FVec F S32x128 .bf16) bitsLt_bf16_f32

/-- The lanes' sums of squares over the first `t` tiles. -/
def sqSum (k : Fin k0_t1_loop.trips) : ℕ → FVec F S32x128 .f32
  | 0 => broadcast S32x128 (Scalar.ofBits .f32 0x00000000#32)
  | t + 1 => addf (sqSum k t) (mulf (xTile c X k t) (xTile c X k t))

/-- The rows' reciprocal root mean squares. -/
def rms (k : Fin k0_t1_loop.trips) : FVec F S32x128 .f32 :=
  broadcastTo S32x128 (shapeCast S32x1 (rsqrt (addf (mulf
    (shapeCast S32x1 (multiReduction .add [1] S32 (sqSum c X k 56) 0x00000000#32 reduces_S32x128_S32 (.inl rfl) rfl) shapeCasts_S32_S32x1)
    k0_pay12) (broadcast S32x1 (Scalar.ofBits .f32 0x3727C5AC#32)))) shapeCasts_S32x1_S32x1) broadcasts_S32x1_S32x128

/-- The normalised tile. -/
def nTile (k : Fin k0_t1_loop.trips) (t : ℕ) : FVec F S32x128 .f32 :=
  mulf (mulf (xTile c X k t) (rms c X k)) (broadcastTo S32x128 (View.readAt (Elt F) nwM.view (wRect t).toLoadRect fnw : FVec F S1x128 .f32) broadcasts_S1x128_S32x128)

/-- The lanes' largest magnitudes over the first `t` tiles. -/
def magMax (k : Fin k0_t1_loop.trips) : ℕ → FVec F S32x128 .f32
  | 0 => broadcast S32x128 (Scalar.ofBits .f32 0x00000000#32)
  | t + 1 => maximumf (magMax k t) (absf (nTile c X fnw k t))

/-- The stores of the first `t` normalised tiles, the last first. -/
def nList (k : Fin k0_t1_loop.trips) : ℕ → List (View.Piece (Elt F) S32x7168 .f32)
  | 0 => []
  | t + 1 => ⟨nRect t, shapeCast S32x128 (nTile c X fnw k t) shapeCasts_S32x128_S32x128⟩ :: nList k t

/-- The value whose next power of two is the rows' scale. -/
def rowTop (k : Fin k0_t1_loop.trips) : FVec F S32x1 .f32 :=
  mulf (shapeCast S32x1 (multiReduction .maximumf [1] S32 (magMax c X fnw k 56) 0xFF800000#32 reduces_S32x128_S32 (.inl rfl) rfl) shapeCasts_S32_S32x1)
    (broadcast S32x1 (Scalar.ofBits .f32 991054117#32))

/-- One step of the search: the bit `b` is kept if the value reaches the power it makes. -/
def bitStep (v : FVec F S32x1 .f32) (b : BitVec 32) (e : Vec F S32x1 .i32) : Vec F S32x1 .i32 :=
  select (cmpf .oge v (bitcastToFloat .f32 (shli (addi e (broadcast S32x1 b)) (broadcast S32x1 23#32)))) (addi e (broadcast S32x1 b)) e
/-- The exponent the search finds. -/
def bitsOf (v : FVec F S32x1 .f32) : Vec F S32x1 .i32 :=
  bitStep v 1#32 (bitStep v 2#32 (bitStep v 4#32 (bitStep v 8#32 (bitStep v 16#32 (bitStep v 32#32 (bitStep v 64#32 (bitStep v 128#32 (broadcast S32x1 0#32))))))))
/-- The exponent used: that of one half for a value too small or not a number. -/
def expOf (v : FVec F S32x1 .f32) : Vec F S32x1 .i32 :=
  select (ori (cmpi .eq (bitsOf v) (broadcast S32x1 0#32)) (cmpi .eq (bitsOf v) (broadcast S32x1 255#32))) (broadcast S32x1 126#32) (bitsOf v)
def scaleOf (v : FVec F S32x1 .f32) : FVec F S32x1 .f32 :=
  bitcastToFloat .f32 (shli (addi (expOf v) (broadcast S32x1 1#32)) (broadcast S32x1 23#32))
def invOf (v : FVec F S32x1 .f32) : FVec F S32x1 .f32 :=
  bitcastToFloat .f32 (shli (subi (broadcast S32x1 253#32) (expOf v)) (broadcast S32x1 23#32))

/-- The tile of codes. -/
def codeTile (k : Fin k0_t1_loop.trips) (t : ℕ) : FVec F S32x128 .fp8e4m3 :=
  shapeCast S32x128 (truncf .fp8e4m3 (minimumf (broadcast S32x128 (Scalar.ofBits .f32 0x43E00000#32)) (maximumf (broadcast S32x128 (Scalar.ofBits .f32 0xC3E00000#32))
    (mulf (nM.view.readCov (nList c X fnw k 56) (nRect t).toLoadRect)
      (broadcastTo S32x128 (shapeCast S32x1 (invOf (rowTop c X fnw k)) shapeCasts_S32x1_S32x1) broadcasts_S32x1_S32x128)))) bitsLt_fp8e4m3_f32) shapeCasts_S32x128_S32x128

/-- The stores of the first `t` tiles of codes, the last first. -/
def codeList (k : Fin k0_t1_loop.trips) : ℕ → List (View.Piece (Elt F) S256x7168 .fp8e4m3)
  | 0 => []
  | t + 1 => ⟨tRect k t, codeTile c X fnw k t⟩ :: codeList k t

set_option maxRecDepth 100000
set_option maxHeartbeats 4000000

theorem r_eq (k : Fin k0_t1_loop.trips) : trip1Run.sl.r c X k =
    shapeCast S32x1 (multiReduction .add [1] S32 (sqSum c X k 56) 0x00000000#32 reduces_S32x128_S32 (.inl rfl) rfl) shapeCasts_S32_S32x1 := rfl
theorem rms_eq (k : Fin k0_t1_loop.trips) : trip1Run.sl.v577 c X k = rms c X k :=
  congrArg (fun a => broadcastTo S32x128 (shapeCast S32x1 (rsqrt (addf (mulf a k0_pay12) (broadcast S32x1 (Scalar.ofBits .f32 0x3727C5AC#32)))) shapeCasts_S32x1_S32x1) broadcasts_S32x1_S32x128) (r_eq c X k)

theorem nTile_eq (k : Fin k0_t1_loop.trips) (t : ℕ) : nTile c X fnw k t =
    mulf (mulf (xTile c X k t) (trip1Run.sl.v577 c X k)) (broadcastTo S32x128 (View.readAt (Elt F) nwM.view (wRect t).toLoadRect fnw : FVec F S1x128 .f32) broadcasts_S1x128_S32x128) :=
  congrArg (fun a => mulf (mulf (xTile c X k t) a) (broadcastTo S32x128 (View.readAt (Elt F) nwM.view (wRect t).toLoadRect fnw : FVec F S1x128 .f32) broadcasts_S1x128_S32x128)) (rms_eq c X k).symm
/-- The same, over the named reciprocal root mean square: what the run's own terms are. -/
def nTile' (k : Fin k0_t1_loop.trips) (t : ℕ) : FVec F S32x128 .f32 :=
  mulf (mulf (xTile c X k t) (trip1Run.sl.v577 c X k)) (broadcastTo S32x128 (View.readAt (Elt F) nwM.view (wRect t).toLoadRect fnw : FVec F S1x128 .f32) broadcasts_S1x128_S32x128)
def magMax' (k : Fin k0_t1_loop.trips) : ℕ → FVec F S32x128 .f32
  | 0 => broadcast S32x128 (Scalar.ofBits .f32 0x00000000#32)
  | t + 1 => maximumf (magMax' k t) (absf (nTile' c X fnw k t))
def nList' (k : Fin k0_t1_loop.trips) : ℕ → List (View.Piece (Elt F) S32x7168 .f32)
  | 0 => []
  | t + 1 => ⟨nRect t, shapeCast S32x128 (nTile' c X fnw k t) shapeCasts_S32x128_S32x128⟩ :: nList' k t
theorem nTile'_eq : nTile' c X fnw = nTile c X fnw := funext fun k => funext fun t => (nTile_eq c X fnw k t).symm
theorem magMax'_eq (k : Fin k0_t1_loop.trips) : ∀ t, magMax' c X fnw k t = magMax c X fnw k t
  | 0 => rfl
  | t + 1 => by rw [magMax', magMax, magMax'_eq k t, nTile'_eq]
theorem nList'_eq (k : Fin k0_t1_loop.trips) : ∀ t, nList' c X fnw k t = nList c X fnw k t
  | 0 => rfl
  | t + 1 => by rw [nList', nList, nList'_eq k t, nTile'_eq]

theorem v1250_eq (k : Fin k0_t1_loop.trips) : trip1Run.sl.v1250 c X fnw k = magMax c X fnw k 56 :=
  (show _ = magMax' c X fnw k 56 from rfl).trans (magMax'_eq c X fnw k 56)
theorem HN_eq (k : Fin k0_t1_loop.trips) : trip1Run.sl.HN_56 c X fnw k = nList c X fnw k 56 :=
  (show _ = nList' c X fnw k 56 from rfl).trans (nList'_eq c X fnw k 56)
theorem v1254_eq (k : Fin k0_t1_loop.trips) : trip1Run.sl.v1254 c X fnw k = rowTop c X fnw k :=
  congrArg (fun a : FVec F S32x128 .f32 => mulf (shapeCast S32x1 (multiReduction .maximumf [1] S32 a 0xFF800000#32 reduces_S32x128_S32 (.inl rfl) rfl) shapeCasts_S32_S32x1)
    (broadcast S32x1 (Scalar.ofBits .f32 991054117#32))) (v1250_eq c X fnw k)
theorem v1311_eq (k : Fin k0_t1_loop.trips) : trip1Run.sl.v1311 c X fnw k = bitsOf (trip1Run.sl.v1254 c X fnw k) := rfl
theorem v1318_eq (k : Fin k0_t1_loop.trips) : trip1Run.sl.v1318 c X fnw k = expOf (trip1Run.sl.v1254 c X fnw k) :=
  congrArg (fun a : Vec F S32x1 .i32 => select (ori (cmpi .eq a (broadcast S32x1 0#32)) (cmpi .eq a (broadcast S32x1 255#32))) (broadcast S32x1 126#32) a) (v1311_eq c X fnw k)
theorem v1323_eq (k : Fin k0_t1_loop.trips) : trip1Run.sl.v1323 c X fnw k = scaleOf (rowTop c X fnw k) :=
  (congrArg (fun a : Vec F S32x1 .i32 => (bitcastToFloat .f32 (shli (addi a (broadcast S32x1 1#32)) (broadcast S32x1 23#32)) : FVec F S32x1 .f32)) (v1318_eq c X fnw k)).trans
    (by rw [v1254_eq]; rfl)
theorem v1328_eq (k : Fin k0_t1_loop.trips) : trip1Run.sl.v1328 c X fnw k = invOf (rowTop c X fnw k) :=
  (congrArg (fun a : Vec F S32x1 .i32 => (bitcastToFloat .f32 (shli (subi (broadcast S32x1 253#32) a) (broadcast S32x1 23#32)) : FVec F S32x1 .f32)) (v1318_eq c X fnw k)).trans
    (by rw [v1254_eq]; rfl)

/-- A tile of codes from any list of stores and any reciprocals. -/
def codeTileOf (L : List (View.Piece (Elt F) S32x7168 .f32)) (i : FVec F S32x1 .f32) (t : ℕ) : FVec F S32x128 .fp8e4m3 :=
  shapeCast S32x128 (truncf .fp8e4m3 (minimumf (broadcast S32x128 (Scalar.ofBits .f32 0x43E00000#32)) (maximumf (broadcast S32x128 (Scalar.ofBits .f32 0xC3E00000#32))
    (mulf (nM.view.readCov L (nRect t).toLoadRect)
      (broadcastTo S32x128 (shapeCast S32x1 i shapeCasts_S32x1_S32x1) broadcasts_S32x1_S32x128)))) bitsLt_fp8e4m3_f32) shapeCasts_S32x128_S32x128
def codeListOf (k : Fin k0_t1_loop.trips) (L : List (View.Piece (Elt F) S32x7168 .f32)) (i : FVec F S32x1 .f32) : ℕ → List (View.Piece (Elt F) S256x7168 .fp8e4m3)
  | 0 => []
  | t + 1 => ⟨tRect k t, codeTileOf L i t⟩ :: codeListOf k L i t
theorem codeListOf_eq (k : Fin k0_t1_loop.trips) : ∀ t, codeListOf k (nList c X fnw k 56) (invOf (rowTop c X fnw k)) t = codeList c X fnw k t
  | 0 => rfl
  | t + 1 => by rw [codeListOf, codeList, codeListOf_eq k t]; rfl

/-- The stores of codes of one trip. -/
theorem trip1_codes (k : Fin k0_t1_loop.trips) (v115 : FVec F S128x128 .f32) : (trip1Run c X fnw k v115).1 = codeList c X fnw k 56 :=
  (show _ = codeListOf k (trip1Run.sl.HN_56 c X fnw k) (trip1Run.sl.v1328 c X fnw k) 56 from rfl).trans
    (by rw [HN_eq, v1328_eq, codeListOf_eq])
/-- The stores of scales of one trip. -/
theorem trip1_scales (k : Fin k0_t1_loop.trips) (v115 : FVec F S128x128 .f32) : (trip1Run c X fnw k v115).2.1 =
    [⟨tRectS k, shapeCast S32x128 (broadcastTo S32x128 (shapeCast S32x1 (scaleOf (rowTop c X fnw k)) shapeCasts_S32x1_S32x1) broadcasts_S32x1_S32x128) shapeCasts_S32x128_S32x128⟩] := by
  rw [← v1323_eq]; rfl

end Tiles
end Cert.Proof.KernelIdeal
-- ==== Proof.IdealBlocks.lean ====
/- The kernel's second loop: one trip multiplies the codes by a block of the weight, scales and rotates the product,
   and sends it to its heads of `q` or to `k`. -/
module

public import proofs.«01_k».proof.Proof.IdealRows

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

abbrev wsM : Memref sig .tc .vmem S1x9216 .f32 := Memref.whole cc0_scratch5
abbrev cosM : Memref sig .tc .vmem S256x128 .f32 := Memref.whole cc0_scratch8
abbrev sinM : Memref sig .tc .vmem S256x128 .f32 := Memref.whole cc0_scratch9

section Trip
variable (c : Dev nD) (W : Buf (Elt F) (wM.view.loc (c : Thread nD τ))) (fc : Buf (Elt F) (cM.view.loc (c : Thread nD τ)))
  (fs : Buf (Elt F) (sM.view.loc (c : Thread nD τ))) (fws : Buf (Elt F) (wsM.view.loc (c : Thread nD τ)))
  (fcos : Buf (Elt F) (cosM.view.loc (c : Thread nD τ))) (fsin : Buf (Elt F) (sinM.view.loc (c : Thread nD τ)))

/-- Block `b` of the weight on its way to its slot; -/
abbrev wflight (s : Fin 6) (b : Fin 9) : sProp 𝕄 := iprop(∃ f, flightP c (csw s) 229376 (wcol b) (wslot s) W f)
/-- the block at home; -/
abbrev whome (b : Fin 9) : sProp 𝕄 := heldP c (wcol b) W
/-- a slot of the weight's ring, at rest. -/
abbrev wfree (s : Fin 6) : sProp 𝕄 := iprop((∃ f, heldP c (wslot s) f) ∗ cellP c (csw s))
/-- An output block's place; -/
abbrev oinit (M : Memref sig .tc .hbm S256x8x128 .bf16) : sProp 𝕄 := iprop(∃ f, heldP c M f)
/-- the block, staged as `L` left it in slot `s`, on its way there; -/
abbrev oflight (s : Fin 2) (M : Memref sig .tc .hbm S256x8x128 .bf16) (L : List (View.Piece (Elt F) S2x256x8x128 .bf16)) : sProp 𝕄 :=
  iprop(∃ f f', flightP c (cso s) 16384 (oslot s) M (obM.view.writes (Elt F) f L) f')
/-- and arrived. -/
abbrev odone (s : Fin 2) (M : Memref sig .tc .hbm S256x8x128 .bf16) (L : List (View.Piece (Elt F) S2x256x8x128 .bf16)) : sProp 𝕄 :=
  iprop(∃ f f', heldP c M (landed c (oslot s) M (obM.view.writes (Elt F) f L) f'))
/-- An output slot at rest. -/
abbrev ofree (s : Fin 2) : sProp 𝕄 := iprop((∃ f, heldP c (oslot s) f) ∗ cellP c (cso s))

abbrev trip2 (k : Fin k0_t2_loop.trips) (v115 : FVec F S128x128 .f32) : Prog (TpuEff nD τ sig (Elt F) Λ₀ .tc) Unit :=
  k0_t2_body (F := F) (Memref.whole main_v0) (Memref.isWhole_whole _) (Memref.whole main_v1) (Memref.isWhole_whole _) (Memref.whole main_arg2) (Memref.isWhole_whole _) (Memref.whole main_v2) (Memref.isWhole_whole _) (Memref.whole main_arg4) (Memref.isWhole_whole _) (Memref.whole main_cst) (Memref.isWhole_whole _) (Memref.whole main_v3_0) (Memref.isWhole_whole _) (Memref.whole main_v3_1) (Memref.isWhole_whole _) (Memref.whole main_v3_2) (Memref.isWhole_whole _) (Memref.whole main_v3_3) (Memref.isWhole_whole _) (Memref.whole main_v3_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 v115 k ()

/-- A memref of which the core holds a half, the other half lent to a transfer. -/
abbrev halfP {sp : Space} {s : Shape} {e : EltTy} (M : Memref sig .tc sp s e) (f : Buf (Elt F) (M.view.loc (c : Thread nD τ))) : sProp 𝕄 :=
  M.view.loc (c : Thread nD τ) ↦[M.view.set]{fullShare.left} f
/-- What a trip of the second loop reads; the codes are on their way out meanwhile, so only a half of them is held. -/
abbrev reads2 : sProp 𝕄 :=
  iprop(halfP c cM fc ∗ heldP c sM fs ∗ heldP c wsM fws ∗ heldP c cosM fcos ∗ heldP c sinM fsin ∗ ∃ W, owes (c : Thread nD τ) 0 W)

/-- A landed weight over whatever the slot held before. -/
theorem wflight_after (s : Fin 6) (b : Fin 9) (f : Buf (Elt F) ((wslot s).view.loc (c : Thread nD τ)))
    (p : S7168x1024.Idx → Elt F .fp8e4m3) :
    flightP c (csw s) 229376 (wcol b) (wslot s) W ((wslot s).view.writes (Elt F) f [⟨Rect.whole S7168x1024, p⟩])
      = Transfers.Flight (countersEmb) (c : Thread nD τ) (SemLoc.dma (SemArray.sem (csw s))) default 229376
        iprop((View.loc (c : Thread nD τ) (wslot s).view ↦[(wslot s).view.set]{fullShare}
          (wslot s).view.writes (Elt F) f [⟨Rect.whole S7168x1024, ReadAs.same.apply ((wcol b).view.read (Elt F) W)⟩, ⟨Rect.whole S7168x1024, p⟩])
          ∗ View.loc (c : Thread nD τ) (wcol b).view ↦[(wcol b).view.set]{fullShare} W) := by
  simp only [flightP, landed, View.writes]

/-- A block just sent off, stated by its four stores. -/
theorem oflight_of (s : Fin 2) (M : Memref sig .tc .hbm S256x8x128 .bf16)
    (f : Buf (Elt F) (obM.view.loc (c : Thread nD τ))) (f' : Buf (Elt F) (M.view.loc (c : Thread nD τ)))
    (r1 r2 r3 r4 : Rect S2x256x8x128) (p1 : r1.shape.Idx → Elt F .bf16) (p2 : r2.shape.Idx → Elt F .bf16)
    (p3 : r3.shape.Idx → Elt F .bf16) (p4 : r4.shape.Idx → Elt F .bf16) :
    (Transfers.Flight (countersEmb) (c : Thread nD τ) (SemLoc.dma (SemArray.sem (cso s))) default 16384
      iprop((View.loc (c : Thread nD τ) M.view ↦[M.view.set]{fullShare} M.view.writes (Elt F) f' [⟨Rect.whole S256x8x128,
          ReadAs.same.apply (View.read (Elt F) (oslot s).view
            (View.write (Elt F) ((Memref.whole cc0_scratch12).access r4)
              (View.write (Elt F) ((Memref.whole cc0_scratch12).access r3)
                (View.write (Elt F) ((Memref.whole cc0_scratch12).access r2)
                  (View.write (Elt F) ((Memref.whole cc0_scratch12).access r1) f p1 Finset.univ)
                  p2 Finset.univ) p3 Finset.univ) p4 Finset.univ))⟩])
        ∗ View.loc (c : Thread nD τ) (oslot s).view ↦[(oslot s).view.set]{fullShare}
            View.write (Elt F) ((Memref.whole cc0_scratch12).access r4)
              (View.write (Elt F) ((Memref.whole cc0_scratch12).access r3)
                (View.write (Elt F) ((Memref.whole cc0_scratch12).access r2)
                  (View.write (Elt F) ((Memref.whole cc0_scratch12).access r1) f p1 Finset.univ)
                  p2 Finset.univ) p3 Finset.univ) p4 Finset.univ) : sProp 𝕄)
      ⊢ oflight c s M [⟨r4, p4⟩, ⟨r3, p3⟩, ⟨r2, p2⟩, ⟨r1, p1⟩] := by
  iintro H; iexists f, f'; iexact H

set_option backward.proofsInPublic true in
/-- One trip: the block's weight arrives, the block is computed into its slot and sent off; the weight six blocks on
    is fetched into the slot just read. -/
def trip2Run (k : Fin k0_t2_loop.trips) (v115 : FVec F S128x128 .f32) :
    { L : List (View.Piece (Elt F) S2x256x8x128 .bf16) // ∀ Lp,
      iprop(reads2 c fc fs fws fcos fsin ∗ wflight c W (ws k.val) (wb k.val)
          ∗ (if 2 ≤ k.val then oflight c (os k.val) (odst (k.val - 2)) Lp else ofree c (os k.val))
          ∗ (if k.val < 3 then whome c W (wb (k.val + 6)) else emp)
          ∗ oinit c (odst k.val))
        ⊢ wp frame (wpE (defs₀ (F := F)) 𝒱₀ (c : Thread nD τ) none) Set.univ (trip2 k v115)
        (fun _ => iprop(reads2 c fc fs fws fcos fsin ∗ whome c W (wb k.val)
          ∗ (if k.val < 3 then wflight c W (ws k.val) (wb (k.val + 6)) else wfree c (ws k.val))
          ∗ (if 2 ≤ k.val then odone c (os k.val) (odst (k.val - 2)) Lp else emp)
          ∗ oflight c (os k.val) (odst k.val) L)) } := by
  refine ⟨?_, fun Lp => ?run⟩
  case run =>
    have hk : k.val < 8 := k.isLt
    rcases (by omega : (k.val < 2 ∨ k.val = 2) ∨ (3 ≤ k.val ∧ k.val < 7) ∨ k.val = 7) with (h | h) | h | h
    · -- the first two trips
      have hc1 : ¬ k0_cond1 k = 1#1 := fun h => by have := (cond1_iff k).1 h; omega
      have hc2 := (cond2_iff k).2 (by omega)
      have hc3 := (cond3_iff k).2 (by omega)
      have hc4 : ¬ k0_cond4 k = 1#1 := fun h => by have := (cond4_iff k).1 h; omega
      simp only [if_neg (show ¬ 2 ≤ k.val by omega), if_pos (show k.val < 3 by omega), odst_q (show k.val < 7 by omega)]
      iintro ⟨⟨HC, HS, HWS, HCOS, HSIN, ⟨%W', HW⟩⟩, ⟨%f0, HF⟩, ⟨⟨%f1, HO_src⟩, HO⟩, HH, ⟨%f3, HQ⟩⟩
      dsimp only [trip2]
      sl_unfold [k0_t2_body]
      sl_exec
      sl_step
      isplitl [HC HS HWS HCOS HSIN HW]
      · isplitl [HC]; · iexact HC
        isplitl [HS]; · iexact HS
        isplitl [HWS]; · iexact HWS
        isplitl [HCOS]; · iexact HCOS
        isplitl [HSIN]; · iexact HSIN
        iexists _; iexact HW
      isplitl [HF_src]; · iexact HF_src
      isplitl [HF]
      · iexists ((wslot (ws k.val)).view.writes (Elt F) (wslot (ws k.val)).view.junk [⟨Rect.whole S7168x1024, ReadAs.same.apply ((wcol (wb k.val)).view.read (Elt F) W)⟩])
        irw [wflight_after]; iexact HF
      isplitl []; · iempintro
      unfold trip2Run.sl.dma38_1 trip2Run.sl.HO_src_w4 trip2Run.sl.HO_src_w3 trip2Run.sl.HO_src_w2 trip2Run.sl.HO_src_w1
      iapply (oflight_of c _ _ _ f3); iexact HO
    · -- the third trip
      have hc1 := (cond1_iff k).2 (by omega)
      have hc2 := (cond2_iff k).2 (by omega)
      have hc3 := (cond3_iff k).2 (by omega)
      have hc4 : ¬ k0_cond4 k = 1#1 := fun h => by have := (cond4_iff k).1 h; omega
      simp only [if_pos (show 2 ≤ k.val by omega), if_pos (show k.val < 3 by omega), odst_q (show k.val < 7 by omega)]
      iintro ⟨⟨HC, HS, HWS, HCOS, HSIN, ⟨%W', HW⟩⟩, ⟨%f0, HF⟩, ⟨%f1, %f2, HO⟩, HH, ⟨%f3, HQ⟩⟩
      dsimp only [trip2]
      sl_unfold [k0_t2_body]
      sl_exec
      sl_step
      isplitl [HC HS HWS HCOS HSIN HW]
      · isplitl [HC]; · iexact HC
        isplitl [HS]; · iexact HS
        isplitl [HWS]; · iexact HWS
        isplitl [HCOS]; · iexact HCOS
        isplitl [HSIN]; · iexact HSIN
        iexists _; iexact HW
      isplitl [HF_src]; · iexact HF_src
      isplitl [HF]
      · iexists ((wslot (ws k.val)).view.writes (Elt F) (wslot (ws k.val)).view.junk [⟨Rect.whole S7168x1024, ReadAs.same.apply ((wcol (wb k.val)).view.read (Elt F) W)⟩])
        irw [wflight_after]; iexact HF
      isplitl [HO_dst]; · iexists _, _; iexact HO_dst
      unfold trip2Run.sl.dma38_3 trip2Run.sl.HO_src_w4_1 trip2Run.sl.HO_src_w3_1 trip2Run.sl.HO_src_w2_1 trip2Run.sl.HO_src_w1_1
      iapply (oflight_of c _ _ _ f3); iexact HO
    · -- trips four to seven
      have hc1 := (cond1_iff k).2 (by omega)
      have hc2 : ¬ k0_cond2 k = 1#1 := fun h => by have := (cond2_iff k).1 h; omega
      have hc3 := (cond3_iff k).2 (by omega)
      have hc4 : ¬ k0_cond4 k = 1#1 := fun h => by have := (cond4_iff k).1 h; omega
      simp only [if_pos (show 2 ≤ k.val by omega), if_neg (show ¬ k.val < 3 by omega), odst_q (show k.val < 7 by omega)]
      iintro ⟨⟨HC, HS, HWS, HCOS, HSIN, ⟨%W', HW⟩⟩, ⟨%f0, HF⟩, ⟨%f1, %f2, HO⟩, -, ⟨%f3, HQ⟩⟩
      dsimp only [trip2]
      sl_unfold [k0_t2_body]
      sl_exec
      sl_step
      isplitl [HC HS HWS HCOS HSIN HW]
      · isplitl [HC]; · iexact HC
        isplitl [HS]; · iexact HS
        isplitl [HWS]; · iexact HWS
        isplitl [HCOS]; · iexact HCOS
        isplitl [HSIN]; · iexact HSIN
        iexists _; iexact HW
      isplitl [HF_src]; · iexact HF_src
      isplitl [HF_dst HF]
      · isplitl [HF_dst]; · iexists _; iexact HF_dst
        iexact HF
      isplitl [HO_dst]; · iexists _, _; iexact HO_dst
      unfold trip2Run.sl.dma38_4 trip2Run.sl.HO_src_w4_2 trip2Run.sl.HO_src_w3_2 trip2Run.sl.HO_src_w2_2 trip2Run.sl.HO_src_w1_2
      iapply (oflight_of c _ _ _ f3); iexact HO
    · -- the last trip
      have hc1 := (cond1_iff k).2 (by omega)
      have hc2 : ¬ k0_cond2 k = 1#1 := fun h => by have := (cond2_iff k).1 h; omega
      have hc3 : ¬ k0_cond3 k = 1#1 := fun h => by have := (cond3_iff k).1 h; omega
      have hc4 := (cond4_iff k).2 (by omega)
      simp only [if_pos (show 2 ≤ k.val by omega), if_neg (show ¬ k.val < 3 by omega), odst_k (show ¬ k.val < 7 by omega)]
      iintro ⟨⟨HC, HS, HWS, HCOS, HSIN, ⟨%W', HW⟩⟩, ⟨%f0, HF⟩, ⟨%f1, %f2, HO⟩, -, ⟨%f3, HQ⟩⟩
      dsimp only [trip2]
      sl_unfold [k0_t2_body]
      sl_exec
      sl_step
      isplitl [HC HS HWS HCOS HSIN HW]
      · isplitl [HC]; · iexact HC
        isplitl [HS]; · iexact HS
        isplitl [HWS]; · iexact HWS
        isplitl [HCOS]; · iexact HCOS
        isplitl [HSIN]; · iexact HSIN
        iexists _; iexact HW
      isplitl [HF_src]; · iexact HF_src
      isplitl [HF_dst HF]
      · isplitl [HF_dst]; · iexists _; iexact HF_dst
        iexact HF
      isplitl [HO_dst]; · iexists _, _; iexact HO_dst
      unfold trip2Run.sl.dma38_5 trip2Run.sl.HO_src_w4_3 trip2Run.sl.HO_src_w3_3 trip2Run.sl.HO_src_w2_3 trip2Run.sl.HO_src_w1_3
      iapply (oflight_of c _ _ _ f3); iexact HO

end Trip

end Cert.Proof.KernelIdeal
-- ==== Proof.IdealHeads.lean ====
/- What one trip of the second loop stores, and the last block after it: eight heads of the product, scaled, the ones of
   `q` and `k` rotated, two heads to a store. -/
module

public import proofs.«01_k».proof.Proof.IdealBlocks

@[expose] public section

noncomputable section

namespace Cert.Proof.KernelIdeal

open Cert.KernelIdeal Cert.KernelIdeal.Gen
open Idealize.ShloMosaic
open Idealize.ShloMosaic.TcCoe Idealize.ShloMosaic.Tactic

variable {F : FTy → Type} [FloatOps F] [Named F]

/-- One head of a half block: its 128 columns of the product, scaled by row and by column. -/
def headY (C : FVec F S256x7168 .fp8e4m3) (S : FVec F S256x128 .f32) (V : FVec F S7168x512 .fp8e4m3) (s : FVec F S1x128 .f32)
    (o : Fin 2 → ℕ) (ho : S256x512.Slices o S256x128) : FVec F S256x128 .f32 :=
  mulf (mulf (extractStridedSlice S256x128 o (matmul dot_S256x7168_S7168x512_S256x512_1_0_0_1_n_n none C V (constant S256x512 .f32 0x00000000#32)) ho) S)
    (broadcastTo S256x128 s broadcasts_S1x128_S256x128)
/-- The rotation of a head: the head by the cosines and the head half a turn round by the signed sines. -/
def ropeY (y cs sn : FVec F S256x128 .f32) : FVec F S256x128 .f32 :=
  addf (mulf y cs) (mulf (dynamicRotate 1 64#32 none y rotates_S256x128_d1) sn)
/-- Two heads, rounded and side by side. -/
def pairY (lo hi : FVec F S256x128 .f32) : FVec F S1x256x2x128 .bf16 :=
  interleaveRows S1x256x2x128 (shapeCast S1x256x1x128 (truncf .bf16 lo bitsLt_bf16_f32) shapeCasts_S256x128_S1x256x1x128)
    (shapeCast S1x256x1x128 (truncf .bf16 hi bitsLt_bf16_f32) shapeCasts_S256x128_S1x256x1x128) bitcasts_S1x256x2x128_w16_S1x256x1x128_w32

section Trip
variable (c : Dev nD) (W : Buf (Elt F) (wM.view.loc (c : Thread nD τ))) (fc : Buf (Elt F) (cM.view.loc (c : Thread nD τ)))
  (fs : Buf (Elt F) (sM.view.loc (c : Thread nD τ))) (fws : Buf (Elt F) (wsM.view.loc (c : Thread nD τ)))
  (fcos : Buf (Elt F) (cosM.view.loc (c : Thread nD τ))) (fsin : Buf (Elt F) (sinM.view.loc (c : Thread nD τ)))

/-- What the trips read whole: the codes, the scales, the cosines and sines. -/
abbrev cAll : FVec F S256x7168 .fp8e4m3 := View.readAt (Elt F) cM.view (Rect.unit ![0, 0] S256x7168.size inb_S256x7168_S256x7168_0_0).toLoadRect fc
abbrev sAll : FVec F S256x128 .f32 := View.readAt (Elt F) sM.view (Rect.unit ![0, 0] S256x128.size inb_S256x128_S256x128_0_0).toLoadRect fs
abbrev cosAll : FVec F S256x128 .f32 := View.readAt (Elt F) cosM.view (Rect.unit ![0, 0] S256x128.size inb_S256x128_S256x128_0_0).toLoadRect fcos
abbrev sinAll : FVec F S256x128 .f32 := View.readAt (Elt F) sinM.view (Rect.unit ![0, 0] S256x128.size inb_S256x128_S256x128_0_0).toLoadRect fsin
/-- Half a block of the weight, as it lies in its slot. -/
def wHalf (s : Fin 6) (b : Fin 9) (o : Fin 3 → ℕ) (ho : ∀ a, o a + S1x7168x512.size a ≤ S6x7168x1024.size a) : FVec F S7168x512 .fp8e4m3 :=
  shapeCast S7168x512 (View.readAt (Elt F) (Memref.whole cc0_scratch3).view (Rect.unit (s := S6x7168x1024) o S1x7168x512.size ho).toLoadRect
    ((wslot s).view.writes (Elt F) (wslot s).view.junk [⟨Rect.whole S7168x1024, ReadAs.same.apply ((wcol b).view.read (Elt F) W)⟩])) shapeCasts_S1x7168x512_S7168x512
/-- The 128 column scales of a head. -/
abbrev wsRow (o : Fin 2 → ℕ) (ho : ∀ a, o a + S1x128.size a ≤ S1x9216.size a) : FVec F S1x128 .f32 :=
  View.readAt (Elt F) wsM.view (Rect.unit (s := S1x9216) o S1x128.size ho).toLoadRect fws

theorem slices_head : ∀ r : Fin 4, S256x512.Slices ![0, 128 * r.val] S256x128
  | 0 => slices_S256x512_o0_0_S256x128
  | 1 => slices_S256x512_o0_128_S256x128
  | 2 => slices_S256x512_o0_256_S256x128
  | 3 => slices_S256x512_o0_384_S256x128

/-- Head `r` of half `h` of trip `k`'s block, rotated; `V` the half block. -/
abbrev tripHead (k : Fin k0_t2_loop.trips) (V : FVec F S7168x512 .fp8e4m3) (h : Fin 2) (r : Fin 4) : FVec F S256x128 .f32 :=
  ropeY (headY (cAll c fc) (sAll c fs) V (wsRow c fws (k0_off66 k (BitVec.ofNat 32 (512 * h.val)) (BitVec.ofNat 32 (128 * r.val))) (k0_off66_inb k h r))
    ![0, 128 * r.val] (slices_head r)) (cosAll c fcos) (sinAll c fsin)
abbrev tripLo (k : Fin k0_t2_loop.trips) : FVec F S7168x512 .fp8e4m3 := wHalf c W (ws k.val) (wb k.val) (k0_off65 k) (k0_off65_inb k)
abbrev tripHi (k : Fin k0_t2_loop.trips) : FVec F S7168x512 .fp8e4m3 := wHalf c W (ws k.val) (wb k.val) (k0_off70 k) (k0_off70_inb k)

set_option maxRecDepth 100000
set_option maxHeartbeats 4000000

/-- What a trip stores. -/
theorem trip2_list (k : Fin k0_t2_loop.trips) (v115 : FVec F S128x128 .f32) : (trip2Run c W fc fs fws fcos fsin k v115).1 =
    [⟨Rect.unit (k0_off72 k) S1x256x2x128.size (k0_off72_inb k), pairY (tripHead c fc fs fws fcos fsin k (tripHi c W k) 1 2) (tripHead c fc fs fws fcos fsin k (tripHi c W k) 1 3)⟩,
     ⟨Rect.unit (k0_off71 k) S1x256x2x128.size (k0_off71_inb k), pairY (tripHead c fc fs fws fcos fsin k (tripHi c W k) 1 0) (tripHead c fc fs fws fcos fsin k (tripHi c W k) 1 1)⟩,
     ⟨Rect.unit (k0_off69 k) S1x256x2x128.size (k0_off69_inb k), pairY (tripHead c fc fs fws fcos fsin k (tripLo c W k) 0 2) (tripHead c fc fs fws fcos fsin k (tripLo c W k) 0 3)⟩,
     ⟨Rect.unit (k0_off68 k) S1x256x2x128.size (k0_off68_inb k), pairY (tripHead c fc fs fws fcos fsin k (tripLo c W k) 0 0) (tripHead c fc fs fws fcos fsin k (tripLo c W k) 0 1)⟩] := rfl

end Trip
end Cert.Proof.KernelIdeal
-- ==== Proof.IdealLoops.lean ====
/- The invariants of the kernel's two loops. -/
module

public import proofs.«01_k».proof.Proof.IdealBlocks

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

/-! ## One block taken from, or put to, a range of blocks -/

section Ranges
variable {M : Type} [RA.URA M] {NB : ℕ} [NeZero NB] (Φ : Fin NB → sProp M)

theorem emp_sep_eq (P : sProp M) : iprop(emp ∗ P) = P := BI.equiv_iff.mp BI.emp_sep
theorem sep_emp_eq (P : sProp M) : iprop(P ∗ emp) = P := BI.equiv_iff.mp BI.sep_emp

theorem entails_of_eq {P Q : sProp M} (e : P = Q) : P ⊢ Q := e ▸ .rfl
/-- The first block of a range, if it has one, and the rest. -/
theorem range_head (lo hi lo' : ℕ) (p : Prop) [Decidable p] (hp : p → lo < hi ∧ lo < NB ∧ lo' = lo + 1)
    (hn : ¬ p → Ring.rangeSet NB lo hi = Ring.rangeSet NB lo' hi) :
    bigSep (Ring.rangeSet NB lo hi) Φ = iprop((if p then Φ (Ring.bk NB lo) else emp) ∗ bigSep (Ring.rangeSet NB lo' hi) Φ) := by
  by_cases h : p
  · obtain ⟨h1, h2, rfl⟩ := hp h
    have e : Ring.bk NB lo = ⟨lo, h2⟩ := Fin.ext (Ring.bk_val h2)
    rw [if_pos h, e]; exact Ring.bigSep_rangeSet_head h1 h2
  · rw [if_neg h, emp_sep_eq, hn h]
/-- The last block of a range, if it has one, and the rest. -/
theorem range_last (lo hi hi' n : ℕ) (p : Prop) [Decidable p] (hp : p → lo ≤ n ∧ n < NB ∧ hi = n + 1 ∧ hi' = n)
    (hn : ¬ p → Ring.rangeSet NB lo hi = Ring.rangeSet NB lo hi') :
    bigSep (Ring.rangeSet NB lo hi) Φ = iprop((if p then Φ (Ring.bk NB n) else emp) ∗ bigSep (Ring.rangeSet NB lo hi') Φ) := by
  by_cases h : p
  · obtain ⟨h1, h2, rfl, rfl⟩ := hp h
    have e : Ring.bk NB hi' = ⟨hi', h2⟩ := Fin.ext (Ring.bk_val h2)
    rw [if_pos h, e]; exact Ring.bigSep_rangeSet_last (Nat.lt_succ_of_le h1) h2
  · rw [if_neg h, emp_sep_eq, hn h]
theorem ite_join (p : Prop) [Decidable p] (A B : sProp M) :
    iprop((if p then A else emp) ∗ (if p then emp else B)) = if p then A else B := by
  split
  · exact sep_emp_eq _
  · exact emp_sep_eq _
theorem ite_congr_pos (p : Prop) [Decidable p] {A A' : sProp M} (B : sProp M) (h : p → A = A') : (if p then A else B) = if p then A' else B := by
  split
  · next hp => exact h hp
  · rfl
end Ranges

/-! ## The first loop -/

section Loops
variable (c : Dev nD)

section Rows
variable (X : Buf (Elt F) (xM.view.loc (c : Thread nD τ))) (fnw : Buf (Elt F) (nwM.view.loc (c : Thread nD τ))) (v115 : FVec F S128x128 .f32)

/-- The codes before trip `k`: each trip's stores put on what the loop found. -/
def cAcc (f : Buf (Elt F) (cM.view.loc (c : Thread nD τ))) : ℕ → Buf (Elt F) (cM.view.loc (c : Thread nD τ))
  | 0 => f
  | k + 1 => if h : k < k0_t1_loop.trips then cM.view.writes (Elt F) (cAcc f k) (trip1Run c X fnw ⟨k, h⟩ v115).1 else cAcc f k
/-- The scales before trip `k`. -/
def sAcc (f : Buf (Elt F) (sM.view.loc (c : Thread nD τ))) : ℕ → Buf (Elt F) (sM.view.loc (c : Thread nD τ))
  | 0 => f
  | k + 1 => if h : k < k0_t1_loop.trips then sM.view.writes (Elt F) (sAcc f k) (trip1Run c X fnw ⟨k, h⟩ v115).2.1 else sAcc f k

/-- Before trip `k` the rows from `k` on are on their way, the ones before are here. -/
abbrev inv1 (fc : Buf (Elt F) (cM.view.loc (c : Thread nD τ))) (fs : Buf (Elt F) (sM.view.loc (c : Thread nD τ))) (k : ℕ) : sProp 𝕄 :=
  iprop(bigSep (Ring.rangeSet 8 k 8) (xflight c X) ∗ bigSep (Ring.rangeSet 8 0 k) (xhome c X) ∗ (∃ f, heldP c nM f)
    ∗ heldP c cM (cAcc c X fnw v115 fc k) ∗ heldP c nwM fnw ∗ heldP c sM (sAcc c X fnw v115 fs k) ∗ ∃ W, owes (c : Thread nD τ) 0 W)

theorem cAcc_succ (f : Buf (Elt F) (cM.view.loc (c : Thread nD τ))) (k : Fin k0_t1_loop.trips) :
    cAcc c X fnw v115 f (k.val + 1) = cM.view.writes (Elt F) (cAcc c X fnw v115 f k.val) (trip1Run c X fnw k v115).1 :=
  dif_pos k.isLt
theorem sAcc_succ (f : Buf (Elt F) (sM.view.loc (c : Thread nD τ))) (k : Fin k0_t1_loop.trips) :
    sAcc c X fnw v115 f (k.val + 1) = sM.view.writes (Elt F) (sAcc c X fnw v115 f k.val) (trip1Run c X fnw k v115).2.1 :=
  dif_pos k.isLt

theorem step1 (fc : Buf (Elt F) (cM.view.loc (c : Thread nD τ))) (fs : Buf (Elt F) (sM.view.loc (c : Thread nD τ))) (k : Fin k0_t1_loop.trips) :
    inv1 c X fnw v115 fc fs k.val ⊢ wp frame (wpE (defs₀ (F := F)) 𝒱₀ (c : Thread nD τ) none) Set.univ (trip1 k v115)
      (fun _ => inv1 c X fnw v115 fc fs (k.val + 1)) := by
  have hk : k.val < 8 := k.isLt
  unfold inv1
  rw [cAcc_succ, sAcc_succ, range_head (xflight c X) k.val 8 (k.val + 1) True (fun _ => ⟨by omega, by omega, by omega⟩) (fun h => (h trivial).elim),
    range_last (xhome c X) 0 (k.val + 1) k.val k.val True (fun _ => ⟨by omega, by omega, by omega, by omega⟩) (fun h => (h trivial).elim), if_pos trivial, if_pos trivial,
    show Ring.bk 8 k.val = ck k from Fin.ext (Ring.bk_val hk)]
  iintro ⟨⟨HF, HFs⟩, Hh, HN, HC, HNW, HS, HW⟩
  iapply (wp_wand_r Idealize.ShloMosaic.frame (wpE (defs₀ (F := F)) 𝒱₀ (c : Thread nD τ) none) Set.univ)
  isplitl [HF HN HC HNW HS HW]
  · iapply (trip1Run c X fnw k v115).2.2
    isplitl [HF]; · iexact HF
    isplitl [HN]; · iexact HN
    isplitl [HC]; · iexact HC
    isplitl [HNW]; · iexact HNW
    isplitl [HS]; · iexact HS
    iexact HW
  · iintro %_ ⟨HF, HN, HC, HNW, HS, HW⟩
    isplitl [HFs]; · iexact HFs
    isplitl [HF Hh]
    · isplitl [HF]; · iexact HF
      iexact Hh
    isplitl [HN]; · iexact HN
    isplitl [HC]; · iexact HC
    isplitl [HNW]; · iexact HNW
    isplitl [HS]; · iexact HS
    iexact HW
set_option maxRecDepth 100000 in
set_option warn.classDefReducibility false in
@[sl_loop] def loopInv_k0_t1 (fc : Buf (Elt F) (cM.view.loc (c : Thread nD τ))) (fs : Buf (Elt F) (sM.view.loc (c : Thread nD τ))) :
    LoopInvTy_k0_t1 (F := F) Unit ℕ (UU nD τ) ℕ 𝒱₀ c none Set.univ (Memref.whole main_v0) (Memref.isWhole_whole _) (Memref.whole main_v1) (Memref.isWhole_whole _) (Memref.whole main_arg2) (Memref.isWhole_whole _) (Memref.whole main_v2) (Memref.isWhole_whole _) (Memref.whole main_arg4) (Memref.isWhole_whole _) (Memref.whole main_cst) (Memref.isWhole_whole _) (Memref.whole main_v3_0) (Memref.isWhole_whole _) (Memref.whole main_v3_1) (Memref.isWhole_whole _) (Memref.whole main_v3_2) (Memref.isWhole_whole _) (Memref.whole main_v3_3) (Memref.isWhole_whole _) (Memref.whole main_v3_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 v115 where
  inv k _ := inv1 c X fnw v115 fc fs k
  step k _ := step1 c X fnw v115 fc fs k
end Rows

/-! ## The second loop -/

section Blocks
variable (W : Buf (Elt F) (wM.view.loc (c : Thread nD τ))) (fc : Buf (Elt F) (cM.view.loc (c : Thread nD τ)))
  (fs : Buf (Elt F) (sM.view.loc (c : Thread nD τ))) (fws : Buf (Elt F) (wsM.view.loc (c : Thread nD τ)))
  (fcos : Buf (Elt F) (cosM.view.loc (c : Thread nD τ))) (fsin : Buf (Elt F) (sinM.view.loc (c : Thread nD τ))) (v115 : FVec F S128x128 .f32)

/-- What trip `b` stores. -/
def blockL (b : ℕ) : List (View.Piece (Elt F) S2x256x8x128 .bf16) :=
  if h : b < k0_t2_loop.trips then (trip2Run c W fc fs fws fcos fsin ⟨b, h⟩ v115).1 else []

/-- Before trip `k` the weight's blocks `k` to `k + 5` and the outputs of the two blocks before are on their way. -/
abbrev inv2 (k : ℕ) : sProp 𝕄 :=
  iprop(reads2 c fc fs fws fcos fsin
    ∗ bigSep (Ring.rangeSet 9 k (k + 6)) (fun b => wflight c W (ws b.val) b)
    ∗ bigSep (Ring.rangeSet 9 0 k) (whome c W) ∗ bigSep (Ring.rangeSet 9 (k + 6) 9) (whome c W)
    ∗ bigSep (Ring.rangeSet 9 3 k) (fun b => wfree (F := F) c (ws b.val))
    ∗ bigSep (Ring.rangeSet 8 (k - 2) k) (fun b => oflight c (os b.val) (odst b.val) (blockL c W fc fs fws fcos fsin v115 b.val))
    ∗ bigSep (Ring.rangeSet 2 k 2) (ofree (F := F) c)
    ∗ bigSep (Ring.rangeSet 8 k 8) (fun b => oinit (F := F) c (odst b.val))
    ∗ bigSep (Ring.rangeSet 8 0 (k - 2)) (fun b => odone c (os b.val) (odst b.val) (blockL c W fc fs fws fcos fsin v115 b.val)))

theorem rangeSet_ext (NB a b a' b' : ℕ) (h : ∀ x < NB, (a ≤ x ∧ x < b) ↔ (a' ≤ x ∧ x < b')) : Ring.rangeSet NB a b = Ring.rangeSet NB a' b' := by
  ext x; rw [Ring.mem_rangeSet, Ring.mem_rangeSet]; exact h x.val x.isLt

theorem blockL_eq (k : Fin k0_t2_loop.trips) : blockL c W fc fs fws fcos fsin v115 k.val = (trip2Run c W fc fs fws fcos fsin k v115).1 := dif_pos k.isLt

theorem step2 (k : Fin k0_t2_loop.trips) :
    inv2 c W fc fs fws fcos fsin v115 k.val ⊢ wp frame (wpE (defs₀ (F := F)) 𝒱₀ (c : Thread nD τ) none) Set.univ (trip2 k v115)
      (fun _ => inv2 c W fc fs fws fcos fsin v115 (k.val + 1)) := by
  have hk : k.val < 8 := k.isLt
  have eL := blockL_eq c W fc fs fws fcos fsin v115 k
  have b9 : (Ring.bk 9 k.val).val = k.val := Ring.bk_val (by omega)
  have b8 : (Ring.bk 8 k.val).val = k.val := Ring.bk_val hk
  have b8' : 2 ≤ k.val → (Ring.bk 8 (k.val - 2)).val = k.val - 2 := fun _ => Ring.bk_val (by omega)
  have b9' : k.val < 3 → (Ring.bk 9 (k.val + 6)).val = k.val + 6 := fun _ => Ring.bk_val (by omega)
  have s6 : ws (k.val + 6) = ws k.val := Ring.sl_add 6 k.val
  have s2 : 2 ≤ k.val → os (k.val - 2) = os k.val := fun h => by
    have := Ring.sl_add 2 (k.val - 2); rw [show k.val - 2 + 2 = k.val by omega] at this; exact this.symm
  unfold inv2
  rw [range_head (fun b => wflight c W (ws b.val) b) k.val (k.val + 6) (k.val + 1) True (fun _ => ⟨by omega, by omega, by omega⟩) (fun h => (h trivial).elim),
    range_last (fun b => wflight c W (ws b.val) b) (k.val + 1) (k.val + 1 + 6) (k.val + 6) (k.val + 6) (k.val < 3) (by omega) (fun h => rangeSet_ext _ _ _ _ _ (by omega)),
    range_last (whome c W) 0 (k.val + 1) k.val k.val True (fun _ => ⟨by omega, by omega, by omega, by omega⟩) (fun h => (h trivial).elim),
    range_head (whome c W) (k.val + 6) 9 (k.val + 1 + 6) (k.val < 3) (by omega) (fun h => rangeSet_ext _ _ _ _ _ (by omega)),
    range_last (fun b => wfree (F := F) c (ws b.val)) 3 (k.val + 1) k.val k.val (¬ k.val < 3) (by omega) (fun h => rangeSet_ext _ _ _ _ _ (by omega)),
    range_head (fun b => oflight c (os b.val) (odst b.val) (blockL c W fc fs fws fcos fsin v115 b.val)) (k.val - 2) k.val (k.val + 1 - 2) (2 ≤ k.val) (by omega) (fun h => rangeSet_ext _ _ _ _ _ (by omega)),
    range_last (fun b => oflight c (os b.val) (odst b.val) (blockL c W fc fs fws fcos fsin v115 b.val)) (k.val + 1 - 2) (k.val + 1) k.val k.val True (fun _ => ⟨by omega, by omega, by omega, by omega⟩) (fun h => (h trivial).elim),
    range_head (ofree (F := F) c) k.val 2 (k.val + 1) (¬ 2 ≤ k.val) (by omega) (fun h => rangeSet_ext _ _ _ _ _ (by omega)),
    range_head (fun b => oinit (F := F) c (odst b.val)) k.val 8 (k.val + 1) True (fun _ => ⟨by omega, by omega, by omega⟩) (fun h => (h trivial).elim),
    range_last (fun b => odone c (os b.val) (odst b.val) (blockL c W fc fs fws fcos fsin v115 b.val)) 0 (k.val + 1 - 2) (k.val - 2) (k.val - 2) (2 ≤ k.val) (by omega) (fun h => rangeSet_ext _ _ _ _ _ (by omega))]
  simp only [if_true, b9, b8, eL]
  rw [ite_congr_pos (2 ≤ k.val) emp (fun h => by rw [b8' h, s2 h] : 2 ≤ k.val →
      oflight c (os (Ring.bk 8 (k.val - 2)).val) (odst (Ring.bk 8 (k.val - 2)).val) (blockL c W fc fs fws fcos fsin v115 (Ring.bk 8 (k.val - 2)).val)
        = oflight c (os k.val) (odst (k.val - 2)) (blockL c W fc fs fws fcos fsin v115 (k.val - 2))),
    ite_congr_pos (2 ≤ k.val) emp (fun h => by rw [b8' h, s2 h] : 2 ≤ k.val →
      odone c (os (Ring.bk 8 (k.val - 2)).val) (odst (Ring.bk 8 (k.val - 2)).val) (blockL c W fc fs fws fcos fsin v115 (Ring.bk 8 (k.val - 2)).val)
        = odone c (os k.val) (odst (k.val - 2)) (blockL c W fc fs fws fcos fsin v115 (k.val - 2))),
    ite_congr_pos (k.val < 3) emp (fun h => by rw [b9' h, s6] : k.val < 3 →
      wflight c W (ws (Ring.bk 9 (k.val + 6)).val) (Ring.bk 9 (k.val + 6)) = wflight c W (ws k.val) (wb (k.val + 6))),
    ite_not, ite_not]
  iintro ⟨HR, ⟨HF, HFs⟩, Hh, ⟨HN, HNs⟩, Hfr, ⟨HO, HOs⟩, ⟨HE, HEs⟩, ⟨HI, HIs⟩, HD⟩
  iapply (wp_wand_r Idealize.ShloMosaic.frame (wpE (defs₀ (F := F)) 𝒱₀ (c : Thread nD τ) none) Set.univ)
  isplitl [HR HF HN HO HE HI]
  · iapply ((trip2Run c W fc fs fws fcos fsin k v115).2 (blockL c W fc fs fws fcos fsin v115 (k.val - 2)))
    isplitl [HR]; · iexact HR
    isplitl [HF]; · iexact HF
    isplitl [HO HE]
    · iapply (entails_of_eq (ite_join _ _ _))
      isplitl [HO]; · iexact HO
      iexact HE
    isplitl [HN]; · iexact HN
    iexact HI
  · iintro %_ ⟨HR, Hk, HN, HO, HI⟩
    ihave HN := (entails_of_eq (ite_join _ _ _).symm) $$ HN
    icases HN with ⟨HN, HE⟩
    isplitl [HR]; · iexact HR
    isplitl [HN HFs]
    · isplitl [HN]; · iexact HN
      iexact HFs
    isplitl [Hk Hh]
    · isplitl [Hk]; · iexact Hk
      iexact Hh
    isplitl [HNs]; · iexact HNs
    isplitl [HE Hfr]
    · isplitl [HE]; · iexact HE
      iexact Hfr
    isplitl [HI HOs]
    · isplitl [HI]; · iexact HI
      iexact HOs
    isplitl [HEs]; · iexact HEs
    isplitl [HIs]; · iexact HIs
    isplitl [HO]; · iexact HO
    iexact HD
set_option maxRecDepth 100000 in
set_option warn.classDefReducibility false in
@[sl_loop] def loopInv_k0_t2 :
    LoopInvTy_k0_t2 (F := F) Unit ℕ (UU nD τ) ℕ 𝒱₀ c none Set.univ (Memref.whole main_v0) (Memref.isWhole_whole _) (Memref.whole main_v1) (Memref.isWhole_whole _) (Memref.whole main_arg2) (Memref.isWhole_whole _) (Memref.whole main_v2) (Memref.isWhole_whole _) (Memref.whole main_arg4) (Memref.isWhole_whole _) (Memref.whole main_cst) (Memref.isWhole_whole _) (Memref.whole main_v3_0) (Memref.isWhole_whole _) (Memref.whole main_v3_1) (Memref.isWhole_whole _) (Memref.whole main_v3_2) (Memref.isWhole_whole _) (Memref.whole main_v3_3) (Memref.isWhole_whole _) (Memref.whole main_v3_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 v115 where
  inv k _ := inv2 c W fc fs fws fcos fsin v115 k
  step k _ := step2 c W fc fs fws fcos fsin v115 k
end Blocks

end Loops

end Cert.Proof.KernelIdeal
-- ==== Proof.IdealSlots.lean ====
/- What the kernel's buffers hold where it reads them: the tiles of the input, the tiles of its normalised rows, the
   codes and scales of all rows, and the halves of the weight's blocks. -/
module

public import proofs.«01_k».proof.Proof.IdealTiles
public import proofs.«01_k».proof.Proof.IdealHeads
public import proofs.«01_k».proof.Proof.IdealLoops
public import Idealize.ShloMosaic.Lib.Pointwise
public import Idealize.ShloMosaic.Lib.WritesUnit
public import Idealize.ShloMosaic.Lib.VecWindow

@[expose] public section

noncomputable section

namespace Cert.Proof.KernelIdeal

open Cert.KernelIdeal Cert.KernelIdeal.Gen
open Idealize.ShloMosaic
open Idealize.ShloMosaic.TcCoe Idealize.ShloMosaic.Tactic

variable {F : FTy → Type} [FloatOps F] [Named F]

section Rows
variable (c : Dev nD) (X : Buf (Elt F) (xM.view.loc (c : Thread nD τ))) (fnw : Buf (Elt F) (nwM.view.loc (c : Thread nD τ)))

/-- A landed transfer, read. -/
theorem read_landed {sp sp' : Space} {s : Shape} {e : EltTy} (src : Memref sig .tc sp s e) (dst : Memref sig .tc sp' s e)
    (X : Buf (Elt F) (src.view.loc (c : Thread nD τ))) (f : Buf (Elt F) (dst.view.loc (c : Thread nD τ))) :
    dst.view.read (Elt F) (landed c src dst X f) = src.view.read (Elt F) X := by
  funext x
  have h := View.read_writes_cons_emb (Val := Elt F) dst.view f (Rect.whole s) (ReadAs.same.apply (src.view.read (Elt F) X)) [] x
  rw [Rect.emb_whole_apply] at h
  exact h

theorem trips1 : k0_t1_loop.trips = 8 := by decide
theorem trips2 : k0_t2_loop.trips = 8 := by decide
theorem off3_val (k : Fin k0_t1_loop.trips) : k0_off3 k 0 = 32 * k.val := by rw [k0_off3_eq]; rfl

/-- Where an element of a tile lies among all rows. -/
theorem tRect_emb0 (k : Fin k0_t1_loop.trips) (t : ℕ) (j : S32x128.Idx) : ((tRect k t).emb j 0).val = 32 * k.val + (j 0).val := by
  show k0_off3 k 0 + 1 * (j 0).val = _; rw [off3_val, Nat.one_mul]
theorem tRect_emb1 (k : Fin k0_t1_loop.trips) (t : ℕ) (j : S32x128.Idx) : ((tRect k t).emb j 1).val = 128 * (t % 56) + (j 1).val := by
  show 128 * (t % 56) + 1 * (j 1).val = _; rw [Nat.one_mul]
theorem ck_val (k : Fin k0_t1_loop.trips) : (ck k).val = k.val := rfl

theorem xTile_read (k : Fin k0_t1_loop.trips) (t : ℕ) (j : S32x128.Idx) :
    View.readAt (Elt F) xbM.view (tRect k t).toLoadRect (landed c (xrow (ck k)) (xslot (ck k)) X (xslot (ck k)).view.junk) j
      = xM.view.read (Elt F) X ((tRect k t).emb j) := by
  have hj : (tRect k t).emb j = (Rect.unit (s := S256x7168) (xOff (ck k)) S32x7168.size (xOff_inb (ck k))).emb ((nRect t).emb j) := by
    funext a; apply Fin.ext
    match a with
    | ⟨0, _⟩ =>
      show k0_off3 k 0 + 1 * (j 0).val = 32 * (ck k).val + 1 * (0 + 1 * (j 0).val)
      rw [off3_val, ck_val]; omega
    | ⟨1, _⟩ =>
      show 128 * (t % 56) + 1 * (j 1).val = 0 + 1 * (128 * (t % 56) + 1 * (j 1).val)
      omega
  have h := congrFun (read_landed c (xrow (ck k)) (xslot (ck k)) X (xslot (ck k)).view.junk) ((nRect t).emb j)
  show xbM.view.read (Elt F) _ ((tRect k t).emb j) = _
  rw [hj]
  exact h

theorem mem_nList (k : Fin k0_t1_loop.trips) (t : ℕ) : ∀ n, t < n → (⟨nRect t, shapeCast S32x128 (nTile c X fnw k t) shapeCasts_S32x128_S32x128⟩ : View.Piece (Elt F) S32x7168 .f32) ∈ nList c X fnw k n
  | 0, h => by omega
  | n + 1, h => by
    rcases Nat.lt_succ_iff_lt_or_eq.1 h with h | rfl
    · exact List.mem_cons_of_mem _ (mem_nList k t n h)
    · exact List.mem_cons_self
theorem of_mem_nList (k : Fin k0_t1_loop.trips) : ∀ n p, p ∈ nList c X fnw k n →
    ∃ t < n, p = ⟨nRect t, shapeCast S32x128 (nTile c X fnw k t) shapeCasts_S32x128_S32x128⟩
  | 0, p, h => (List.not_mem_nil h).elim
  | n + 1, p, h => by
    rcases List.mem_cons.1 h with rfl | h
    · exact ⟨n, Nat.lt_succ_self n, rfl⟩
    · obtain ⟨t, ht, e⟩ := of_mem_nList k n p h
      exact ⟨t, Nat.lt_succ_of_lt ht, e⟩
theorem mem_codeList (k : Fin k0_t1_loop.trips) (t : ℕ) : ∀ n, t < n → (⟨tRect k t, codeTile c X fnw k t⟩ : View.Piece (Elt F) S256x7168 .fp8e4m3) ∈ codeList c X fnw k n
  | 0, h => by omega
  | n + 1, h => by
    rcases Nat.lt_succ_iff_lt_or_eq.1 h with h | rfl
    · exact List.mem_cons_of_mem _ (mem_codeList k t n h)
    · exact List.mem_cons_self
theorem of_mem_codeList (k : Fin k0_t1_loop.trips) : ∀ n p, p ∈ codeList c X fnw k n → ∃ t < n, p = ⟨tRect k t, codeTile c X fnw k t⟩
  | 0, p, h => (List.not_mem_nil h).elim
  | n + 1, p, h => by
    rcases List.mem_cons.1 h with rfl | h
    · exact ⟨n, Nat.lt_succ_self n, rfl⟩
    · obtain ⟨t, ht, e⟩ := of_mem_codeList k n p h
      exact ⟨t, Nat.lt_succ_of_lt ht, e⟩

/-- Row and lane of an element of a tile. -/
abbrev inTile (i : ℕ) (j : ℕ) : S32x128.Idx := ix2 ⟨i % 32, Nat.mod_lt _ (by decide)⟩ ⟨j % 128, Nat.mod_lt _ (by decide)⟩
theorem inTile_of {i j : ℕ} {x : S32x128.Idx} (k t : ℕ) (hi : i = 32 * k + (x 0).val) (hj : j = 128 * t + (x 1).val) : inTile i j = x := by
  have h0 : (x 0).val < 32 := (x 0).isLt
  have h1 : (x 1).val < 128 := (x 1).isLt
  funext a; apply Fin.ext
  match a with
  | ⟨0, _⟩ => show i % 32 = (x 0).val; omega
  | ⟨1, _⟩ => show j % 128 = (x 1).val; omega

/-- The normalised rows, read a tile at a time, are the normalised tiles. -/
theorem nTile_back (k : Fin k0_t1_loop.trips) (t : ℕ) (ht : t < 56) : nM.view.readCov (nList c X fnw k 56) (nRect t).toLoadRect = nTile c X fnw k t := by
  funext j
  have h1 : (j 1).val < 128 := (j 1).isLt
  have hv : ∀ (t : ℕ) (x : S32x128.Idx), ((nRect t).emb x 1).val = 128 * (t % 56) + (x 1).val := fun t x => by
    show 128 * (t % 56) + 1 * (x 1).val = _; rw [Nat.one_mul]
  have hv0 : ∀ (t : ℕ) (x : S32x128.Idx), ((nRect t).emb x 0).val = 32 * 0 + (x 0).val := fun t x => by
    show 0 + 1 * (x 0).val = _; omega
  have e := View.canon_apply_of_pieces (Val := Elt F) (S := S32x7168) (e := .f32)
    (fun y => nTile c X fnw k ((y 1).val / 128) (inTile (y 0).val (y 1).val)) (nList c X fnw k 56)
    (fun p hp x => by
      obtain ⟨u, hu, rfl⟩ := of_mem_nList c X fnw k 56 p hp
      have hx : (x 1).val < 128 := (x 1).isLt
      show shapeCast S32x128 (nTile c X fnw k u) shapeCasts_S32x128_S32x128 x = nTile c X fnw k (((nRect u).emb x 1).val / 128) (inTile ((nRect u).emb x 0).val ((nRect u).emb x 1).val)
      rw [shapeCast_self, hv, Nat.mod_eq_of_lt hu, inTile_of 0 u (hv0 u x) rfl, show (128 * u + (x 1).val) / 128 = u by omega])
    ((nRect t).emb j) ⟨_, mem_nList c X fnw k t 56 ht, by rw [← Rect.map_emb_univ]; exact Finset.mem_map_of_mem _ (Finset.mem_univ j)⟩
  rw [View.readCov_eq_canon']
  refine Eq.trans e ?_
  show nTile c X fnw k (((nRect t).emb j 1).val / 128) (inTile ((nRect t).emb j 0).val ((nRect t).emb j 1).val) = _
  rw [hv, Nat.mod_eq_of_lt ht, inTile_of 0 t (hv0 t j) rfl, show (128 * t + (j 1).val) / 128 = t by omega]

/-- The trip that treats row `i`. -/
abbrev tripOf (i : Fin 256) : Fin k0_t1_loop.trips := ⟨i.val / 32, by rw [trips1]; omega⟩
/-- All codes. -/
def codesAll : FVec F S256x7168 .fp8e4m3 := fun y => codeTile c X fnw (tripOf (y 0)) ((y 1).val / 128) (inTile (y 0).val (y 1).val)

theorem codes_piece (k : Fin k0_t1_loop.trips) (n : ℕ) (hn : n ≤ 56) (p : View.Piece (Elt F) S256x7168 .fp8e4m3) (hp : p ∈ codeList c X fnw k n)
    (x : p.1.shape.Idx) : p.2 x = codesAll c X fnw (p.1.emb x) := by
  obtain ⟨u, hu, rfl⟩ := of_mem_codeList c X fnw k n p hp
  have h0 : (x 0).val < 32 := (x 0).isLt
  have h1 : (x 1).val < 128 := (x 1).isLt
  have e0 := tRect_emb0 k u x
  have e1 := tRect_emb1 k u x
  rw [Nat.mod_eq_of_lt (by omega)] at e1
  show codeTile c X fnw k u x = codeTile c X fnw (tripOf ((tRect k u).emb x 0)) (((tRect k u).emb x 1).val / 128) (inTile ((tRect k u).emb x 0).val ((tRect k u).emb x 1).val)
  rw [inTile_of k.val u e0 e1, e1, show (128 * u + (x 1).val) / 128 = u by omega,
    show tripOf ((tRect k u).emb x 0) = k from Fin.ext (by show ((tRect k u).emb x 0).val / 32 = k.val; omega)]

theorem codes_miss (k : Fin k0_t1_loop.trips) (f : Buf (Elt F) (cM.view.loc (c : Thread nD τ))) (y : S256x7168.Idx)
    (hy : (y 0).val < 32 * k.val ∨ 32 * k.val + 32 ≤ (y 0).val) : ∀ n,
    cM.view.read (Elt F) (cM.view.writes (Elt F) f (codeList c X fnw k n)) y = cM.view.read (Elt F) f y
  | 0 => rfl
  | n + 1 => by
    rw [codeList, View.read_writes_cons_unit_of_not_mem cM.view f _ _ _ y rfl 0 (by show (y 0).val < k0_off3 k 0 ∨ k0_off3 k 0 + 32 ≤ (y 0).val; rw [off3_val]; exact hy)]
    exact codes_miss k f y hy n

theorem cAcc_read (v115 : FVec F S128x128 .f32) (f : Buf (Elt F) (cM.view.loc (c : Thread nD τ))) (y : S256x7168.Idx) :
    ∀ n, n ≤ 8 → (y 0).val < 32 * n → cM.view.read (Elt F) (cAcc c X fnw v115 f n) y = codesAll c X fnw y
  | 0, _, h => by omega
  | n + 1, hn, h => by
    have hk : n < k0_t1_loop.trips := by rw [trips1]; omega
    have h1 : (y 1).val < 7168 := (y 1).isLt
    rw [cAcc_succ c X fnw v115 f ⟨n, hk⟩, trip1_codes]
    by_cases hy : (y 0).val < 32 * n
    · rw [codes_miss c X fnw ⟨n, hk⟩ _ y (.inl hy)]
      exact cAcc_read v115 f y n (by omega) hy
    · refine View.read_writes_apply_of_pieces cM.view _ (codesAll c X fnw) _ (codes_piece c X fnw ⟨n, hk⟩ 56 (le_refl _)) y
        ⟨_, mem_codeList c X fnw ⟨n, hk⟩ ((y 1).val / 128) 56 (by omega), ?_⟩
      rw [Rect.mem_set_unit]
      intro a
      match a with
      | ⟨0, _⟩ => show k0_off3 ⟨n, hk⟩ 0 ≤ (y 0).val ∧ (y 0).val < k0_off3 ⟨n, hk⟩ 0 + 32; rw [off3_val]; show 32 * n ≤ _ ∧ _ < 32 * n + 32; omega
      | ⟨1, _⟩ => show 128 * ((y 1).val / 128 % 56) ≤ (y 1).val ∧ (y 1).val < 128 * ((y 1).val / 128 % 56) + 128; omega

/-- All scales, each over its row's 128 lanes. -/
def scalesAll : FVec F S256x128 .f32 := fun y => scaleOf (rowTop c X fnw (tripOf (y 0))) (ix2 ⟨(y 0).val % 32, Nat.mod_lt _ (by decide)⟩ 0)

theorem off59_val (k : Fin k0_t1_loop.trips) : k0_off59 k 0 = 32 * k.val := by rw [k0_off59_eq]; rfl
theorem off59_val1 (k : Fin k0_t1_loop.trips) : k0_off59 k 1 = 0 := by rw [k0_off59_eq]; rfl

theorem sAcc_read (v115 : FVec F S128x128 .f32) (f : Buf (Elt F) (sM.view.loc (c : Thread nD τ))) (y : S256x128.Idx) :
    ∀ n, n ≤ 8 → (y 0).val < 32 * n → sM.view.read (Elt F) (sAcc c X fnw v115 f n) y = scalesAll c X fnw y
  | 0, _, h => by omega
  | n + 1, hn, h => by
    have hk : n < k0_t1_loop.trips := by rw [trips1]; omega
    have h1 : (y 1).val < 128 := (y 1).isLt
    rw [sAcc_succ c X fnw v115 f ⟨n, hk⟩, trip1_scales]
    by_cases hy : (y 0).val < 32 * n
    · rw [View.read_writes_cons_unit_of_not_mem sM.view _ _ _ _ y rfl 0 (by show (y 0).val < k0_off59 ⟨n, hk⟩ 0 ∨ k0_off59 ⟨n, hk⟩ 0 + 32 ≤ (y 0).val; rw [off59_val]; exact .inl hy)]
      exact sAcc_read v115 f y n (by omega) hy
    · refine Eq.trans (View.read_writes_cons_unit_of_mem sM.view _ (k0_off59_inb ⟨n, hk⟩) _ [] y (ix2 ⟨(y 0).val % 32, Nat.mod_lt _ (by decide)⟩ (y 1) : S32x128.Idx) rfl (fun a => ?_)) ?_
      · match a with
        | ⟨0, _⟩ => show (y 0).val = k0_off59 ⟨n, hk⟩ 0 + (y 0).val % 32; rw [off59_val]; show _ = 32 * n + _; omega
        | ⟨1, _⟩ => show (y 1).val = k0_off59 ⟨n, hk⟩ 1 + (y 1).val; rw [off59_val1]; omega
      unfold scalesAll
      rw [show tripOf (y 0) = ⟨n, hk⟩ from Fin.ext (by show (y 0).val / 32 = n; omega), shapeCast_self, shapeCast_self]
      exact broadcastTo_apply _ _ _ _ (fun a => by
        match a with
        | ⟨0, _⟩ => rfl
        | ⟨1, _⟩ => rfl)

/-- The codes after the first loop, whatever was there. -/
theorem cAll_eq (v115 : FVec F S128x128 .f32) (f : Buf (Elt F) (cM.view.loc (c : Thread nD τ))) : cAll c (cAcc c X fnw v115 f 8) = codesAll c X fnw := by
  funext y
  have h0 : (y 0).val < 256 := (y 0).isLt
  rw [cAll, View.readAt_full]
  exact cAcc_read c X fnw v115 f y 8 (le_refl _) (by omega)
theorem sAll_eq (v115 : FVec F S128x128 .f32) (f : Buf (Elt F) (sM.view.loc (c : Thread nD τ))) : sAll c (sAcc c X fnw v115 f 8) = scalesAll c X fnw := by
  funext y
  have h0 : (y 0).val < 256 := (y 0).isLt
  rw [sAll, View.readAt_full]
  exact sAcc_read c X fnw v115 f y 8 (le_refl _) (by omega)

end Rows
end Cert.Proof.KernelIdeal
-- ==== Proof.IdealStored.lean ====
/- What the second loop stores, as functions of the whole codes, scales, weight and tables: every head of the output,
   a block of eight heads to a slot. -/
module

public import proofs.«01_k».proof.Proof.IdealSlots
public import Idealize.ShloMosaic.Lib.ValueLayout

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic

variable {F : FTy → Type} [FloatOps F] [Named F]

/-- 512 columns of the weight from column `o` on, and 128 column scales. -/
def wPart (w : FVec F S7168x9216 .fp8e4m3) (o : ℕ) (ho : o + 512 ≤ 9216) : FVec F S7168x512 .fp8e4m3 :=
  fun j => w (ix2 (j 0) ⟨o + (j 1).val, by have : (j 1).val < 512 := (j 1).isLt; omega⟩)
def wsPart (s : FVec F S1x9216 .f32) (o : ℕ) (ho : o + 128 ≤ 9216) : FVec F S1x128 .f32 :=
  fun j => s (ix2 0 ⟨o + (j 1).val, by have : (j 1).val < 128 := (j 1).isLt; omega⟩)

section Slots
variable (c : Dev nD) (W : Buf (Elt F) (wM.view.loc (c : Thread nD τ)))

theorem wslot_read (s : Fin 6) (f : Buf (Elt F) (wbM.view.loc (c : Thread nD τ))) (i : Fin 7168) (j : Fin 1024) :
    (wslot s).view.read (Elt F) f (ix2 i j) = wbM.view.read (Elt F) f (ix3 s i j) := by
  show wbM.view.read (Elt F) f ((Rect.unit (s := S6x7168x1024) (wsOff s) S1x7168x1024.size (wsOff_inb s)).emb (Shape.reshapeEquiv (s := S1x7168x1024) (s' := S7168x1024) _ (ix2 i j))) = _
  rw [show (Shape.reshapeEquiv (s := S1x7168x1024) (s' := S7168x1024) (by decide) (ix2 i j)) = ix3 (0 : Fin 1) i j from ValueIdx.reshapeEquiv_ix2_1ab _ i j]
  refine congrArg _ (funext fun a => Fin.ext ?_)
  match a with
  | ⟨0, _⟩ => show s.val + 1 * 0 = s.val; omega
  | ⟨1, _⟩ => show 0 + 1 * i.val = i.val; omega
  | ⟨2, _⟩ => show 0 + 1 * j.val = j.val; omega

theorem oslot_read (s : Fin 2) (f : Buf (Elt F) (obM.view.loc (c : Thread nD τ))) (i : Fin 256) (h : Fin 8) (d : Fin 128) :
    (oslot s).view.read (Elt F) f (ix3 i h d) = obM.view.read (Elt F) f (ix4 s i h d) := by
  show obM.view.read (Elt F) f ((Rect.unit (s := S2x256x8x128) (osOff s) S1x256x8x128.size (osOff_inb s)).emb (Shape.reshapeEquiv (s := S1x256x8x128) (s' := S256x8x128) _ (ix3 i h d))) = _
  rw [show (Shape.reshapeEquiv (s := S1x256x8x128) (s' := S256x8x128) (by decide) (ix3 i h d)) = ix4 (0 : Fin 1) i h d from ValueIdx.reshapeEquiv_ix3_1abc _ i h d]
  refine congrArg _ (funext fun a => Fin.ext ?_)
  match a with
  | ⟨0, _⟩ => show s.val + 1 * 0 = s.val; omega
  | ⟨1, _⟩ => show 0 + 1 * i.val = i.val; omega
  | ⟨2, _⟩ => show 0 + 1 * h.val = h.val; omega
  | ⟨3, _⟩ => show 0 + 1 * d.val = d.val; omega

theorem wcol_read (b : Fin 9) (i : Fin 7168) (j : Fin 1024) :
    (wcol b).view.read (Elt F) W (ix2 i j) = wM.view.read (Elt F) W (ix2 i ⟨1024 * b.val + j.val, by omega⟩) := by
  refine congrArg (wM.view.read (Elt F) W) (funext fun a => Fin.ext ?_)
  match a with
  | ⟨0, _⟩ => show 0 + 1 * i.val = i.val; omega
  | ⟨1, _⟩ => show 1024 * b.val + 1 * j.val = 1024 * b.val + j.val; omega

theorem landed_read (s : Fin 6) (b : Fin 9) (i : Fin 7168) (j : Fin 1024) :
    wbM.view.read (Elt F) (landed c (wcol b) (wslot s) W (wslot s).view.junk) (ix3 s i j)
      = wM.view.read (Elt F) W (ix2 i ⟨1024 * b.val + j.val, by omega⟩) :=
  (wslot_read c s _ i j).symm.trans ((congrFun (read_landed c (wcol b) (wslot s) W (wslot s).view.junk) (ix2 i j)).trans (wcol_read c W b i j))

/-- A half of a slot, read as a matrix. -/
theorem half_read (f : Buf (Elt F) (wbM.view.loc (c : Thread nD τ))) (s : Fin 6) (o : Fin 3 → ℕ) (ho : ∀ a, o a + S1x7168x512.size a ≤ S6x7168x1024.size a)
    (h0 : o 0 = s.val) (h1 : o 1 = 0) (hb : o 2 + 512 ≤ 1024) (i : Fin 7168) (l : Fin 512) :
    shapeCast S7168x512 (View.readAt (Elt F) wbM.view (Rect.unit (s := S6x7168x1024) o S1x7168x512.size ho).toLoadRect f : FVec F S1x7168x512 .fp8e4m3)
      shapeCasts_S1x7168x512_S7168x512 (ix2 i l) = wbM.view.read (Elt F) f (ix3 s i (⟨o 2 + l.val, by omega⟩ : Fin 1024)) := by
  show wbM.view.read (Elt F) f ((Rect.unit (s := S6x7168x1024) o S1x7168x512.size ho).emb (Shape.reshapeEquiv (s := S1x7168x512) (s' := S7168x512) _ (ix2 i l))) = _
  rw [show (Shape.reshapeEquiv (s := S1x7168x512) (s' := S7168x512) (by decide) (ix2 i l)) = ix3 (0 : Fin 1) i l from ValueIdx.reshapeEquiv_ix2_1ab _ i l]
  refine congrArg _ (funext fun a => Fin.ext ?_)
  match a with
  | ⟨0, _⟩ => show o 0 + 1 * 0 = s.val; omega
  | ⟨1, _⟩ => show o 1 + 1 * i.val = i.val; omega
  | ⟨2, _⟩ => show o 2 + 1 * l.val = o 2 + l.val; omega

/-- Half a block of the weight in its slot is its columns of the weight. -/
theorem wHalf_eq (s : Fin 6) (b : Fin 9) (o : Fin 3 → ℕ) (ho : ∀ a, o a + S1x7168x512.size a ≤ S6x7168x1024.size a) (n : ℕ) (hn : n + 512 ≤ 9216)
    (h0 : o 0 = s.val) (h1 : o 1 = 0) (h2 : 1024 * b.val + o 2 = n) : wHalf c W s b o ho = wPart (wM.view.read (Elt F) W) n hn := by
  have hb : o 2 + 512 ≤ 1024 := ho 2
  funext j
  obtain ⟨i, l, rfl⟩ : ∃ (i : Fin 7168) (l : Fin 512), j = ix2 i l := ⟨j 0, j 1, eq_ix2 j⟩
  have hl := l.isLt
  refine (half_read c (landed c (wcol b) (wslot s) W (wslot s).view.junk) s o ho h0 h1 hb i l).trans ((landed_read c W s b i _).trans ?_)
  refine congrArg (wM.view.read (Elt F) W) (funext fun a => Fin.ext ?_)
  match a with
  | ⟨0, _⟩ => rfl
  | ⟨1, _⟩ => show 1024 * b.val + (o 2 + l.val) = n + l.val; omega

theorem wsRow_eq (fws : Buf (Elt F) (wsM.view.loc (c : Thread nD τ))) (o : Fin 2 → ℕ) (ho : ∀ a, o a + S1x128.size a ≤ S1x9216.size a)
    (n : ℕ) (hn : n + 128 ≤ 9216) (h0 : o 0 = 0) (h1 : o 1 = n) : wsRow c fws o ho = wsPart (wsM.view.read (Elt F) fws) n hn := by
  funext j
  have hj : (j 0).val < 1 := (j 0).isLt
  refine congrArg (wsM.view.read (Elt F) fws) (funext fun a => Fin.ext ?_)
  match a with
  | ⟨0, _⟩ => show o 0 + 1 * (j 0).val = 0; omega
  | ⟨1, _⟩ => show o 1 + 1 * (j 1).val = n + (j 1).val; omega
end Slots

theorem pairY_apply (lo hi : FVec F S256x128 .f32) (x : S1x256x2x128.Idx) :
    pairY lo hi x = if (x 2).val % 2 = 0 then truncf .bf16 lo bitsLt_bf16_f32 (ix2 (x 1) (x 3)) else truncf .bf16 hi bitsLt_bf16_f32 (ix2 (x 1) (x 3)) := by
  pointwise [pairY]

/-- Head `n` of all 72: its columns of the product, scaled by row and by column. -/
def headAll (C : FVec F S256x7168 .fp8e4m3) (S : FVec F S256x128 .f32) (w : FVec F S7168x9216 .fp8e4m3) (s : FVec F S1x9216 .f32) (n : Fin 72) : FVec F S256x128 .f32 :=
  headY C S (wPart w (512 * (n.val / 4)) (by omega)) (wsPart s (128 * n.val) (by omega)) ![0, 128 * (n.val % 4)] (slices_head ⟨n.val % 4, Nat.mod_lt _ (by decide)⟩)
/-- The same, rotated. -/
def ropeAll (C : FVec F S256x7168 .fp8e4m3) (S : FVec F S256x128 .f32) (w : FVec F S7168x9216 .fp8e4m3) (s : FVec F S1x9216 .f32) (cs sn : FVec F S256x128 .f32)
    (n : Fin 72) : FVec F S256x128 .f32 := ropeY (headAll C S w s n) cs sn
/-- Eight heads, rounded, as a block holds them; `H` all 72. -/
def blockOut (H : Fin 72 → FVec F S256x128 .f32) (b : Fin 9) : FVec F S256x8x128 .bf16 :=
  fun x => truncf .bf16 (H ⟨8 * b.val + (x 1).val, by have : (x 1).val < 8 := (x 1).isLt; omega⟩) bitsLt_bf16_f32 (ix2 (x 0) (x 2))

/-- Four stores of two heads each fill an output slot. -/
theorem quad_read (c : Dev nD) (s : Fin 2) (f : Buf (Elt F) (obM.view.loc (c : Thread nD τ))) (o0 o1 o2 o3 : Fin 4 → ℕ)
    (i0 : ∀ a, o0 a + S1x256x2x128.size a ≤ S2x256x8x128.size a) (i1 : ∀ a, o1 a + S1x256x2x128.size a ≤ S2x256x8x128.size a)
    (i2 : ∀ a, o2 a + S1x256x2x128.size a ≤ S2x256x8x128.size a) (i3 : ∀ a, o3 a + S1x256x2x128.size a ≤ S2x256x8x128.size a)
    (e0 : o0 = ![s.val, 0, 0, 0]) (e1 : o1 = ![s.val, 0, 2, 0]) (e2 : o2 = ![s.val, 0, 4, 0]) (e3 : o3 = ![s.val, 0, 6, 0])
    (l0 h0 l1 h1 l2 h2 l3 h3 : FVec F S256x128 .f32) (H : Fin 72 → FVec F S256x128 .f32) (b : Fin 9)
    (hl0 : l0 = H ⟨8 * b.val + 0, by omega⟩) (hh0 : h0 = H ⟨8 * b.val + 1, by omega⟩) (hl1 : l1 = H ⟨8 * b.val + 2, by omega⟩) (hh1 : h1 = H ⟨8 * b.val + 3, by omega⟩)
    (hl2 : l2 = H ⟨8 * b.val + 4, by omega⟩) (hh2 : h2 = H ⟨8 * b.val + 5, by omega⟩) (hl3 : l3 = H ⟨8 * b.val + 6, by omega⟩) (hh3 : h3 = H ⟨8 * b.val + 7, by omega⟩) :
    (oslot s).view.read (Elt F) (obM.view.writes (Elt F) f [⟨Rect.unit o3 S1x256x2x128.size i3, pairY l3 h3⟩, ⟨Rect.unit o2 S1x256x2x128.size i2, pairY l2 h2⟩,
      ⟨Rect.unit o1 S1x256x2x128.size i1, pairY l1 h1⟩, ⟨Rect.unit o0 S1x256x2x128.size i0, pairY l0 h0⟩]) = blockOut H b := by
  subst e0 e1 e2 e3
  funext x
  obtain ⟨i, h, d, rfl⟩ : ∃ (i : Fin 256) (h : Fin 8) (d : Fin 128), x = ix3 i h d := ⟨x 0, x 1, x 2, eq_ix3 x⟩
  rw [oslot_read c s]
  have hh := h.isLt
  have key : ∀ (q : Fin 4) (lo hi : FVec F S256x128 .f32) (hlo : lo = H ⟨8 * b.val + 2 * q.val, by omega⟩) (hhi : hi = H ⟨8 * b.val + (2 * q.val + 1), by omega⟩)
      (z : S1x256x2x128.Idx) (y : S2x256x8x128.Idx) (hy : ∀ a, (y a).val = (![s.val, 0, 2 * q.val, 0] : Fin 4 → ℕ) a + (z a).val),
      pairY lo hi z = blockOut H b (ix3 (y 1) (y 2) (y 3)) := by
    intro q lo hi hlo hhi z y hy
    have y1 : (y 1).val = 0 + (z 1).val := hy 1
    have y2 : (y 2).val = 2 * q.val + (z 2).val := hy 2
    have y3 : (y 3).val = 0 + (z 3).val := hy 3
    have z2 : (z 2).val < 2 := (z 2).isLt
    have e1 : y 1 = z 1 := Fin.ext (by omega)
    have e3 : y 3 = z 3 := Fin.ext (by omega)
    rw [pairY_apply]
    show _ = truncf .bf16 (H ⟨8 * b.val + (y 2).val, _⟩) bitsLt_bf16_f32 (ix2 (y 1) (y 3))
    rw [e1, e3]
    by_cases h2 : (z 2).val % 2 = 0
    · rw [if_pos h2, hlo]; congr 2; apply Fin.ext; show 8 * b.val + 2 * q.val = 8 * b.val + (y 2).val; omega
    · rw [if_neg h2, hhi]; congr 2; apply Fin.ext; show 8 * b.val + (2 * q.val + 1) = 8 * b.val + (y 2).val; omega
  have hv : ∀ (o : Fin 4 → ℕ) (hi : ∀ a, o a + S1x256x2x128.size a ≤ S2x256x8x128.size a) (z : S1x256x2x128.Idx) (a : Fin 4),
      ((Rect.unit (s := S2x256x8x128) o S1x256x2x128.size hi).emb z a).val = o a + (z a).val := fun o hi z a => by
    show o a + 1 * (z a).val = _; rw [Nat.one_mul]
  refine (View.read_writes_apply_of_pieces obM.view f (fun y : S2x256x8x128.Idx => blockOut H b (ix3 (y 1) (y 2) (y 3))) _ ?_ (ix4 s i h d) ?_).trans rfl
  · intro p hp z
    simp only [List.mem_cons, List.not_mem_nil, or_false] at hp
    rcases hp with rfl | rfl | rfl | rfl
    · exact key 3 _ _ hl3 hh3 z _ (hv _ i3 z)
    · exact key 2 _ _ hl2 hh2 z _ (hv _ i2 z)
    · exact key 1 _ _ hl1 hh1 z _ (hv _ i1 z)
    · exact key 0 _ _ hl0 hh0 z _ (hv _ i0 z)
  · have hm : ∀ (n : ℕ) (hi : ∀ a, (![s.val, 0, n, 0] : Fin 4 → ℕ) a + S1x256x2x128.size a ≤ S2x256x8x128.size a), n ≤ h.val → h.val < n + 2 →
        (ix4 s i h d : S2x256x8x128.Idx) ∈ (Rect.unit (s := S2x256x8x128) ![s.val, 0, n, 0] S1x256x2x128.size hi).set := by
      intro n hi h1 h2
      rw [Rect.mem_set_unit]
      intro a
      match a with
      | ⟨0, _⟩ => show s.val ≤ s.val ∧ s.val < s.val + 1; omega
      | ⟨1, _⟩ => show 0 ≤ i.val ∧ i.val < 0 + 256; omega
      | ⟨2, _⟩ => show n ≤ h.val ∧ h.val < n + 2; omega
      | ⟨3, _⟩ => show 0 ≤ d.val ∧ d.val < 0 + 128; omega
    rcases (by omega : h.val / 2 = 0 ∨ h.val / 2 = 1 ∨ h.val / 2 = 2 ∨ h.val / 2 = 3) with e | e | e | e
    · exact ⟨_, List.mem_cons_of_mem _ (List.mem_cons_of_mem _ (List.mem_cons_of_mem _ List.mem_cons_self)), hm 0 i0 (by omega) (by omega)⟩
    · exact ⟨_, List.mem_cons_of_mem _ (List.mem_cons_of_mem _ List.mem_cons_self), hm 2 i1 (by omega) (by omega)⟩
    · exact ⟨_, List.mem_cons_of_mem _ List.mem_cons_self, hm 4 i2 (by omega) (by omega)⟩
    · exact ⟨_, List.mem_cons_self, hm 6 i3 (by omega) (by omega)⟩

theorem headY_congr (C : FVec F S256x7168 .fp8e4m3) (S : FVec F S256x128 .f32) {V V' : FVec F S7168x512 .fp8e4m3} {s s' : FVec F S1x128 .f32} {o o' : Fin 2 → ℕ}
    (ho : S256x512.Slices o S256x128) (ho' : S256x512.Slices o' S256x128) (eV : V = V') (es : s = s') (eo : o = o') : headY C S V s o ho = headY C S V' s' o' ho' := by
  subst eV es eo; rfl

section Trip
variable (c : Dev nD) (W : Buf (Elt F) (wM.view.loc (c : Thread nD τ))) (fc : Buf (Elt F) (cM.view.loc (c : Thread nD τ)))
  (fs : Buf (Elt F) (sM.view.loc (c : Thread nD τ))) (fws : Buf (Elt F) (wsM.view.loc (c : Thread nD τ)))
  (fcos : Buf (Elt F) (cosM.view.loc (c : Thread nD τ))) (fsin : Buf (Elt F) (sinM.view.loc (c : Thread nD τ)))

/-- A head as a half block in a slot gives it. -/
theorem head_of (s : Fin 6) (b : Fin 9) (h : Fin 2) (r : Fin 4) (o : Fin 3 → ℕ) (ho : ∀ a, o a + S1x7168x512.size a ≤ S6x7168x1024.size a)
    (o' : Fin 2 → ℕ) (ho' : ∀ a, o' a + S1x128.size a ≤ S1x9216.size a) (h0 : o 0 = s.val) (h1 : o 1 = 0) (h2 : o 2 = 512 * h.val)
    (h0' : o' 0 = 0) (h1' : o' 1 = 1024 * b.val + 512 * h.val + 128 * r.val) (o'' : Fin 2 → ℕ) (ho'' : S256x512.Slices o'' S256x128) (e'' : o'' = ![0, 128 * r.val])
    (n : Fin 72) (hn : n.val = 8 * b.val + 4 * h.val + r.val) :
    headY (cAll c fc) (sAll c fs) (wHalf c W s b o ho) (wsRow c fws o' ho') o'' ho''
      = headAll (cAll c fc) (sAll c fs) (wM.view.read (Elt F) W) (wsM.view.read (Elt F) fws) n :=
  headY_congr _ _ _ _ (wHalf_eq c W s b o ho _ (by omega) h0 h1 (by omega)) (wsRow_eq c fws o' ho' _ (by omega) h0' (by omega))
    (by rw [e'', show n.val % 4 = r.val by omega])

theorem lt9 (k : Fin k0_t2_loop.trips) : k.val < 9 := lt_of_lt_of_le k.isLt (by decide)
theorem off65_0 (k : Fin k0_t2_loop.trips) : k0_off65 k 0 = (ws k.val).val ∧ k0_off65 k 1 = 0 ∧ k0_off65 k 2 = 512 * 0 := by rw [k0_off65_eq]; exact ⟨rfl, rfl, rfl⟩
theorem off70_0 (k : Fin k0_t2_loop.trips) : k0_off70 k 0 = (ws k.val).val ∧ k0_off70 k 1 = 0 ∧ k0_off70 k 2 = 512 * 1 := by rw [k0_off70_eq]; exact ⟨rfl, rfl, rfl⟩

/-- The heads of a trip. -/
theorem tripHead_lo (k : Fin k0_t2_loop.trips) (r : Fin 4) (n : Fin 72) (hn : n.val = 8 * k.val + r.val) : tripHead c fc fs fws fcos fsin k (tripLo c W k) 0 r
    = ropeAll (cAll c fc) (sAll c fs) (wM.view.read (Elt F) W) (wsM.view.read (Elt F) fws) (cosAll c fcos) (sinAll c fsin) n := by
  have e := k0_off66_eq k 0 r
  have hk : (wb k.val).val = k.val := Ring.bk_val (lt9 k)
  exact congrArg (fun y => ropeY y (cosAll c fcos) (sinAll c fsin)) (head_of c W fc fs fws (ws k.val) (wb k.val) 0 r _ _ _ _ (off65_0 k).1 (off65_0 k).2.1 (off65_0 k).2.2
    (congrFun e 0) ((congrFun e 1).trans (by rw [hk]; rfl)) _ _ rfl n (by rw [hk]; exact hn))
theorem tripHead_hi (k : Fin k0_t2_loop.trips) (r : Fin 4) (n : Fin 72) (hn : n.val = 8 * k.val + 4 + r.val) : tripHead c fc fs fws fcos fsin k (tripHi c W k) 1 r
    = ropeAll (cAll c fc) (sAll c fs) (wM.view.read (Elt F) W) (wsM.view.read (Elt F) fws) (cosAll c fcos) (sinAll c fsin) n := by
  have e := k0_off66_eq k 1 r
  have hk : (wb k.val).val = k.val := Ring.bk_val (lt9 k)
  exact congrArg (fun y => ropeY y (cosAll c fcos) (sinAll c fsin)) (head_of c W fc fs fws (ws k.val) (wb k.val) 1 r _ _ _ _ (off70_0 k).1 (off70_0 k).2.1 (off70_0 k).2.2
    (congrFun e 0) ((congrFun e 1).trans (by rw [hk]; rfl)) _ _ rfl n (by rw [hk]; exact hn))

/-- What a trip leaves in its slot. -/
theorem oslot_block (k : Fin k0_t2_loop.trips) (v115 : FVec F S128x128 .f32) (f : Buf (Elt F) (obM.view.loc (c : Thread nD τ))) :
    (oslot (os k.val)).view.read (Elt F) (obM.view.writes (Elt F) f (blockL c W fc fs fws fcos fsin v115 k.val))
      = blockOut (ropeAll (cAll c fc) (sAll c fs) (wM.view.read (Elt F) W) (wsM.view.read (Elt F) fws) (cosAll c fcos) (sinAll c fsin)) (wb k.val) := by
  have hk : (wb k.val).val = k.val := Ring.bk_val (lt9 k)
  rw [blockL_eq, trip2_list]
  exact quad_read c (os k.val) f _ _ _ _ _ _ _ _ (k0_off68_eq k) (k0_off69_eq k) (k0_off71_eq k) (k0_off72_eq k) _ _ _ _ _ _ _ _ _ _
    (tripHead_lo c W fc fs fws fcos fsin k 0 _ (by show 8 * (wb k.val).val + 0 = 8 * k.val + 0; omega)) (tripHead_lo c W fc fs fws fcos fsin k 1 _ (by show 8 * (wb k.val).val + 1 = 8 * k.val + 1; omega))
    (tripHead_lo c W fc fs fws fcos fsin k 2 _ (by show 8 * (wb k.val).val + 2 = 8 * k.val + 2; omega)) (tripHead_lo c W fc fs fws fcos fsin k 3 _ (by show 8 * (wb k.val).val + 3 = 8 * k.val + 3; omega))
    (tripHead_hi c W fc fs fws fcos fsin k 0 _ (by show 8 * (wb k.val).val + 4 = 8 * k.val + 4 + 0; omega)) (tripHead_hi c W fc fs fws fcos fsin k 1 _ (by show 8 * (wb k.val).val + 5 = 8 * k.val + 4 + 1; omega))
    (tripHead_hi c W fc fs fws fcos fsin k 2 _ (by show 8 * (wb k.val).val + 6 = 8 * k.val + 4 + 2; omega)) (tripHead_hi c W fc fs fws fcos fsin k 3 _ (by show 8 * (wb k.val).val + 7 = 8 * k.val + 4 + 3; omega))
end Trip

end Cert.Proof.KernelIdeal
-- ==== Proof.IdealTables.lean ====
/- What the kernel leaves outside its second loop: the last block, the tables of cosines and sines, the row of scales;
   and every result as one function of the operands. -/
module

public import proofs.«01_k».proof.Proof.IdealStored

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic

variable {F : FTy → Type} [FloatOps F] [Named F]

/-- The memrefs not named so far: the operands' and results' homes, and the buffers the small operands arrive in. -/
abbrev nwH : Memref sig .tc .hbm S1x7168 .f32 := Memref.whole main_v1
abbrev wsH : Memref sig .tc .hbm S1x9216 .f32 := Memref.whole main_v2
abbrev posH : Memref sig .tc .hbm S1x256 .i32 := Memref.whole main_arg4
abbrev frH : Memref sig .tc .hbm S1x128 .f32 := Memref.whole main_cst
abbrev codeH : Memref sig .tc .hbm S256x7168 .fp8e4m3 := Memref.whole main_v3_3
abbrev scaleH : Memref sig .tc .hbm S1x256 .f32 := Memref.whole main_v3_4
abbrev posM : Memref sig .tc .vmem S1x256 .i32 := Memref.whole cc0_scratch6
abbrev frM : Memref sig .tc .vmem S1x128 .f32 := Memref.whole cc0_scratch7
abbrev rowM : Memref sig .tc .vmem S1x256 .f32 := Memref.whole cc0_scratch11

/-- Two halves of a table, one under the other. -/
def halves (top bot : FVec F S128x128 .f32) : FVec F S256x128 .f32 := fun y =>
  if h : (y 0).val < 128 then top (ix2 ⟨(y 0).val, h⟩ (y 1)) else bot (ix2 ⟨(y 0).val - 128, by have : (y 0).val < 256 := (y 0).isLt; omega⟩ (y 1))

section Halves
variable (c : Dev nD)

theorem halves_read {sp : Space} (M : Memref sig .tc sp S256x128 .f32) (f : Buf (Elt F) (M.view.loc (c : Thread nD τ)))
    (i0 : ∀ a, (![0, 0] : Fin 2 → ℕ) a + S128x128.size a ≤ S256x128.size a) (i1 : ∀ a, (![128, 0] : Fin 2 → ℕ) a + S128x128.size a ≤ S256x128.size a)
    (top bot : FVec F S128x128 .f32) (y : S256x128.Idx) :
    M.view.read (Elt F) (M.view.writes (Elt F) f [⟨Rect.unit ![128, 0] S128x128.size i1, bot⟩, ⟨Rect.unit ![0, 0] S128x128.size i0, top⟩]) y = halves top bot y := by
  have h1 : (y 1).val < 128 := (y 1).isLt
  have h0 : (y 0).val < 256 := (y 0).isLt
  by_cases h : (y 0).val < 128
  · refine (View.read_writes_cons_unit_of_not_mem (Val := Elt F) M.view f i1 bot _ y rfl 0 (Or.inl h)).trans ?_
    refine (View.read_writes_cons_unit_of_mem (Val := Elt F) M.view f i0 top [] y (ix2 ⟨(y 0).val, h⟩ (y 1)) rfl fun a => ?_).trans ?_
    · match a with
      | ⟨0, _⟩ => show (y 0).val = 0 + (y 0).val; omega
      | ⟨1, _⟩ => show (y 1).val = 0 + (y 1).val; omega
    · rw [halves, dif_pos h]
  · refine (View.read_writes_cons_unit_of_mem (Val := Elt F) M.view f i1 bot _ y (ix2 ⟨(y 0).val - 128, by omega⟩ (y 1)) rfl fun a => ?_).trans ?_
    · match a with
      | ⟨0, _⟩ => show (y 0).val = 128 + ((y 0).val - 128); omega
      | ⟨1, _⟩ => show (y 1).val = 0 + (y 1).val; omega
    · rw [halves, dif_neg h]
end Halves

section Results
variable (c : Dev nD) (X : Buf (Elt F) (xM.view.loc (c : Thread nD τ))) (W : Buf (Elt F) (wM.view.loc (c : Thread nD τ)))
  (NW : Buf (Elt F) (nwH.view.loc (c : Thread nD τ))) (WS : Buf (Elt F) (wsH.view.loc (c : Thread nD τ)))
  (POS : Buf (Elt F) (posH.view.loc (c : Thread nD τ))) (FR : Buf (Elt F) (frH.view.loc (c : Thread nD τ)))

/-- The small operands where they arrive. -/
abbrev nwAt : Buf (Elt F) (nwM.view.loc (c : Thread nD τ)) := nwM.view.writes (Elt F) nwM.view.junk [⟨Rect.whole S1x7168, ReadAs.same.apply (nwH.view.read (Elt F) NW)⟩]
abbrev wsAt : Buf (Elt F) (wsM.view.loc (c : Thread nD τ)) := wsM.view.writes (Elt F) wsM.view.junk [⟨Rect.whole S1x9216, ReadAs.same.apply (wsH.view.read (Elt F) WS)⟩]
abbrev posRow : Vec F S1x256 .i32 := posM.view.readCov [⟨Rect.whole S1x256, ReadAs.same.apply (posH.view.read (Elt F) POS)⟩] (Rect.unit ![0, 0] S1x256.size inb_S1x256_S1x256_0_0).toLoadRect
abbrev frRow : Vec F S1x128 .f32 := frM.view.readCov [⟨Rect.whole S1x128, ReadAs.same.apply (frH.view.read (Elt F) FR)⟩] (Rect.unit ![0, 0] S1x128.size inb_S1x128_S1x128_0_0).toLoadRect

/-- The codes, the scales, the tables, and the heads before and after rotation. -/
def codesV : FVec F S256x7168 .fp8e4m3 := codesAll c X (nwAt c NW)
def scalesV : FVec F S256x128 .f32 := scalesAll c X (nwAt c NW)
def cosV : FVec F S256x128 .f32 := halves (k0_pay247 (posRow c POS) (frRow c FR)) (k0_pay248 (posRow c POS) (frRow c FR))
def sinV : FVec F S256x128 .f32 := halves (k0_pay249 (posRow c POS) (frRow c FR)) (k0_pay251 (k0_pay250 (posRow c POS) (frRow c FR)))
def headV (n : Fin 72) : FVec F S256x128 .f32 := headAll (codesV c X NW) (scalesV c X NW) (wM.view.read (Elt F) W) (wsM.view.read (Elt F) (wsAt c WS)) n
def ropeV (n : Fin 72) : FVec F S256x128 .f32 :=
  ropeAll (codesV c X NW) (scalesV c X NW) (wM.view.read (Elt F) W) (wsM.view.read (Elt F) (wsAt c WS)) (cosV c POS FR) (sinV c POS FR) n
def rowV : FVec F S1x256 .f32 := fun y => scalesV c X NW (ix2 (y 1) 0)

theorem cos_read (f : Buf (Elt F) (cosM.view.loc (c : Thread nD τ))) :
    cosAll c (cosM.view.writes (Elt F) f [⟨Rect.unit ![128, 0] S128x128.size inb_S256x128_S128x128_128_0, k0_pay248 (posRow c POS) (frRow c FR)⟩,
      ⟨Rect.unit ![0, 0] S128x128.size inb_S256x128_S128x128_0_0, k0_pay247 (posRow c POS) (frRow c FR)⟩]) = cosV c POS FR := by
  funext y; rw [cosAll, View.readAt_full]; exact halves_read c cosM f _ _ _ _ y
theorem sin_read (f : Buf (Elt F) (sinM.view.loc (c : Thread nD τ))) :
    sinAll c (sinM.view.writes (Elt F) f [⟨Rect.unit ![128, 0] S128x128.size inb_S256x128_S128x128_128_0, k0_pay251 (k0_pay250 (posRow c POS) (frRow c FR))⟩,
      ⟨Rect.unit ![0, 0] S128x128.size inb_S256x128_S128x128_0_0, k0_pay249 (posRow c POS) (frRow c FR)⟩]) = sinV c POS FR := by
  funext y; rw [sinAll, View.readAt_full]; exact halves_read c sinM f _ _ _ _ y

theorem codes_read (v115 : FVec F S128x128 .f32) (f : Buf (Elt F) (cM.view.loc (c : Thread nD τ))) :
    cM.view.read (Elt F) (cAcc c X (nwAt c NW) v115 f 8) = codesV c X NW :=
  funext fun y => cAcc_read c X (nwAt c NW) v115 f y 8 (le_refl _) (y 0).isLt
theorem scales_read (v115 : FVec F S128x128 .f32) (f : Buf (Elt F) (sM.view.loc (c : Thread nD τ))) (y : S256x128.Idx) :
    sM.view.read (Elt F) (sAcc c X (nwAt c NW) v115 f 8) y = scalesV c X NW y :=
  sAcc_read c X (nwAt c NW) v115 f y 8 (le_refl _) (y 0).isLt

theorem pay254_apply (a b : FVec F S128x128 .f32) (y : S1x256.Idx) : k0_pay254 a b y = halves a b (ix2 (y 1) 0) := by
  pointwise [k0_pay254, halves]

theorem row_read (v115 : FVec F S128x128 .f32) (f : Buf (Elt F) (sM.view.loc (c : Thread nD τ))) (g : Buf (Elt F) (rowM.view.loc (c : Thread nD τ))) :
    rowM.view.read (Elt F) (rowM.view.writes (Elt F) g [⟨Rect.unit ![0, 0] S1x256.size inb_S1x256_S1x256_0_0,
      k0_pay254 (View.readAt (Elt F) sM.view (Rect.unit (s := S256x128) ![0, 0] S128x128.size inb_S256x128_S128x128_0_0).toLoadRect (sAcc c X (nwAt c NW) v115 f 8))
        (View.readAt (Elt F) sM.view (Rect.unit (s := S256x128) ![128, 0] S128x128.size inb_S256x128_S128x128_128_0).toLoadRect (sAcc c X (nwAt c NW) v115 f 8))⟩])
      = rowV c X NW := by
  funext y
  have h0 : (y 0).val < 1 := (y 0).isLt
  have h1 : (y 1).val < 256 := (y 1).isLt
  refine (View.read_writes_cons_unit_of_mem (Val := Elt F) rowM.view g inb_S1x256_S1x256_0_0 _ [] y y rfl fun a => ?_).trans ((pay254_apply _ _ y).trans ?_)
  · match a with
    | ⟨0, _⟩ => show (y 0).val = 0 + (y 0).val; omega
    | ⟨1, _⟩ => show (y 1).val = 0 + (y 1).val; omega
  · have key : ∀ (x : S128x128.Idx) (o : ℕ) (ho : ∀ a, (![o, 0] : Fin 2 → ℕ) a + S128x128.size a ≤ S256x128.size a) (z : S256x128.Idx) (h0 : (z 0).val = o + (x 0).val) (h1 : (z 1).val = (x 1).val),
        View.readAt (Elt F) sM.view (Rect.unit (s := S256x128) ![o, 0] S128x128.size ho).toLoadRect (sAcc c X (nwAt c NW) v115 f 8) x = scalesV c X NW z := fun x o ho z h0 h1 => by
      refine Eq.trans ?_ (scales_read c X NW v115 f z)
      refine congrArg (sM.view.read (Elt F) (sAcc c X (nwAt c NW) v115 f 8)) (funext fun a => Fin.ext ?_)
      match a with
      | ⟨0, _⟩ => show o + 1 * (x 0).val = (z 0).val; omega
      | ⟨1, _⟩ => show 0 + 1 * (x 1).val = (z 1).val; omega
    show dite _ _ _ = _
    split
    · next h => exact key _ 0 _ _ (by show (y 1).val = 0 + (y 1).val; omega) rfl
    · next h =>
        have h : ¬ (y 1).val < 128 := h
        exact key _ 128 _ _ (by show (y 1).val = 128 + ((y 1).val - 128); omega) rfl

/-- A head of the last block. -/
abbrev lastHead (fc : Buf (Elt F) (cM.view.loc (c : Thread nD τ))) (fs : Buf (Elt F) (sM.view.loc (c : Thread nD τ))) (o : Fin 3 → ℕ) (ho : ∀ a, o a + S1x7168x512.size a ≤ S6x7168x1024.size a)
    (n : ℕ) (hn : ∀ a, (![0, n] : Fin 2 → ℕ) a + S1x128.size a ≤ S1x9216.size a) (r : Fin 4) : FVec F S256x128 .f32 :=
  headY (cAll c fc) (sAll c fs) (wHalf c W 2 8 o ho) (wsRow c (wsAt c WS) ![0, n] hn) ![0, 128 * r.val] (slices_head r)

theorem lastHead_eq (fc : Buf (Elt F) (cM.view.loc (c : Thread nD τ))) (fs : Buf (Elt F) (sM.view.loc (c : Thread nD τ))) (h : Fin 2) (r : Fin 4) (o : Fin 3 → ℕ) (ho : ∀ a, o a + S1x7168x512.size a ≤ S6x7168x1024.size a)
    (n : ℕ) (hn : ∀ a, (![0, n] : Fin 2 → ℕ) a + S1x128.size a ≤ S1x9216.size a) (h0 : o 0 = 2) (h1 : o 1 = 0) (h2 : o 2 = 512 * h.val) (h' : n = 8192 + 512 * h.val + 128 * r.val)
    (hc : cAll c fc = codesV c X NW) (hs : sAll c fs = scalesV c X NW) (k : Fin 72) (hk : k.val = 64 + 4 * h.val + r.val) :
    lastHead c W WS fc fs o ho n hn r = headV c X W NW WS k := by
  refine (head_of c W fc fs (wsAt c WS) 2 8 h r o ho _ hn h0 h1 h2 rfl (by show n = 1024 * 8 + _ + _; omega) _ (slices_head r) rfl k (by show k.val = 8 * 8 + _ + _; omega)).trans ?_
  rw [hc, hs]; rfl

/-- The last block: the heads of `v`, as they lie in the first output slot. -/
theorem last_block (fc : Buf (Elt F) (cM.view.loc (c : Thread nD τ))) (fs : Buf (Elt F) (sM.view.loc (c : Thread nD τ))) (f : Buf (Elt F) (obM.view.loc (c : Thread nD τ)))
    (hc : cAll c fc = codesV c X NW) (hs : sAll c fs = scalesV c X NW) :
    (oslot 0).view.read (Elt F) (obM.view.writes (Elt F) f
      [⟨Rect.unit ![0, 0, 6, 0] S1x256x2x128.size (by decide), pairY (lastHead c W WS fc fs ![2, 0, 512] (by decide) 8960 (by decide) 2) (lastHead c W WS fc fs ![2, 0, 512] (by decide) 9088 (by decide) 3)⟩,
       ⟨Rect.unit ![0, 0, 4, 0] S1x256x2x128.size (by decide), pairY (lastHead c W WS fc fs ![2, 0, 512] (by decide) 8704 (by decide) 0) (lastHead c W WS fc fs ![2, 0, 512] (by decide) 8832 (by decide) 1)⟩,
       ⟨Rect.unit ![0, 0, 2, 0] S1x256x2x128.size (by decide), pairY (lastHead c W WS fc fs ![2, 0, 0] (by decide) 8448 (by decide) 2) (lastHead c W WS fc fs ![2, 0, 0] (by decide) 8576 (by decide) 3)⟩,
       ⟨Rect.unit ![0, 0, 0, 0] S1x256x2x128.size (by decide), pairY (lastHead c W WS fc fs ![2, 0, 0] (by decide) 8192 (by decide) 0) (lastHead c W WS fc fs ![2, 0, 0] (by decide) 8320 (by decide) 1)⟩])
      = blockOut (headV c X W NW WS) 8 := by
  have L := fun (h : Fin 2) (r : Fin 4) o ho n hn h0 h1 h2 h' k hk => lastHead_eq c X W NW WS fc fs h r o ho n hn h0 h1 h2 h' hc hs k hk
  exact quad_read c 0 f _ _ _ _ _ _ _ _ rfl rfl rfl rfl _ _ _ _ _ _ _ _ (headV c X W NW WS) 8
    (L 0 0 _ _ _ _ rfl rfl rfl rfl _ rfl) (L 0 1 _ _ _ _ rfl rfl rfl rfl _ rfl) (L 0 2 _ _ _ _ rfl rfl rfl rfl _ rfl) (L 0 3 _ _ _ _ rfl rfl rfl rfl _ rfl)
    (L 1 0 _ _ _ _ rfl rfl rfl rfl _ rfl) (L 1 1 _ _ _ _ rfl rfl rfl rfl _ rfl) (L 1 2 _ _ _ _ rfl rfl rfl rfl _ rfl) (L 1 3 _ _ _ _ rfl rfl rfl rfl _ rfl)

/-- What a result's block holds once it has landed. -/
abbrev holds {sp : Space} {s : Shape} {e : EltTy} (M : Memref sig .tc sp s e) (v : s.Idx → Elt F e) (f : Buf (Elt F) (M.view.loc (c : Thread nD τ))) : Buf (Elt F) (M.view.loc (c : Thread nD τ)) :=
  M.view.writes (Elt F) f [⟨Rect.whole s, v⟩]

/-- A block of `q` or `k`, as trip `k` of the second loop stores it. -/
theorem rope_block (v115 : FVec F S128x128 .f32) (fc : Buf (Elt F) (cM.view.loc (c : Thread nD τ))) (fs : Buf (Elt F) (sM.view.loc (c : Thread nD τ)))
    (fcos : Buf (Elt F) (cosM.view.loc (c : Thread nD τ))) (fsin : Buf (Elt F) (sinM.view.loc (c : Thread nD τ))) (f : Buf (Elt F) (obM.view.loc (c : Thread nD τ)))
    (hc : cAll c fc = codesV c X NW) (hs : sAll c fs = scalesV c X NW) (hcos : cosAll c fcos = cosV c POS FR) (hsin : sinAll c fsin = sinV c POS FR) (b : Fin 8) :
    (oslot (os b.val)).view.read (Elt F) (obM.view.writes (Elt F) f (blockL c W fc fs (wsAt c WS) fcos fsin v115 b.val))
      = blockOut (ropeV c X W NW WS POS FR) ⟨b.val, by omega⟩ := by
  refine (oslot_block c W fc fs (wsAt c WS) fcos fsin ⟨b.val, by rw [trips2]; exact b.isLt⟩ v115 f).trans ?_
  rw [hc, hs, hcos, hsin]
  exact congrArg _ (Fin.ext (Ring.bk_val (by have := b.isLt; show b.val < 9; omega)))
end Results

end Cert.Proof.KernelIdeal
-- ==== Proof.IdealBody.lean ====
/- The kernel's body, run once from its resources to its results. -/
module

public import proofs.«01_k».proof.Proof.IdealTables

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

section Body
variable (c : Dev nD) (X : Buf (Elt F) (xM.view.loc (c : Thread nD τ))) (W : Buf (Elt F) (wM.view.loc (c : Thread nD τ)))
  (NW : Buf (Elt F) (nwH.view.loc (c : Thread nD τ))) (WS : Buf (Elt F) (wsH.view.loc (c : Thread nD τ)))
  (POS : Buf (Elt F) (posH.view.loc (c : Thread nD τ))) (FR : Buf (Elt F) (frH.view.loc (c : Thread nD τ)))

abbrev body : Prog (TpuEff nD τ sig (Elt F) Λ₀ .tc) PUnit :=
  cc0_attn_input (F := F) (Memref.whole main_v0) (Memref.isWhole_whole _) (Memref.whole main_v1) (Memref.isWhole_whole _) (Memref.whole main_arg2) (Memref.isWhole_whole _) (Memref.whole main_v2) (Memref.isWhole_whole _) (Memref.whole main_arg4) (Memref.isWhole_whole _) (Memref.whole main_cst) (Memref.isWhole_whole _) (Memref.whole main_v3_0) (Memref.isWhole_whole _) (Memref.whole main_v3_1) (Memref.isWhole_whole _) (Memref.whole main_v3_2) (Memref.isWhole_whole _) (Memref.whole main_v3_3) (Memref.isWhole_whole _) (Memref.whole main_v3_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17

abbrev anyP {sp : Space} {s : Shape} {e : EltTy} (M : Memref sig .tc sp s e) : sProp 𝕄 := iprop(∃ f, heldP c M f)

/-- The operands at home, every buffer at anything, every semaphore at zero. -/
abbrev bodyPre : sProp 𝕄 :=
  iprop(bigSep Finset.univ (xhome c X) ∗ bigSep Finset.univ (whome c W) ∗ bigSep Finset.univ (wfree (F := F) c)
    ∗ heldP c nwH NW ∗ heldP c wsH WS ∗ heldP c posH POS ∗ heldP c frH FR
    ∗ anyP (F := F) c nwM ∗ anyP (F := F) c wsM ∗ anyP (F := F) c posM ∗ anyP (F := F) c frM
    ∗ (cellP c (css 0) ∗ cellP c (css 1) ∗ cellP c (css 2) ∗ cellP c (css 3))
    ∗ anyP (F := F) c nM ∗ anyP (F := F) c cM ∗ anyP (F := F) c sM ∗ anyP (F := F) c cosM ∗ anyP (F := F) c sinM ∗ anyP (F := F) c rowM
    ∗ bigSep Finset.univ (ofree (F := F) c) ∗ bigSep Finset.univ (fun b : Fin 8 => oinit (F := F) c (odst b.val)) ∗ oinit (F := F) c vAll
    ∗ anyP (F := F) c codeH ∗ anyP (F := F) c scaleH ∗ (cellP c (csm 0) ∗ cellP c (csm 1)) ∗ ∃ Wt, owes (c : Thread nD τ) 0 Wt)

/-- The operands at home, every result at its value, every other buffer at anything, every semaphore at zero. -/
abbrev bodyPost : sProp 𝕄 :=
  iprop(bigSep Finset.univ (xhome c X) ∗ bigSep Finset.univ (whome c W) ∗ bigSep Finset.univ (wfree (F := F) c)
    ∗ heldP c nwH NW ∗ heldP c wsH WS ∗ heldP c posH POS ∗ heldP c frH FR
    ∗ anyP (F := F) c nwM ∗ anyP (F := F) c wsM ∗ anyP (F := F) c posM ∗ anyP (F := F) c frM
    ∗ (cellP c (css 0) ∗ cellP c (css 1) ∗ cellP c (css 2) ∗ cellP c (css 3))
    ∗ anyP (F := F) c nM ∗ anyP (F := F) c cM ∗ anyP (F := F) c sM ∗ anyP (F := F) c cosM ∗ anyP (F := F) c sinM ∗ anyP (F := F) c rowM
    ∗ bigSep Finset.univ (ofree (F := F) c)
    ∗ bigSep Finset.univ (fun b : Fin 8 => iprop(∃ f, heldP c (odst b.val) (holds c (odst b.val) (blockOut (ropeV c X W NW WS POS FR) ⟨b.val, by omega⟩) f)))
    ∗ (∃ f, heldP c vAll (holds c vAll (blockOut (headV c X W NW WS) 8) f))
    ∗ (∃ f, heldP c codeH (holds c codeH (codesV c X NW) f)) ∗ (∃ f, heldP c scaleH (holds c scaleH (rowV c X NW) f))
    ∗ (cellP c (csm 0) ∗ cellP c (csm 1)) ∗ ∃ Wt, owes (c : Thread nD τ) 0 Wt)

theorem fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ
theorem fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [(0 : Fin 9), 1, 2, 3, 4, 5, 6, 7, 8] (by decide) (by decide) Φ
theorem fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

/-- What a loop over blocks starts from: no block behind it, -/
theorem range_none (NB n : ℕ) (Φ : Fin NB → sProp 𝕄) : (emp : sProp 𝕄) ⊢ bigSep (Ring.rangeSet NB n n) Φ :=
  entails_of_eq (Ring.bigSep_rangeSet_empty (le_refl n)).symm
theorem range_none' (NB m n : ℕ) (h : n ≤ m) (Φ : Fin NB → sProp 𝕄) : (emp : sProp 𝕄) ⊢ bigSep (Ring.rangeSet NB m n) Φ :=
  entails_of_eq (Ring.bigSep_rangeSet_empty h).symm
theorem range_six (Φ : Fin 9 → sProp 𝕄) : iprop(Φ 0 ∗ Φ 1 ∗ Φ 2 ∗ Φ 3 ∗ Φ 4 ∗ Φ 5) ⊢ bigSep (Ring.rangeSet 9 0 6) Φ :=
  entails_of_eq (bigSep_eq_bigSepL_of_eq [(0 : Fin 9), 1, 2, 3, 4, 5] (by decide) (by decide) Φ).symm
theorem range_three (Φ : Fin 9 → sProp 𝕄) : iprop(Φ 6 ∗ Φ 7 ∗ Φ 8) ⊢ bigSep (Ring.rangeSet 9 6 9) Φ :=
  entails_of_eq (bigSep_eq_bigSepL_of_eq [(6 : Fin 9), 7, 8] (by decide) (by decide) Φ).symm
/-- all of them before it. -/
theorem range_all (NB : ℕ) (Φ : Fin NB → sProp 𝕄) : bigSep Finset.univ Φ ⊢ bigSep (Ring.rangeSet NB 0 NB) Φ :=
  entails_of_eq (by rw [Ring.rangeSet_univ])

/-- After the second loop: the last weight block is on its way, -/
theorem last_flight (n : ℕ) (h : n = 8) : bigSep (Ring.rangeSet 9 n (n + 6)) (fun b => wflight c W (ws b.val) b) ⊢ wflight c W 2 8 := by
  subst h
  exact entails_of_eq (bigSep_eq_bigSepL_of_eq [(8 : Fin 9)] (by decide) (by decide) _)
/-- and so are the last two output blocks. -/
theorem last_out (n : ℕ) (h : n = 8) (L : ℕ → List (View.Piece (Elt F) S2x256x8x128 .bf16)) :
    bigSep (Ring.rangeSet 8 (n - 2) n) (fun b => oflight c (os b.val) (odst b.val) (L b.val))
      ⊢ iprop(oflight c 0 (qgrp 6) (L 6) ∗ oflight c 1 kAll (L 7)) := by
  subst h
  exact entails_of_eq (bigSep_eq_bigSepL_of_eq [(6 : Fin 8), 7] (by decide) (by decide) _)

theorem fin2 (Φ : Fin 2 → sProp 𝕄) : bigSep Finset.univ Φ = iprop(Φ 0 ∗ Φ 1) :=
  bigSep_univ_eq_bigSepL [(0 : Fin 2), 1] (by decide) (by decide) Φ
theorem range_back (NB n : ℕ) (h : n = NB) (Φ : Fin NB → sProp 𝕄) : bigSep (Ring.rangeSet NB 0 n) Φ ⊢ bigSep Finset.univ Φ := by
  subst h; exact entails_of_eq (by rw [Ring.rangeSet_univ])
/-- The pieces back together: the weight's blocks, -/
theorem weight_back (n : ℕ) (h : n = 8) : iprop(bigSep (Ring.rangeSet 9 0 n) (whome c W) ∗ whome c W 8) ⊢ bigSep Finset.univ (whome c W) := by
  subst h
  rw [fin9, show bigSep (Ring.rangeSet 9 0 8) (whome c W) = iprop((whome c W) 0 ∗ (whome c W) 1 ∗ (whome c W) 2 ∗ (whome c W) 3 ∗ (whome c W) 4 ∗ (whome c W) 5 ∗ (whome c W) 6 ∗ (whome c W) 7) from
    bigSep_eq_bigSepL_of_eq [(0 : Fin 9), 1, 2, 3, 4, 5, 6, 7] (by decide) (by decide) _]
  iintro ⟨⟨H0, H1, H2, H3, H4, H5, H6, H7⟩, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8
/-- its slots, -/
theorem slots_back (n : ℕ) (h : n = 8) : iprop(bigSep (Ring.rangeSet 9 3 n) (fun b => wfree (F := F) c (ws b.val)) ∗ wfree (F := F) c 2)
    ⊢ bigSep Finset.univ (wfree (F := F) c) := by
  subst h
  rw [fin6, show bigSep (Ring.rangeSet 9 3 8) (fun b => wfree (F := F) c (ws b.val)) = iprop(wfree (F := F) c 3 ∗ wfree (F := F) c 4 ∗ wfree (F := F) c 5 ∗ wfree (F := F) c 0 ∗ wfree (F := F) c 1) from
    bigSep_eq_bigSepL_of_eq [(3 : Fin 9), 4, 5, 6, 7] (by decide) (by decide) _]
  iintro ⟨⟨H3, H4, H5, H0, H1⟩, H2⟩
  isplitl [H0]; · iexact H0
  isplitl [H1]; · iexact H1
  isplitl [H2]; · iexact H2
  isplitl [H3]; · iexact H3
  isplitl [H4]; · iexact H4
  iexact H5
/-- the output blocks. -/
theorem outs_back (n : ℕ) (h : n = 8) (L : ℕ → List (View.Piece (Elt F) S2x256x8x128 .bf16)) (V : Fin 8 → FVec F S256x8x128 .bf16)
    (hL : ∀ (b : Fin 8) f, (oslot (os b.val)).view.read (Elt F) (obM.view.writes (Elt F) f (L b.val)) = V b) :
    iprop(bigSep (Ring.rangeSet 8 0 (n - 2)) (fun b => odone c (os b.val) (odst b.val) (L b.val)) ∗ odone c 0 (qgrp 6) (L 6) ∗ odone c 1 kAll (L 7))
    ⊢ bigSep Finset.univ (fun b : Fin 8 => iprop(∃ f, heldP c (odst b.val) (holds c (odst b.val) (V b) f))) := by
  subst h
  have h1 : ∀ b : Fin 8, (odone c (os b.val) (odst b.val) (L b.val) : sProp 𝕄) ⊢ iprop(∃ f, heldP c (odst b.val) (holds c (odst b.val) (V b) f)) := fun b => by
    iintro ⟨%f, %f', H⟩
    iexists f'
    rw [show holds c (odst b.val) (V b) f' = landed c (oslot (os b.val)) (odst b.val) (obM.view.writes (Elt F) f (L b.val)) f' from
      congrArg (fun v => holds c (odst b.val) v f') (hL b f).symm]
    iexact H
  have h2 : iprop(bigSep (Ring.rangeSet 8 0 (8 - 2)) (fun b => odone c (os b.val) (odst b.val) (L b.val)) ∗ odone c 0 (qgrp 6) (L 6) ∗ odone c 1 kAll (L 7))
      ⊢ bigSep Finset.univ (fun b : Fin 8 => (odone c (os b.val) (odst b.val) (L b.val) : sProp 𝕄)) := by
    rw [fin8, show bigSep (Ring.rangeSet 8 0 (8 - 2)) (fun b => odone c (os b.val) (odst b.val) (L b.val)) = iprop(odone c (os 0) (qgrp 0) (L 0) ∗ odone c (os 1) (qgrp 1) (L 1) ∗ odone c (os 2) (qgrp 2) (L 2) ∗ odone c (os 3) (qgrp 3) (L 3) ∗ odone c (os 4) (qgrp 4) (L 4) ∗ odone c (os 5) (qgrp 5) (L 5)) from
      bigSep_eq_bigSepL_of_eq [(0 : Fin 8), 1, 2, 3, 4, 5] (by decide) (by decide) _]
    iintro ⟨⟨H0, H1, H2, H3, H4, H5⟩, H6, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  exact h2.trans (bigSep_mono fun b _ => h1 b)

set_option maxHeartbeats 4000000 in
set_option maxRecDepth 100000 in
set_option sl_exec.lendShare "HC" in
theorem bodyRun :
    bodyPre c X W NW WS POS FR
    ⊢ wp frame (wpE (defs₀ (F := F)) 𝒱₀ (c : Thread nD τ) none) Set.univ body (fun _ => bodyPost c X W NW WS POS FR) := by
  conv_lhs => unfold bodyPre; rw [fin8 (xhome c X), fin9, fin6]
  iintro ⟨⟨⟨⟨%fx0, HX0_dst⟩, HX0_src, HX0⟩, ⟨⟨%fx1, HX1_dst⟩, HX1_src, HX1⟩, ⟨⟨%fx2, HX2_dst⟩, HX2_src, HX2⟩, ⟨⟨%fx3, HX3_dst⟩, HX3_src, HX3⟩, ⟨⟨%fx4, HX4_dst⟩, HX4_src, HX4⟩, ⟨⟨%fx5, HX5_dst⟩, HX5_src, HX5⟩, ⟨⟨%fx6, HX6_dst⟩, HX6_src, HX6⟩, ⟨⟨%fx7, HX7_dst⟩, HX7_src, HX7⟩⟩, ⟨HH0, HH1, HH2, HH3, HH4, HH5, HH6, HH7, HH8⟩, ⟨⟨⟨%fw0, HW0_dst⟩, HW0⟩, ⟨⟨%fw1, HW1_dst⟩, HW1⟩, ⟨⟨%fw2, HW2_dst⟩, HW2⟩, ⟨⟨%fw3, HW3_dst⟩, HW3⟩, ⟨⟨%fw4, HW4_dst⟩, HW4⟩, ⟨⟨%fw5, HW5_dst⟩, HW5⟩⟩, HNWs, HWSs, HPOSs, HFRs, ⟨%fnw, HNW⟩, ⟨%fws, HWS⟩, ⟨%fpos, HPOS⟩, ⟨%ffr, HFR⟩, ⟨HP0, HP1, HP2, HP3⟩,
    ⟨%fn, HN⟩, ⟨%fc, HC⟩, ⟨%fs, HS⟩, ⟨%fcos, HCOS⟩, ⟨%fsin, HSIN⟩, ⟨%frow, HROW⟩, HO, HI, ⟨%fv, HV⟩, ⟨%fcode, HCODE⟩, ⟨%fscale, HSCALE⟩, ⟨HM0, HM1⟩, ⟨%Wt, HW⟩⟩
  dsimp only [body]
  sl_unfold [cc0_attn_input]
  sl_exec
  ihave HX := (range_all 8 (xflight c X)) $$ [HX0 HX1 HX2 HX3 HX4 HX5 HX6 HX7]
  · rw [fin8 (xflight c X)]
    isplitl [HX0]; · iexists fx0; iexact HX0
    isplitl [HX1]; · iexists fx1; iexact HX1
    isplitl [HX2]; · iexists fx2; iexact HX2
    isplitl [HX3]; · iexists fx3; iexact HX3
    isplitl [HX4]; · iexists fx4; iexact HX4
    isplitl [HX5]; · iexists fx5; iexact HX5
    isplitl [HX6]; · iexists fx6; iexact HX6
    iexists fx7; iexact HX7
  ihave HXh := (range_none 8 0 (xhome c X)) $$ []
  · iempintro
  sl_exec
  ihave HWt := (range_six (fun b => wflight c W (ws b.val) b)) $$ [HW0 HW1 HW2 HW3 HW4 HW5]
  · isplitl [HW0]; · iexists fw0; iexact HW0
    isplitl [HW1]; · iexists fw1; iexact HW1
    isplitl [HW2]; · iexists fw2; iexact HW2
    isplitl [HW3]; · iexists fw3; iexact HW3
    isplitl [HW4]; · iexists fw4; iexact HW4
    iexists fw5; iexact HW5
  ihave HWh := (range_none 9 0 (whome c W)) $$ []
  · iempintro
  ihave HWr := (range_three (whome c W)) $$ [HH6 HH7 HH8]
  · isplitl [HH6]; · iexact HH6
    isplitl [HH7]; · iexact HH7
    iexact HH8
  ihave HWf := (range_none' 9 3 0 (by decide) (fun b => wfree (F := F) c (ws b.val))) $$ []
  · iempintro
  ihave HOf := (range_none' 8 (0 - 2) 0 (by decide) (fun b => oflight c (os b) (odst b)
    (blockL c W (cAcc c X (nwM.view.writes (Elt F) nwM.view.junk [⟨Rect.whole S1x7168, bodyRun.sl.dma0_2 c NW⟩]) (bodyRun.sl.v115 c POS FR) fc (Scf.trips k0_t1_loop.lb k0_t1_loop.ub k0_t1_loop.st)) (sAcc c X (nwM.view.writes (Elt F) nwM.view.junk [⟨Rect.whole S1x7168, bodyRun.sl.dma0_2 c NW⟩]) (bodyRun.sl.v115 c POS FR) fs (Scf.trips k0_t1_loop.lb k0_t1_loop.ub k0_t1_loop.st))
    (wsM.view.writes (Elt F) wsM.view.junk [⟨Rect.whole S1x9216, bodyRun.sl.dma0_3 c WS⟩])
    (cosM.view.writes (Elt F) cosM.view.junk (bodyRun.sl.HCOS_2 c POS FR)) (sinM.view.writes (Elt F) sinM.view.junk (bodyRun.sl.HSIN_2 c POS FR)) (bodyRun.sl.v115 c POS FR) b))) $$ []
  · iempintro
  ihave HOd := (range_none 8 0 (fun b => odone c (os b) (odst b)
    (blockL c W (cAcc c X (nwM.view.writes (Elt F) nwM.view.junk [⟨Rect.whole S1x7168, bodyRun.sl.dma0_2 c NW⟩]) (bodyRun.sl.v115 c POS FR) fc (Scf.trips k0_t1_loop.lb k0_t1_loop.ub k0_t1_loop.st)) (sAcc c X (nwM.view.writes (Elt F) nwM.view.junk [⟨Rect.whole S1x7168, bodyRun.sl.dma0_2 c NW⟩]) (bodyRun.sl.v115 c POS FR) fs (Scf.trips k0_t1_loop.lb k0_t1_loop.ub k0_t1_loop.st))
    (wsM.view.writes (Elt F) wsM.view.junk [⟨Rect.whole S1x9216, bodyRun.sl.dma0_3 c WS⟩])
    (cosM.view.writes (Elt F) cosM.view.junk (bodyRun.sl.HCOS_2 c POS FR)) (sinM.view.writes (Elt F) sinM.view.junk (bodyRun.sl.HSIN_2 c POS FR)) (bodyRun.sl.v115 c POS FR) b))) $$ []
  · iempintro
  ihave HO := (range_all 2 (ofree c)) $$ [HO]
  · iexact HO
  ihave HI := (range_all 8 (fun b => oinit c (odst b))) $$ [HI]
  · iexact HI
  sl_exec
  ihave HW2 := (last_flight c W (Scf.trips k0_t2_loop.lb k0_t2_loop.ub k0_t2_loop.st) (by decide)) $$ [HWt]
  · iexact HWt
  icases HW2 with ⟨%fw2', HW2⟩
  ihave HOf := (last_out c (Scf.trips k0_t2_loop.lb k0_t2_loop.ub k0_t2_loop.st) (by decide) (fun b =>
    (blockL c W (cAcc c X (nwM.view.writes (Elt F) nwM.view.junk [⟨Rect.whole S1x7168, bodyRun.sl.dma0_2 c NW⟩]) (bodyRun.sl.v115 c POS FR) fc (Scf.trips k0_t1_loop.lb k0_t1_loop.ub k0_t1_loop.st)) (sAcc c X (nwM.view.writes (Elt F) nwM.view.junk [⟨Rect.whole S1x7168, bodyRun.sl.dma0_2 c NW⟩]) (bodyRun.sl.v115 c POS FR) fs (Scf.trips k0_t1_loop.lb k0_t1_loop.ub k0_t1_loop.st))
    (wsM.view.writes (Elt F) wsM.view.junk [⟨Rect.whole S1x9216, bodyRun.sl.dma0_3 c WS⟩])
    (cosM.view.writes (Elt F) cosM.view.junk (bodyRun.sl.HCOS_2 c POS FR)) (sinM.view.writes (Elt F) sinM.view.junk (bodyRun.sl.HSIN_2 c POS FR)) (bodyRun.sl.v115 c POS FR) b))) $$ [HOf]
  · iexact HOf
  icases HOf with ⟨⟨%fo0, %fo0', HO0⟩, ⟨%fo1, %fo1', HO1⟩⟩
  sl_exec
  sl_step
  have hc := cAll_eq c X (nwAt c NW) (bodyRun.sl.v115 c POS FR) fc
  have hs := sAll_eq c X (nwAt c NW) (bodyRun.sl.v115 c POS FR) fs
  have hcos := cos_read c POS FR cosM.view.junk
  have hsin := sin_read c POS FR sinM.view.junk
  unfold bodyPost
  isplitl [HXh]
  · iapply (range_back 8 (Scf.trips k0_t1_loop.lb k0_t1_loop.ub k0_t1_loop.st) (by decide) (xhome c X)); iexact HXh
  isplitl [HWh HW2_src]
  · iapply (weight_back c W (Scf.trips k0_t2_loop.lb k0_t2_loop.ub k0_t2_loop.st) (by decide))
    isplitl [HWh]; · iexact HWh
    iexact HW2_src
  isplitl [HWf HW2_dst HW2]
  · iapply (slots_back (F := F) c (Scf.trips k0_t2_loop.lb k0_t2_loop.ub k0_t2_loop.st) (by decide))
    isplitl [HWf]; · iexact HWf
    isplitl [HW2_dst]; · iexists _; iexact HW2_dst
    iexact HW2
  isplitl [HNWs]; · iexact HNWs
  isplitl [HWSs]; · iexact HWSs
  isplitl [HPOSs]; · iexact HPOSs
  isplitl [HFRs]; · iexact HFRs
  isplitl [HNW]; · iexists _; iexact HNW
  isplitl [HWS]; · iexists _; iexact HWS
  isplitl [HPOS]; · iexists _; iexact HPOS
  isplitl [HFR]; · iexists _; iexact HFR
  isplitl [HP0 HP1 HP2 HP3]
  · isplitl [HP0]; · iexact HP0
    isplitl [HP1]; · iexact HP1
    isplitl [HP2]; · iexact HP2
    iexact HP3
  isplitl [HN]; · iexists _; iexact HN
  isplitl [HC]; · iexists _; iexact HC
  isplitl [HS]; · iexists _; iexact HS
  isplitl [HCOS]; · iexists _; iexact HCOS
  isplitl [HSIN]; · iexists _; iexact HSIN
  isplitl [HROW]; · iexists _; iexact HROW
  isplitl [HO0 HO0_src HO1 HO1_src]
  · rw [fin2]
    isplitl [HO0 HO0_src]
    · isplitl [HO0_src]; · iexists _; iexact HO0_src
      iexact HO0
    · isplitl [HO1_src]; · iexists _; iexact HO1_src
      iexact HO1
  isplitl [HOd HO0_dst HO1_dst]
  · iapply (outs_back c (Scf.trips k0_t2_loop.lb k0_t2_loop.ub k0_t2_loop.st) (by decide) (fun b =>
    (blockL c W (cAcc c X (nwM.view.writes (Elt F) nwM.view.junk [⟨Rect.whole S1x7168, bodyRun.sl.dma0_2 c NW⟩]) (bodyRun.sl.v115 c POS FR) fc (Scf.trips k0_t1_loop.lb k0_t1_loop.ub k0_t1_loop.st)) (sAcc c X (nwM.view.writes (Elt F) nwM.view.junk [⟨Rect.whole S1x7168, bodyRun.sl.dma0_2 c NW⟩]) (bodyRun.sl.v115 c POS FR) fs (Scf.trips k0_t1_loop.lb k0_t1_loop.ub k0_t1_loop.st))
    (wsM.view.writes (Elt F) wsM.view.junk [⟨Rect.whole S1x9216, bodyRun.sl.dma0_3 c WS⟩])
    (cosM.view.writes (Elt F) cosM.view.junk (bodyRun.sl.HCOS_2 c POS FR)) (sinM.view.writes (Elt F) sinM.view.junk (bodyRun.sl.HSIN_2 c POS FR)) (bodyRun.sl.v115 c POS FR) b)) _
      (fun b f => rope_block c X W NW WS POS FR (bodyRun.sl.v115 c POS FR) _ _ _ _ f hc hs hcos hsin b))
    isplitl [HOd]; · iexact HOd
    isplitl [HO0_dst]; · iexists _; iexists _; iexact HO0_dst
    iexists _; iexists _; iexact HO1_dst
  isplitl [HV]
  · iexists fv
    rw [← show bodyRun.sl.dma22 c X W NW WS POS FR fc fs fo0 = blockOut (headV c X W NW WS) 8 from
      last_block c X W NW WS (cAcc c X (nwAt c NW) (bodyRun.sl.v115 c POS FR) fc (Scf.trips k0_t1_loop.lb k0_t1_loop.ub k0_t1_loop.st))
        (sAcc c X (nwAt c NW) (bodyRun.sl.v115 c POS FR) fs (Scf.trips k0_t1_loop.lb k0_t1_loop.ub k0_t1_loop.st))
        (obM.view.writes (Elt F) fo0 (blockL c W (cAcc c X (nwAt c NW) (bodyRun.sl.v115 c POS FR) fc (Scf.trips k0_t1_loop.lb k0_t1_loop.ub k0_t1_loop.st)) (sAcc c X (nwAt c NW) (bodyRun.sl.v115 c POS FR) fs (Scf.trips k0_t1_loop.lb k0_t1_loop.ub k0_t1_loop.st)) (wsAt c WS) (cosM.view.writes (Elt F) cosM.view.junk (bodyRun.sl.HCOS_2 c POS FR)) (sinM.view.writes (Elt F) sinM.view.junk (bodyRun.sl.HSIN_2 c POS FR)) (bodyRun.sl.v115 c POS FR) 6)) hc hs]
    iexact HV
  isplitl [HCODE]
  · iexists fcode
    rw [← show bodyRun.sl.dma4 c X NW POS FR fc = codesV c X NW from codes_read c X NW (bodyRun.sl.v115 c POS FR) fc]
    iexact HCODE
  isplitl [HSCALE]
  · iexists fscale
    rw [← show bodyRun.sl.dma4_1 c X NW POS FR fs frow = rowV c X NW from row_read c X NW (bodyRun.sl.v115 c POS FR) fs frow]
    iexact HSCALE
  isplitl [HM0 HM1]
  · isplitl [HM0]; · iexact HM0
    iexact HM1
  iexists _; iexact HW
end Body

end Cert.Proof.KernelIdeal
-- ==== Proof.IdealSplit.lean ====
/- The arrays the kernel's transfers cut into blocks: each is held whole exactly when its blocks are held. -/
module

public import proofs.«01_k».proof.Proof.IdealBody

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

/-! ## The blocks as sets of elements -/

/-- Rows of `x` and of the buffer they land in. -/
abbrev XS (b : Fin 8) : Finset S256x7168.Idx := (Rect.unit (s := S256x7168) (xOff b) S32x7168.size (xOff_inb b)).set
theorem mem_XS (b : Fin 8) (y : S256x7168.Idx) : y ∈ XS b ↔ 32 * b.val ≤ (y 0).val ∧ (y 0).val < 32 * b.val + 32 := by
  rw [Rect.mem_set_unit]
  have h1 : (y 1).val < 7168 := (y 1).isLt
  constructor
  · intro H; have a0 : 32 * b.val ≤ (y 0).val ∧ (y 0).val < 32 * b.val + 32 := H 0; omega
  · intro H i; fin_cases i
    · show 32 * b.val ≤ (y 0).val ∧ (y 0).val < 32 * b.val + 32; omega
    · show 0 ≤ (y 1).val ∧ (y 1).val < 0 + 7168; omega
theorem XS_disjoint : ∀ b b' : Fin 8, b ≠ b' → Disjoint (XS b) (XS b') := by
  intro b b' hne; rw [Finset.disjoint_left]; intro y hy hy'; rw [mem_XS] at hy hy'; exact hne (Fin.ext (by omega))
theorem XS_cover : (Finset.univ : Finset (Fin 8)).biUnion XS = Finset.univ := by
  ext y; simp only [Finset.mem_biUnion, Finset.mem_univ, true_and, iff_true]
  have h : (y 0).val < 256 := (y 0).isLt
  exact ⟨⟨(y 0).val / 32, by omega⟩, by rw [mem_XS]; show 32 * ((y 0).val / 32) ≤ _ ∧ _ < 32 * ((y 0).val / 32) + 32; omega⟩

/-- Columns of the weight. -/
abbrev WC (b : Fin 9) : Finset S7168x9216.Idx := (Rect.unit (s := S7168x9216) (wOff b) S7168x1024.size (wOff_inb b)).set
theorem mem_WC (b : Fin 9) (y : S7168x9216.Idx) : y ∈ WC b ↔ 1024 * b.val ≤ (y 1).val ∧ (y 1).val < 1024 * b.val + 1024 := by
  rw [Rect.mem_set_unit]
  have h0 : (y 0).val < 7168 := (y 0).isLt
  constructor
  · intro H; have a0 : 1024 * b.val ≤ (y 1).val ∧ (y 1).val < 1024 * b.val + 1024 := H 1; omega
  · intro H i; fin_cases i
    · show 0 ≤ (y 0).val ∧ (y 0).val < 0 + 7168; omega
    · show 1024 * b.val ≤ (y 1).val ∧ (y 1).val < 1024 * b.val + 1024; omega
theorem WC_disjoint : ∀ b b' : Fin 9, b ≠ b' → Disjoint (WC b) (WC b') := by
  intro b b' hne; rw [Finset.disjoint_left]; intro y hy hy'; rw [mem_WC] at hy hy'; exact hne (Fin.ext (by omega))
theorem WC_cover : (Finset.univ : Finset (Fin 9)).biUnion WC = Finset.univ := by
  ext y; simp only [Finset.mem_biUnion, Finset.mem_univ, true_and, iff_true]
  have h : (y 1).val < 9216 := (y 1).isLt
  exact ⟨⟨(y 1).val / 1024, by omega⟩, by rw [mem_WC]; show 1024 * ((y 1).val / 1024) ≤ _ ∧ _ < 1024 * ((y 1).val / 1024) + 1024; omega⟩

/-- The weight's slots. -/
abbrev WB (b : Fin 6) : Finset S6x7168x1024.Idx := (Rect.unit (s := S6x7168x1024) (wsOff b) S1x7168x1024.size (wsOff_inb b)).set
theorem mem_WB (b : Fin 6) (y : S6x7168x1024.Idx) : y ∈ WB b ↔ 1 * b.val ≤ (y 0).val ∧ (y 0).val < 1 * b.val + 1 := by
  rw [Rect.mem_set_unit]
  have h1 : (y 1).val < 7168 := (y 1).isLt
  have h2 : (y 2).val < 1024 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 7168; omega
    · show 0 ≤ (y 2).val ∧ (y 2).val < 0 + 1024; omega
theorem WB_disjoint : ∀ b b' : Fin 6, b ≠ b' → Disjoint (WB b) (WB b') := by
  intro b b' hne; rw [Finset.disjoint_left]; intro y hy hy'; rw [mem_WB] at hy hy'; exact hne (Fin.ext (by omega))
theorem WB_cover : (Finset.univ : Finset (Fin 6)).biUnion WB = Finset.univ := by
  ext y; simp only [Finset.mem_biUnion, Finset.mem_univ, true_and, iff_true]
  have h : (y 0).val < 6 := (y 0).isLt
  exact ⟨⟨(y 0).val / 1, by omega⟩, by rw [mem_WB]; show 1 * ((y 0).val / 1) ≤ _ ∧ _ < 1 * ((y 0).val / 1) + 1; omega⟩

/-- The output slots. -/
abbrev OB (b : Fin 2) : Finset S2x256x8x128.Idx := (Rect.unit (s := S2x256x8x128) (osOff b) S1x256x8x128.size (osOff_inb b)).set
theorem mem_OB (b : Fin 2) (y : S2x256x8x128.Idx) : y ∈ OB b ↔ 1 * b.val ≤ (y 0).val ∧ (y 0).val < 1 * b.val + 1 := by
  rw [Rect.mem_set_unit]
  have h1 : (y 1).val < 256 := (y 1).isLt
  have h2 : (y 2).val < 8 := (y 2).isLt
  have h3 : (y 3).val < 128 := (y 3).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 256; omega
    · show 0 ≤ (y 2).val ∧ (y 2).val < 0 + 8; omega
    · show 0 ≤ (y 3).val ∧ (y 3).val < 0 + 128; omega
theorem OB_disjoint : ∀ b b' : Fin 2, b ≠ b' → Disjoint (OB b) (OB b') := by
  intro b b' hne; rw [Finset.disjoint_left]; intro y hy hy'; rw [mem_OB] at hy hy'; exact hne (Fin.ext (by omega))
theorem OB_cover : (Finset.univ : Finset (Fin 2)).biUnion OB = Finset.univ := by
  ext y; simp only [Finset.mem_biUnion, Finset.mem_univ, true_and, iff_true]
  have h : (y 0).val < 2 := (y 0).isLt
  exact ⟨⟨(y 0).val / 1, by omega⟩, by rw [mem_OB]; show 1 * ((y 0).val / 1) ≤ _ ∧ _ < 1 * ((y 0).val / 1) + 1; omega⟩

/-- The head groups of `q`. -/
abbrev QG (b : Fin 7) : Finset S256x56x128.Idx := (Rect.unit (s := S256x56x128) (qOff b) S256x8x128.size (qOff_inb b)).set
theorem mem_QG (b : Fin 7) (y : S256x56x128.Idx) : y ∈ QG b ↔ 8 * b.val ≤ (y 1).val ∧ (y 1).val < 8 * b.val + 8 := by
  rw [Rect.mem_set_unit]
  have h0 : (y 0).val < 256 := (y 0).isLt
  have h2 : (y 2).val < 128 := (y 2).isLt
  constructor
  · intro H; have a0 : 8 * b.val ≤ (y 1).val ∧ (y 1).val < 8 * b.val + 8 := H 1; omega
  · intro H i; fin_cases i
    · show 0 ≤ (y 0).val ∧ (y 0).val < 0 + 256; omega
    · show 8 * b.val ≤ (y 1).val ∧ (y 1).val < 8 * b.val + 8; omega
    · show 0 ≤ (y 2).val ∧ (y 2).val < 0 + 128; omega
theorem QG_disjoint : ∀ b b' : Fin 7, b ≠ b' → Disjoint (QG b) (QG b') := by
  intro b b' hne; rw [Finset.disjoint_left]; intro y hy hy'; rw [mem_QG] at hy hy'; exact hne (Fin.ext (by omega))
theorem QG_cover : (Finset.univ : Finset (Fin 7)).biUnion QG = Finset.univ := by
  ext y; simp only [Finset.mem_biUnion, Finset.mem_univ, true_and, iff_true]
  have h : (y 1).val < 56 := (y 1).isLt
  exact ⟨⟨(y 1).val / 8, by omega⟩, by rw [mem_QG]; show 8 * ((y 1).val / 8) ≤ _ ∧ _ < 8 * ((y 1).val / 8) + 8; omega⟩

theorem unit_zero3 (h) : (Rect.unit (s := S256x8x128) ![0, 0, 0] S256x8x128.size h).set = Finset.univ := by
  ext y; rw [Rect.mem_set_unit]; simp only [Finset.mem_univ, iff_true]
  have h0 : (y 0).val < 256 := (y 0).isLt
  have h1 : (y 1).val < 8 := (y 1).isLt
  have h2 : (y 2).val < 128 := (y 2).isLt
  intro i; fin_cases i
  · show 0 ≤ (y 0).val ∧ (y 0).val < 0 + 256; omega
  · show 0 ≤ (y 1).val ∧ (y 1).val < 0 + 8; omega
  · show 0 ≤ (y 2).val ∧ (y 2).val < 0 + 128; omega

theorem xrow_set (b : Fin 8) : (xrow b).view.set = XS b := View.set_slice_whole _ _
theorem xslot_set (b : Fin 8) : (xslot b).view.set = XS b := View.set_slice_whole _ _
theorem wcol_set (b : Fin 9) : (wcol b).view.set = WC b := View.set_slice_whole _ _
theorem wslot_set (b : Fin 6) : (wslot b).view.set = WB b := (View.set_reshape _ _).trans (View.set_slice_whole _ _)
theorem oslot_set (b : Fin 2) : (oslot b).view.set = OB b := (View.set_reshape _ _).trans (View.set_slice_whole _ _)
theorem qgrp_set (b : Fin 7) : (qgrp b).view.set = QG b := View.set_slice_whole _ _
theorem kAll_set : kAll.view.set = Finset.univ := (View.set_slice_whole _ _).trans (unit_zero3 _)
theorem vAll_set : vAll.view.set = Finset.univ := (View.set_slice_whole _ _).trans (unit_zero3 _)

section Split
variable (c : Dev nD)

/-- A buffer of its own, whole. -/
theorem held_whole (b : Ref sig .tc) (f : Buf (Elt F) ((c : Thread nD τ).loc b)) :
    (heldP c (Memref.whole b : Memref sig .tc _ _ _) f : sProp 𝕄) = (((c : Thread nD τ).loc b) ↦{fullShare} f) :=
  congrArg (fun S => (((c : Thread nD τ).loc b) ↦[S]{fullShare} f : sProp 𝕄)) (View.set_whole b)

/-- Whole at some contents: its blocks, each at some contents. -/
theorem blocks_any {ℓ : Loc nD τ sig} [Inhabited (Buf (Elt F) ℓ)] {NB : ℕ} (S : Fin NB → Finset _)
    (hd : ∀ b b', b ≠ b' → Disjoint (S b) (S b')) (hc : (Finset.univ : Finset (Fin NB)).biUnion S = Finset.univ) :
    (iprop(∃ f : Buf (Elt F) ℓ, ℓ ↦{fullShare} f) : sProp 𝕄) = bigSep Finset.univ fun b => iprop(∃ f, ℓ ↦[S b]{fullShare} f) := by
  have h0 : ∀ (f : Buf (Elt F) ℓ) b, (iprop(ℓ ↦[S b]{fullShare} f) : sProp 𝕄) ⊢ iprop(∃ g : Buf (Elt F) ℓ, ℓ ↦[S b]{fullShare} g) := fun f b => by
    iintro H; iexists f; iexact H
  have h1 : ∀ f : Buf (Elt F) ℓ, (iprop(ℓ ↦{fullShare} f) : sProp 𝕄) ⊢ bigSep Finset.univ fun b => iprop(∃ f, ℓ ↦[S b]{fullShare} f) := fun f =>
    (entails_of_eq (Ring.pointsTo_blocks (ℓ := ℓ) S hd hc f)).trans (bigSep_mono fun b _ => h0 f b)
  have h2 : (iprop(∃ f : Buf (Elt F) ℓ, ℓ ↦{fullShare} f) : sProp 𝕄) ⊢ bigSep Finset.univ fun b => iprop(∃ f, ℓ ↦[S b]{fullShare} f) := by
    iintro ⟨%f, H⟩; iapply (h1 f); iexact H
  exact Entails.antisymm h2 (Ring.pointsTo_blocks_join_exists (ℓ := ℓ) S hd hc default)

instance (b : Ref sig .tc) : Inhabited (Buf (Elt F) ((c : Thread nD τ).loc b)) := ⟨fun _ => default⟩

/-- The arrays read are their blocks, -/
theorem x_blocks (X : Buf (Elt F) ((c : Thread nD τ).loc main_v0)) :
    (((c : Thread nD τ).loc main_v0) ↦{fullShare} X : sProp 𝕄) = bigSep Finset.univ fun b => heldP c (xrow b) X := by
  rw [Ring.pointsTo_blocks (ℓ := (c : Thread nD τ).loc main_v0) XS XS_disjoint XS_cover]
  exact bigSep_congr fun b _ => by rw [← xrow_set]; rfl
theorem w_blocks (X : Buf (Elt F) ((c : Thread nD τ).loc main_arg2)) :
    (((c : Thread nD τ).loc main_arg2) ↦{fullShare} X : sProp 𝕄) = bigSep Finset.univ (whome c X) := by
  rw [Ring.pointsTo_blocks (ℓ := (c : Thread nD τ).loc main_arg2) WC WC_disjoint WC_cover]
  exact bigSep_congr fun b _ => by rw [← wcol_set]; rfl
/-- and so are the buffers written. -/
theorem xb_blocks : (iprop(∃ f, ((c : Thread nD τ).loc cc0_scratch0) ↦{fullShare} f) : sProp 𝕄) = bigSep Finset.univ fun b => iprop(∃ f, heldP c (xslot b) f) := by
  rw [blocks_any (ℓ := (c : Thread nD τ).loc cc0_scratch0) XS XS_disjoint XS_cover]
  exact bigSep_congr fun b _ => by rw [← xslot_set]; rfl
theorem wb_blocks : (iprop(∃ f, ((c : Thread nD τ).loc cc0_scratch3) ↦{fullShare} f) : sProp 𝕄) = bigSep Finset.univ fun b => iprop(∃ f, heldP c (wslot b) f) := by
  rw [blocks_any (ℓ := (c : Thread nD τ).loc cc0_scratch3) WB WB_disjoint WB_cover]
  exact bigSep_congr fun b _ => by rw [← wslot_set]; rfl
theorem ob_blocks : (iprop(∃ f, ((c : Thread nD τ).loc cc0_scratch12) ↦{fullShare} f) : sProp 𝕄) = bigSep Finset.univ fun b => iprop(∃ f, heldP c (oslot b) f) := by
  rw [blocks_any (ℓ := (c : Thread nD τ).loc cc0_scratch12) OB OB_disjoint OB_cover]
  exact bigSep_congr fun b _ => by rw [← oslot_set]; rfl
theorem q_blocks : (iprop(∃ f, ((c : Thread nD τ).loc main_v3_0) ↦{fullShare} f) : sProp 𝕄) = bigSep Finset.univ fun b => oinit c (qgrp b) := by
  rw [blocks_any (ℓ := (c : Thread nD τ).loc main_v3_0) QG QG_disjoint QG_cover]
  exact bigSep_congr fun b _ => by rw [← qgrp_set]; rfl
theorem k_block : (iprop(∃ f, ((c : Thread nD τ).loc main_v3_1) ↦{fullShare} f) : sProp 𝕄) = oinit c kAll :=
  congrArg (fun S => (iprop(∃ f, ((c : Thread nD τ).loc main_v3_1) ↦[S]{fullShare} f) : sProp 𝕄)) kAll_set.symm
theorem v_block : (iprop(∃ f, ((c : Thread nD τ).loc main_v3_2) ↦{fullShare} f) : sProp 𝕄) = oinit c vAll :=
  congrArg (fun S => (iprop(∃ f, ((c : Thread nD τ).loc main_v3_2) ↦[S]{fullShare} f) : sProp 𝕄)) vAll_set.symm
theorem any_whole (b : Ref sig .tc) :
    (iprop(∃ f, ((c : Thread nD τ).loc b) ↦{fullShare} f) : sProp 𝕄) = iprop(∃ f, heldP c (Memref.whole b : Memref sig .tc _ _ _) f) := by
  congr 1; funext f; exact (held_whole c b f).symm

theorem fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

theorem sep_assoc_eq (A B C : sProp 𝕄) : iprop((A ∗ B) ∗ C) = iprop(A ∗ B ∗ C) := Entails.antisymm sep_assoc sep_assoc'

/-- The eight output blocks of the loop: `q`'s seven head groups and `k`. -/
theorem qk_blocks : (bigSep Finset.univ (fun b : Fin 8 => oinit (F := F) c (odst b.val)) : sProp 𝕄)
    = iprop((∃ f, ((c : Thread nD τ).loc main_v3_0) ↦{fullShare} f) ∗ (∃ f, ((c : Thread nD τ).loc main_v3_1) ↦{fullShare} f)) := by
  rw [q_blocks, k_block, fin8, fin7]
  simp only [sep_assoc_eq]
  rfl

end Split

end Cert.Proof.KernelIdeal

end
-- ==== Proof.IdealResults.lean ====
/- The results whole: their blocks, put together. -/
module

public import proofs.«01_k».proof.Proof.IdealSplit
public import Idealize.ShloMosaic.Lib.ViewIndex

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

theorem head_at (H : Fin 72 → FVec F S256x128 .f32) (n n' : Fin 72) (i i' : Fin 256) (d d' : Fin 128) (hn : n.val = n'.val) (hi : i.val = i'.val) (hd : d.val = d'.val) :
    truncf .bf16 (H n) bitsLt_bf16_f32 (ix2 i d) = truncf .bf16 (H n') bitsLt_bf16_f32 (ix2 i' d') := by
  rw [Fin.ext hn, Fin.ext hi, Fin.ext hd]

/-- `n` heads from head `o` on, rounded, as a result holds them. -/
def headsOut (H : Fin 72 → FVec F S256x128 .f32) {s : Shape} (o n : ℕ) (ho : o + n ≤ 72) (i : s.Idx → Fin 256) (h : s.Idx → Fin n) (d : s.Idx → Fin 128) : FVec F s .bf16 :=
  fun y => truncf .bf16 (H ⟨o + (h y).val, by have := (h y).isLt; omega⟩) bitsLt_bf16_f32 (ix2 (i y) (d y))

section Results
variable (c : Dev nD) (X : Buf (Elt F) (xM.view.loc (c : Thread nD τ))) (W : Buf (Elt F) (wM.view.loc (c : Thread nD τ)))
  (NW : Buf (Elt F) (nwH.view.loc (c : Thread nD τ))) (WS : Buf (Elt F) (wsH.view.loc (c : Thread nD τ)))
  (POS : Buf (Elt F) (posH.view.loc (c : Thread nD τ))) (FR : Buf (Elt F) (frH.view.loc (c : Thread nD τ)))

/-- The five results. -/
def qRes : FVec F S256x56x128 .bf16 := headsOut (ropeV c X W NW WS POS FR) 0 56 (by decide) (fun y => y 0) (fun y => y 1) (fun y => y 2)
def kRes : FVec F S256x8x128 .bf16 := headsOut (ropeV c X W NW WS POS FR) 56 8 (by decide) (fun y => y 0) (fun y => y 1) (fun y => y 2)
def vRes : FVec F S256x8x128 .bf16 := headsOut (headV c X W NW WS) 64 8 (by decide) (fun y => y 0) (fun y => y 1) (fun y => y 2)

/-- A block at its value is the same part of any array that reads so there. -/
theorem held_holds {sp : Space} {s : Shape} {e : EltTy} (M : Memref sig .tc sp s e) (v : s.Idx → Elt F e) (f G : Buf (Elt F) (M.view.loc (c : Thread nD τ)))
    (h : ∀ x, M.view.read (Elt F) G x = v x) : (heldP c M (holds c M v f) : sProp 𝕄) = heldP c M G := by
  refine pointsTo_congr fun i hi => ?_
  obtain ⟨x, -, rfl⟩ := Finset.mem_map.mp hi
  refine View.eq_of_read_eq (Eq.trans ?_ (h x).symm)
  have := View.read_writes_cons_emb (Val := Elt F) M.view f (Rect.whole s) v [] x
  rw [Rect.emb_whole_apply] at this
  exact this

theorem q_read (b : Fin 7) (x : S256x8x128.Idx) : (qgrp b).view.read (Elt F) (qRes c X W NW WS POS FR) x = blockOut (ropeV c X W NW WS POS FR) ⟨b.val, by omega⟩ x := by
  have h1 : (x 1).val < 8 := (x 1).isLt
  exact head_at _ _ _ _ _ _ _ (by show 0 + (8 * b.val + 1 * (x 1).val) = 8 * b.val + (x 1).val; omega)
    (by show 0 + 1 * (x 0).val = (x 0).val; omega) (by show 0 + 1 * (x 2).val = (x 2).val; omega)

theorem kv_read (H : Fin 72 → FVec F S256x128 .f32) (o : ℕ) (ho : o + 8 ≤ 72) (b : Fin 9) (hb : 8 * b.val = o) (hh) (x : S256x8x128.Idx) :
    headsOut H o 8 ho (fun y => y 0) (fun y => y 1) (fun y => y 2) ((Rect.unit (s := S256x8x128) ![0, 0, 0] S256x8x128.size hh).emb x) = blockOut H b x := by
  exact head_at _ _ _ _ _ _ _ (by show o + (0 + 1 * (x 1).val) = 8 * b.val + (x 1).val; omega)
    (by show 0 + 1 * (x 0).val = (x 0).val; omega) (by show 0 + 1 * (x 2).val = (x 2).val; omega)

theorem land {sp : Space} {s : Shape} {e : EltTy} (M : Memref sig .tc sp s e) (v : s.Idx → Elt F e) (G : Buf (Elt F) (M.view.loc (c : Thread nD τ))) (P : sProp 𝕄)
    (h : ∀ x, M.view.read (Elt F) G x = v x) (hP : (heldP c M G : sProp 𝕄) = P) : iprop(∃ f, heldP c M (holds c M v f)) ⊢ P := by
  have h1 : ∀ f, (heldP c M (holds c M v f) : sProp 𝕄) ⊢ P := fun f => entails_of_eq ((held_holds c M v f G h).trans hP)
  iintro ⟨%f, H⟩; iapply (h1 f); iexact H

/-- The array `b` whole at `f`. -/
abbrev wholeP (b : Ref sig .tc) (f : Buf (Elt F) ((c : Thread nD τ).loc b)) : sProp 𝕄 := iprop(((c : Thread nD τ).loc b) ↦{fullShare} f)

theorem qk_back : (bigSep Finset.univ (fun b : Fin 8 => iprop(∃ f, heldP c (odst b.val) (holds c (odst b.val) (blockOut (ropeV c X W NW WS POS FR) ⟨b.val, by omega⟩) f))) : sProp 𝕄)
    ⊢ iprop(wholeP c main_v3_0 (qRes c X W NW WS POS FR) ∗ wholeP c main_v3_1 (kRes c X W NW WS POS FR)) := by
  have hq : ∀ b : Fin 7, (iprop(∃ f, heldP c (qgrp b) (holds c (qgrp b) (blockOut (ropeV c X W NW WS POS FR) ⟨b.val, by omega⟩) f)) : sProp 𝕄)
      ⊢ iprop(((c : Thread nD τ).loc main_v3_0) ↦[QG b]{fullShare} qRes c X W NW WS POS FR) := fun b =>
    land c (qgrp b) _ (qRes c X W NW WS POS FR) _ (q_read c X W NW WS POS FR b)
      (congrArg (fun S => (((c : Thread nD τ).loc main_v3_0) ↦[S]{fullShare} qRes c X W NW WS POS FR : sProp 𝕄)) (qgrp_set b))
  have hk : (iprop(∃ f, heldP c kAll (holds c kAll (blockOut (ropeV c X W NW WS POS FR) 7) f)) : sProp 𝕄) ⊢ wholeP c main_v3_1 (kRes c X W NW WS POS FR) :=
    land c kAll _ (kRes c X W NW WS POS FR) _ (fun x => kv_read _ 56 (by decide) 7 rfl _ x)
      (congrArg (fun S => (((c : Thread nD τ).loc main_v3_1) ↦[S]{fullShare} kRes c X W NW WS POS FR : sProp 𝕄)) kAll_set)
  have hb : (bigSep Finset.univ (fun b : Fin 7 => iprop(((c : Thread nD τ).loc main_v3_0) ↦[QG b]{fullShare} qRes c X W NW WS POS FR)) : sProp 𝕄) ⊢ wholeP c main_v3_0 (qRes c X W NW WS POS FR) :=
    entails_of_eq (Ring.pointsTo_blocks (ℓ := (c : Thread nD τ).loc main_v3_0) QG QG_disjoint QG_cover _).symm
  rw [fin8]
  iintro ⟨H0, H1, H2, H3, H4, H5, H6, H7⟩
  isplitl [H0 H1 H2 H3 H4 H5 H6]
  · iapply hb
    rw [fin7]
    isplitl [H0]; · iapply (hq 0); iexact H0
    isplitl [H1]; · iapply (hq 1); iexact H1
    isplitl [H2]; · iapply (hq 2); iexact H2
    isplitl [H3]; · iapply (hq 3); iexact H3
    isplitl [H4]; · iapply (hq 4); iexact H4
    isplitl [H5]; · iapply (hq 5); iexact H5
    iapply (hq 6); iexact H6
  iapply hk; iexact H7

theorem v_back : (iprop(∃ f, heldP c vAll (holds c vAll (blockOut (headV c X W NW WS) 8) f)) : sProp 𝕄) ⊢ wholeP c main_v3_2 (vRes c X W NW WS) :=
  land c vAll _ (vRes c X W NW WS) _ (fun x => kv_read _ 64 (by decide) 8 rfl _ x)
    (congrArg (fun S => (((c : Thread nD τ).loc main_v3_2) ↦[S]{fullShare} vRes c X W NW WS : sProp 𝕄)) vAll_set)
theorem code_back : (iprop(∃ f, heldP c codeH (holds c codeH (codesV c X NW) f)) : sProp 𝕄) ⊢ wholeP c main_v3_3 (codesV c X NW) :=
  land c codeH _ _ _ (fun x => rfl) (held_whole c main_v3_3 (codesV c X NW))
theorem scale_back : (iprop(∃ f, heldP c scaleH (holds c scaleH (rowV c X NW) f)) : sProp 𝕄) ⊢ wholeP c main_v3_4 (rowV c X NW) :=
  land c scaleH _ _ _ (fun x => rfl) (held_whole c main_v3_4 (rowV c X NW))
end Results

end Cert.Proof.KernelIdeal
-- ==== Proof.IdealLaunch.lean ====
/- The launch: what the region hands the body is what the body's run starts from, and the arrays end as they were
   launched. -/
module

public import proofs.«01_k».proof.Proof.IdealResults
public import Idealize.ShloMosaic.Lib.Pipeline.FrameValue

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UU nD τ) ℕ

variable (m : (ℓ : Loc nD τ sig) → Buf (Elt F) ℓ) (ρ : Dev nD → PrngReg)

/-! ## The semaphores, the arrays read and the arrays written -/

abbrev osem0 : Fin 22 → SemLoc sig := fun j => SemLoc.dma j
theorem ownSemFacts0 : Pipeline.OwnSemFacts (cfg0.spec) osem0 := by decide

def H0 : Finset (Ref sig .tc) := {main_v0, main_v1, main_arg2, main_v2, main_arg4, main_cst}
theorem H0_sub : H0 ⊆ Pipeline.restRefs sig (cfg0.spec) := by decide
def R0 : Finset (Ref sig .tc) := {main_v3_0, main_v3_1, main_v3_2, main_v3_3, main_v3_4}
theorem R0_sub : R0 ⊆ Pipeline.restRefs sig (cfg0.spec) \ H0 := by decide

theorem hmain0 : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

theorem mem_rest (b : Ref sig .tc) (h : b ∈ Pipeline.restRefs sig (cfg0.spec) \ R0) : b ∈ Pipeline.restRefs sig (cfg0.spec) \ R0 := h

/-- The arguments end as launched, whatever the run leaves in the arrays it writes. -/
theorem args_of {r : PUnit × MemSt nD τ sig (Elt F)}
    (h : ∀ c : Dev nD, ∀ b ∈ Pipeline.restRefs sig (cfg0.spec) \ R0, r.2.mem ((c : Thread nD τ).loc b) = V m c b) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c main_arg0 (by decide)).trans (V_main_arg0 m c), (h c main_arg1 (by decide)).trans (V_main_arg1 m c),
    (h c main_arg2 (by decide)).trans (V_main_arg2 m c), (h c main_arg3 (by decide)).trans (V_main_arg3 m c),
    (h c main_arg4 (by decide)).trans (V_main_arg4 m c)⟩

/-! ## The region's resources are the body's -/

theorem eq_of_both {A B : sProp 𝕄} (h : A ⊢ B) (h' : B ⊢ A) : A = B := Entails.antisymm h h'

/-- The resources besides the results': as the body's run states them, -/
abbrev restP (c : Dev nD) : sProp 𝕄 :=
  iprop(bigSep Finset.univ (xhome c (V m c main_v0)) ∗ bigSep Finset.univ (whome c (V m c main_arg2)) ∗ bigSep Finset.univ (wfree (F := F) c)
    ∗ heldP c nwH (V m c main_v1) ∗ heldP c wsH (V m c main_v2) ∗ heldP c posH (V m c main_arg4) ∗ heldP c frH (V m c main_cst)
    ∗ anyP (F := F) c nwM ∗ anyP (F := F) c wsM ∗ anyP (F := F) c posM ∗ anyP (F := F) c frM
    ∗ (cellP c (css 0) ∗ cellP c (css 1) ∗ cellP c (css 2) ∗ cellP c (css 3))
    ∗ anyP (F := F) c nM ∗ anyP (F := F) c cM ∗ anyP (F := F) c sM ∗ anyP (F := F) c cosM ∗ anyP (F := F) c sinM ∗ anyP (F := F) c rowM
    ∗ bigSep Finset.univ (ofree (F := F) c) ∗ (cellP c (csm 0) ∗ cellP c (csm 1)))

/-- the buffer `b` at some contents, -/
abbrev bufP (c : Dev nD) (b : Ref sig .tc) : sProp 𝕄 := iprop(∃ f : Buf (Elt F) ((c : Thread nD τ).loc b), ((c : Thread nD τ).loc b) ↦{fullShare} f)
/-- the array `b` at its contents, -/
abbrev arrP (c : Dev nD) (b : Ref sig .tc) : sProp 𝕄 := iprop(((c : Thread nD τ).loc b) ↦{fullShare} V m c b)
/-- and semaphore `j` at zero: -/
abbrev semP (c : Dev nD) (j : Fin 22) : sProp 𝕄 := semVal ((c : Thread nD τ), SemLoc.dma j) 0

/-- as the region holds them. -/
abbrev flatP (c : Dev nD) : sProp 𝕄 :=
  iprop((bufP (F := F) c cc0_scratch0 ∗ bufP (F := F) c cc0_scratch1 ∗ bufP (F := F) c cc0_scratch2 ∗ bufP (F := F) c cc0_scratch3 ∗ bufP (F := F) c cc0_scratch4 ∗ bufP (F := F) c cc0_scratch5 ∗ bufP (F := F) c cc0_scratch6 ∗ bufP (F := F) c cc0_scratch7 ∗ bufP (F := F) c cc0_scratch8 ∗ bufP (F := F) c cc0_scratch9 ∗ bufP (F := F) c cc0_scratch10 ∗ bufP (F := F) c cc0_scratch11 ∗ bufP (F := F) c cc0_scratch12)
    ∗ (semP (F := F) c 0 ∗ semP (F := F) c 1 ∗ semP (F := F) c 2 ∗ semP (F := F) c 3 ∗ semP (F := F) c 4 ∗ semP (F := F) c 5 ∗ semP (F := F) c 6 ∗ semP (F := F) c 7 ∗ semP (F := F) c 8 ∗ semP (F := F) c 9 ∗ semP (F := F) c 10 ∗ semP (F := F) c 11 ∗ semP (F := F) c 12 ∗ semP (F := F) c 13 ∗ semP (F := F) c 14 ∗ semP (F := F) c 15 ∗ semP (F := F) c 16 ∗ semP (F := F) c 17 ∗ semP (F := F) c 18 ∗ semP (F := F) c 19 ∗ semP (F := F) c 20 ∗ semP (F := F) c 21)
    ∗ arrP m c main_v0 ∗ arrP m c main_v1 ∗ arrP m c main_arg2 ∗ arrP m c main_v2 ∗ arrP m c main_arg4 ∗ arrP m c main_cst)

theorem sem_x (c : Dev nD) (k : Fin 8) : cellP (F := F) c (csx k) = semP c (k.castLE (by decide)) :=
  congrArg (fun j : Fin 22 => semP (F := F) c j) ((by decide : ∀ k : Fin 8, ((csx k).sem : Fin 22) = k.castLE (by decide)) k)
theorem sem_w (c : Dev nD) (k : Fin 6) : cellP (F := F) c (csw k) = semP c ((k.natAdd 8).castLE (by decide)) :=
  congrArg (fun j : Fin 22 => semP (F := F) c j) ((by decide : ∀ k : Fin 6, ((csw k).sem : Fin 22) = (k.natAdd 8).castLE (by decide)) k)
theorem sem_s (c : Dev nD) (k : Fin 4) : cellP (F := F) c (css k) = semP c ((k.natAdd 14).castLE (by decide)) :=
  congrArg (fun j : Fin 22 => semP (F := F) c j) ((by decide : ∀ k : Fin 4, ((css k).sem : Fin 22) = (k.natAdd 14).castLE (by decide)) k)
theorem sem_o (c : Dev nD) (k : Fin 2) : cellP (F := F) c (cso k) = semP c ((k.natAdd 18).castLE (by decide)) :=
  congrArg (fun j : Fin 22 => semP (F := F) c j) ((by decide : ∀ k : Fin 2, ((cso k).sem : Fin 22) = (k.natAdd 18).castLE (by decide)) k)
theorem sem_m (c : Dev nD) (k : Fin 2) : cellP (F := F) c (csm k) = semP c (k.natAdd 20) :=
  congrArg (fun j : Fin 22 => semP (F := F) c j) ((by decide : ∀ k : Fin 2, ((csm k).sem : Fin 22) = k.natAdd 20) k)

set_option maxHeartbeats 1000000 in
theorem rest_flat (c : Dev nD) : restP m c = flatP m c := by
  have ex : bigSep Finset.univ (xhome c (V m c main_v0)) = iprop(bufP (F := F) c cc0_scratch0 ∗ arrP m c main_v0 ∗ (semP (F := F) c 0 ∗ semP (F := F) c 1 ∗ semP (F := F) c 2 ∗ semP (F := F) c 3 ∗ semP (F := F) c 4 ∗ semP (F := F) c 5 ∗ semP (F := F) c 6 ∗ semP (F := F) c 7)) := by
    unfold xhome
    rw [bigSep_sep', bigSep_sep', ← xb_blocks, ← x_blocks, fin8]
    simp only [sem_x]; rfl
  have ew : bigSep Finset.univ (whome c (V m c main_arg2)) = arrP m c main_arg2 := (w_blocks c _).symm
  have ef : bigSep Finset.univ (wfree (F := F) c) = iprop(bufP (F := F) c cc0_scratch3 ∗ (semP (F := F) c 8 ∗ semP (F := F) c 9 ∗ semP (F := F) c 10 ∗ semP (F := F) c 11 ∗ semP (F := F) c 12 ∗ semP (F := F) c 13)) := by
    unfold wfree
    rw [bigSep_sep', ← wb_blocks, fin6]
    simp only [sem_w]; rfl
  have eo : bigSep Finset.univ (ofree (F := F) c) = iprop(bufP (F := F) c cc0_scratch12 ∗ (semP (F := F) c 18 ∗ semP (F := F) c 19)) := by
    unfold ofree
    rw [bigSep_sep', ← ob_blocks, fin2]
    simp only [sem_o]; rfl
  have es : (iprop(cellP c (css 0) ∗ cellP c (css 1) ∗ cellP c (css 2) ∗ cellP c (css 3)) : sProp 𝕄) = iprop(semP (F := F) c 14 ∗ semP (F := F) c 15 ∗ semP (F := F) c 16 ∗ semP (F := F) c 17) := by simp only [sem_s]; rfl
  have em : (iprop(cellP c (csm 0) ∗ cellP c (csm 1)) : sProp 𝕄) = iprop(semP (F := F) c 20 ∗ semP (F := F) c 21) := by simp only [sem_m]; rfl
  have ea : ∀ b : Ref sig .tc, (iprop(∃ f, heldP c (Memref.whole b : Memref sig .tc _ _ _) f) : sProp 𝕄) = bufP (F := F) c b := fun b => (any_whole c b).symm
  have eh : ∀ b : Ref sig .tc, (heldP c (Memref.whole b : Memref sig .tc _ _ _) (V m c b) : sProp 𝕄) = arrP m c b := fun b => held_whole c b _
  unfold restP flatP
  rw [ex, ew, ef, eo, es, em,
    show (heldP c nwH (V m c main_v1) : sProp 𝕄) = arrP m c main_v1 from eh main_v1, show (heldP c wsH (V m c main_v2) : sProp 𝕄) = arrP m c main_v2 from eh main_v2,
    show (heldP c posH (V m c main_arg4) : sProp 𝕄) = arrP m c main_arg4 from eh main_arg4, show (heldP c frH (V m c main_cst) : sProp 𝕄) = arrP m c main_cst from eh main_cst,
    show anyP (F := F) c nwM = bufP (F := F) c cc0_scratch4 from ea cc0_scratch4, show anyP (F := F) c wsM = bufP (F := F) c cc0_scratch5 from ea cc0_scratch5,
    show anyP (F := F) c posM = bufP (F := F) c cc0_scratch6 from ea cc0_scratch6, show anyP (F := F) c frM = bufP (F := F) c cc0_scratch7 from ea cc0_scratch7,
    show anyP (F := F) c nM = bufP (F := F) c cc0_scratch1 from ea cc0_scratch1, show anyP (F := F) c cM = bufP (F := F) c cc0_scratch2 from ea cc0_scratch2,
    show anyP (F := F) c sM = bufP (F := F) c cc0_scratch10 from ea cc0_scratch10, show anyP (F := F) c cosM = bufP (F := F) c cc0_scratch8 from ea cc0_scratch8,
    show anyP (F := F) c sinM = bufP (F := F) c cc0_scratch9 from ea cc0_scratch9, show anyP (F := F) c rowM = bufP (F := F) c cc0_scratch11 from ea cc0_scratch11]
  refine eq_of_both ?_ ?_
  · iintro ⟨⟨B0, Av0, ⟨C0, C1, C2, C3, C4, C5, C6, C7⟩⟩, Aarg2, ⟨B3, ⟨C8, C9, C10, C11, C12, C13⟩⟩, Av1, Av2, Aarg4, Acst, B4, B5, B6, B7, ⟨C14, C15, C16, C17⟩, B1, B2, B10, B8, B9, B11, ⟨B12, ⟨C18, C19⟩⟩, ⟨C20, C21⟩⟩
    isplitl [B0 B1 B2 B3 B4 B5 B6 B7 B8 B9 B10 B11 B12]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      iexact B12
    isplitl [C0 C1 C2 C3 C4 C5 C6 C7 C8 C9 C10 C11 C12 C13 C14 C15 C16 C17 C18 C19 C20 C21]
    · isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      isplitl [C8]; · iexact C8
      isplitl [C9]; · iexact C9
      isplitl [C10]; · iexact C10
      isplitl [C11]; · iexact C11
      isplitl [C12]; · iexact C12
      isplitl [C13]; · iexact C13
      isplitl [C14]; · iexact C14
      isplitl [C15]; · iexact C15
      isplitl [C16]; · iexact C16
      isplitl [C17]; · iexact C17
      isplitl [C18]; · iexact C18
      isplitl [C19]; · iexact C19
      isplitl [C20]; · iexact C20
      iexact C21
    isplitl [Av0]; · iexact Av0
    isplitl [Av1]; · iexact Av1
    isplitl [Aarg2]; · iexact Aarg2
    isplitl [Av2]; · iexact Av2
    isplitl [Aarg4]; · iexact Aarg4
    iexact Acst
  · iintro ⟨⟨B0, B1, B2, B3, B4, B5, B6, B7, B8, B9, B10, B11, B12⟩, ⟨C0, C1, C2, C3, C4, C5, C6, C7, C8, C9, C10, C11, C12, C13, C14, C15, C16, C17, C18, C19, C20, C21⟩, ⟨Av0, Av1, Aarg2, Av2, Aarg4, Acst⟩⟩
    isplitl [B0 Av0 C0 C1 C2 C3 C4 C5 C6 C7]
    · isplitl [B0]; · iexact B0
      isplitl [Av0]; · iexact Av0
      isplitl [C0]; · iexact C0
      isplitl [C1]; · iexact C1
      isplitl [C2]; · iexact C2
      isplitl [C3]; · iexact C3
      isplitl [C4]; · iexact C4
      isplitl [C5]; · iexact C5
      isplitl [C6]; · iexact C6
      iexact C7
    isplitl [Aarg2]; · iexact Aarg2
    isplitl [B3 C8 C9 C10 C11 C12 C13]
    · isplitl [B3]; · iexact B3
      isplitl [C8]; · iexact C8
      isplitl [C9]; · iexact C9
      isplitl [C10]; · iexact C10
      isplitl [C11]; · iexact C11
      isplitl [C12]; · iexact C12
      iexact C13
    isplitl [Av1]; · iexact Av1
    isplitl [Av2]; · iexact Av2
    isplitl [Aarg4]; · iexact Aarg4
    isplitl [Acst]; · iexact Acst
    isplitl [B4]; · iexact B4
    isplitl [B5]; · iexact B5
    isplitl [B6]; · iexact B6
    isplitl [B7]; · iexact B7
    isplitl [C14 C15 C16 C17]
    · isplitl [C14]; · iexact C14
      isplitl [C15]; · iexact C15
      isplitl [C16]; · iexact C16
      iexact C17
    isplitl [B1]; · iexact B1
    isplitl [B2]; · iexact B2
    isplitl [B10]; · iexact B10
    isplitl [B8]; · iexact B8
    isplitl [B9]; · iexact B9
    isplitl [B11]; · iexact B11
    isplitl [B12 C18 C19]
    · isplitl [B12]; · iexact B12
      isplitl [C18]; · iexact C18
      iexact C19
    isplitl [C20]; · iexact C20
    iexact C21

theorem ownSems00_eq (c : Dev nD) :
    (Pipeline.ownSems0 (Ix := Unit) (Name := ℕ) (U := Pipeline.UD sig nD τ) (Lvl := ℕ) (Val := Elt F) (τ := τ) osem0 c : sProp 𝕄) = iprop(semP (F := F) c 0 ∗ semP (F := F) c 1 ∗ semP (F := F) c 2 ∗ semP (F := F) c 3 ∗ semP (F := F) c 4 ∗ semP (F := F) c 5 ∗ semP (F := F) c 6 ∗ semP (F := F) c 7 ∗ semP (F := F) c 8 ∗ semP (F := F) c 9 ∗ semP (F := F) c 10 ∗ semP (F := F) c 11 ∗ semP (F := F) c 12 ∗ semP (F := F) c 13 ∗ semP (F := F) c 14 ∗ semP (F := F) c 15 ∗ semP (F := F) c 16 ∗ semP (F := F) c 17 ∗ semP (F := F) c 18 ∗ semP (F := F) c 19 ∗ semP (F := F) c 20 ∗ semP (F := F) c 21) := by
  rw [Pipeline.ownSems0_eq_of_list c osem0 [0, 1, 2, 3, 4, 5, 6, 7, 8, 9, 10, 11, 12, 13, 14, 15, 16, 17, 18, 19, 20, 21] (by decide) (by decide)]; rfl
theorem hbmPts0_eq (c : Dev nD) :
    (bigSep H0 (fun b => ((c : Thread nD τ).loc b) ↦{fullShare} V m c b) : sProp 𝕄) = iprop(arrP m c main_v0 ∗ arrP m c main_v1 ∗ arrP m c main_arg2 ∗ arrP m c main_v2 ∗ arrP m c main_arg4 ∗ arrP m c main_cst) := by
  rw [BI.bigSep_eq_bigSepL_of_eq [main_v0, main_v1, main_arg2, main_v2, main_arg4, main_cst] (by decide) (by decide)]; rfl
theorem ownedPts0_eq (c : Dev nD) :
    (Pipeline.owned R0 c : sProp 𝕄) = iprop(bufP (F := F) c main_v3_0 ∗ bufP (F := F) c main_v3_1 ∗ bufP (F := F) c main_v3_2 ∗ bufP (F := F) c main_v3_3 ∗ bufP (F := F) c main_v3_4) := by
  unfold Pipeline.owned; rw [BI.bigSep_eq_bigSepL_of_eq [main_v3_0, main_v3_1, main_v3_2, main_v3_3, main_v3_4] (by decide) (by decide)]; rfl

/-- What the region holds, by parts. -/
theorem region_eq (c : Dev nD) : (Pipeline.ΦDR osem0 (cfg0.spec) H0 R0 (V m) c : sProp 𝕄)
    = iprop((bufP (F := F) c cc0_scratch0 ∗ bufP (F := F) c cc0_scratch1 ∗ bufP (F := F) c cc0_scratch2 ∗ bufP (F := F) c cc0_scratch3 ∗ bufP (F := F) c cc0_scratch4 ∗ bufP (F := F) c cc0_scratch5 ∗ bufP (F := F) c cc0_scratch6 ∗ bufP (F := F) c cc0_scratch7 ∗ bufP (F := F) c cc0_scratch8 ∗ bufP (F := F) c cc0_scratch9 ∗ bufP (F := F) c cc0_scratch10 ∗ bufP (F := F) c cc0_scratch11 ∗ bufP (F := F) c cc0_scratch12) ∗ (∃ r, prngReg c r) ∗ (semP (F := F) c 0 ∗ semP (F := F) c 1 ∗ semP (F := F) c 2 ∗ semP (F := F) c 3 ∗ semP (F := F) c 4 ∗ semP (F := F) c 5 ∗ semP (F := F) c 6 ∗ semP (F := F) c 7 ∗ semP (F := F) c 8 ∗ semP (F := F) c 9 ∗ semP (F := F) c 10 ∗ semP (F := F) c 11 ∗ semP (F := F) c 12 ∗ semP (F := F) c 13 ∗ semP (F := F) c 14 ∗ semP (F := F) c 15 ∗ semP (F := F) c 16 ∗ semP (F := F) c 17 ∗ semP (F := F) c 18 ∗ semP (F := F) c 19 ∗ semP (F := F) c 20 ∗ semP (F := F) c 21) ∗ (arrP m c main_v0 ∗ arrP m c main_v1 ∗ arrP m c main_arg2 ∗ arrP m c main_v2 ∗ arrP m c main_arg4 ∗ arrP m c main_cst)
      ∗ bufP (F := F) c main_v3_0 ∗ bufP (F := F) c main_v3_1 ∗ bufP (F := F) c main_v3_2 ∗ bufP (F := F) c main_v3_3 ∗ bufP (F := F) c main_v3_4) := by
  rw [Pipeline.ΦDR_eq, show (Pipeline.scopedRest (Ix := Unit) (Name := ℕ) (U := Pipeline.UD sig nD τ) (Lvl := ℕ) (Val := Elt F) (cfg0.spec) c : sProp 𝕄) = iprop(bufP (F := F) c cc0_scratch0 ∗ bufP (F := F) c cc0_scratch1 ∗ bufP (F := F) c cc0_scratch2 ∗ bufP (F := F) c cc0_scratch3 ∗ bufP (F := F) c cc0_scratch4 ∗ bufP (F := F) c cc0_scratch5 ∗ bufP (F := F) c cc0_scratch6 ∗ bufP (F := F) c cc0_scratch7 ∗ bufP (F := F) c cc0_scratch8 ∗ bufP (F := F) c cc0_scratch9 ∗ bufP (F := F) c cc0_scratch10 ∗ bufP (F := F) c cc0_scratch11 ∗ bufP (F := F) c cc0_scratch12) from scopedRest0_eq c, ownSems00_eq, hbmPts0_eq, ownedPts0_eq]

/-- The results' values. -/
abbrev qG (c : Dev nD) : FVec F S256x56x128 .bf16 := qRes c (V m c main_v0) (V m c main_arg2) (V m c main_v1) (V m c main_v2) (V m c main_arg4) (V m c main_cst)
abbrev kG (c : Dev nD) : FVec F S256x8x128 .bf16 := kRes c (V m c main_v0) (V m c main_arg2) (V m c main_v1) (V m c main_v2) (V m c main_arg4) (V m c main_cst)
abbrev vG (c : Dev nD) : FVec F S256x8x128 .bf16 := vRes c (V m c main_v0) (V m c main_arg2) (V m c main_v1) (V m c main_v2)
abbrev codeG (c : Dev nD) : FVec F S256x7168 .fp8e4m3 := codesV c (V m c main_v0) (V m c main_v1)
abbrev rowG (c : Dev nD) : FVec F S1x256 .f32 := rowV c (V m c main_v0) (V m c main_v1)

/-- What the arrays hold after the run. -/
def G (c : Dev nD) (b : Ref sig .tc) : Buf (Elt F) ((c.tc : Thread nD τ).loc b) :=
  Function.update (Function.update (Function.update (Function.update (Function.update (V m c) main_v3_0 (qG m c)) main_v3_1 (kG m c)) main_v3_2 (vG m c)) main_v3_3 (codeG m c)) main_v3_4 (rowG m c) b

theorem G_q (c : Dev nD) : G m c main_v3_0 = qG m c := by
  rw [G, Function.update_of_ne (by decide), Function.update_of_ne (by decide), Function.update_of_ne (by decide), Function.update_of_ne (by decide), Function.update_self]
theorem G_k (c : Dev nD) : G m c main_v3_1 = kG m c := by
  rw [G, Function.update_of_ne (by decide), Function.update_of_ne (by decide), Function.update_of_ne (by decide), Function.update_self]
theorem G_v (c : Dev nD) : G m c main_v3_2 = vG m c := by
  rw [G, Function.update_of_ne (by decide), Function.update_of_ne (by decide), Function.update_self]
theorem G_code (c : Dev nD) : G m c main_v3_3 = codeG m c := by
  rw [G, Function.update_of_ne (by decide), Function.update_self]
theorem G_row (c : Dev nD) : G m c main_v3_4 = rowG m c := by
  rw [G, Function.update_self]

abbrev resP (c : Dev nD) : sProp 𝕄 :=
  iprop(wholeP c main_v3_0 (qG m c) ∗ wholeP c main_v3_1 (kG m c) ∗ wholeP c main_v3_2 (vG m c) ∗ wholeP c main_v3_3 (codeG m c) ∗ wholeP c main_v3_4 (rowG m c))
theorem routed_eq (c : Dev nD) : (Pipeline.routed R0 c (G m c) : sProp 𝕄) = resP m c := by
  unfold Pipeline.routed resP wholeP
  rw [← G_q, ← G_k, ← G_v, ← G_code, ← G_row]
  exact bigSep_eq_bigSepL_of_eq [main_v3_0, main_v3_1, main_v3_2, main_v3_3, main_v3_4] (by decide) (by decide) _

/-- The same, the results at their values. -/
theorem regionG_eq (c : Dev nD) : (Pipeline.ΦDRG osem0 (cfg0.spec) H0 R0 (V m) (G m) c : sProp 𝕄)
    = iprop((bufP (F := F) c cc0_scratch0 ∗ bufP (F := F) c cc0_scratch1 ∗ bufP (F := F) c cc0_scratch2 ∗ bufP (F := F) c cc0_scratch3 ∗ bufP (F := F) c cc0_scratch4 ∗ bufP (F := F) c cc0_scratch5 ∗ bufP (F := F) c cc0_scratch6 ∗ bufP (F := F) c cc0_scratch7 ∗ bufP (F := F) c cc0_scratch8 ∗ bufP (F := F) c cc0_scratch9 ∗ bufP (F := F) c cc0_scratch10 ∗ bufP (F := F) c cc0_scratch11 ∗ bufP (F := F) c cc0_scratch12) ∗ (∃ r, prngReg c r) ∗ (semP (F := F) c 0 ∗ semP (F := F) c 1 ∗ semP (F := F) c 2 ∗ semP (F := F) c 3 ∗ semP (F := F) c 4 ∗ semP (F := F) c 5 ∗ semP (F := F) c 6 ∗ semP (F := F) c 7 ∗ semP (F := F) c 8 ∗ semP (F := F) c 9 ∗ semP (F := F) c 10 ∗ semP (F := F) c 11 ∗ semP (F := F) c 12 ∗ semP (F := F) c 13 ∗ semP (F := F) c 14 ∗ semP (F := F) c 15 ∗ semP (F := F) c 16 ∗ semP (F := F) c 17 ∗ semP (F := F) c 18 ∗ semP (F := F) c 19 ∗ semP (F := F) c 20 ∗ semP (F := F) c 21) ∗ (arrP m c main_v0 ∗ arrP m c main_v1 ∗ arrP m c main_arg2 ∗ arrP m c main_v2 ∗ arrP m c main_arg4 ∗ arrP m c main_cst)
      ∗ resP m c) := by
  rw [Pipeline.ΦDRG_eq, show (Pipeline.scopedRest (Ix := Unit) (Name := ℕ) (U := Pipeline.UD sig nD τ) (Lvl := ℕ) (Val := Elt F) (cfg0.spec) c : sProp 𝕄) = iprop(bufP (F := F) c cc0_scratch0 ∗ bufP (F := F) c cc0_scratch1 ∗ bufP (F := F) c cc0_scratch2 ∗ bufP (F := F) c cc0_scratch3 ∗ bufP (F := F) c cc0_scratch4 ∗ bufP (F := F) c cc0_scratch5 ∗ bufP (F := F) c cc0_scratch6 ∗ bufP (F := F) c cc0_scratch7 ∗ bufP (F := F) c cc0_scratch8 ∗ bufP (F := F) c cc0_scratch9 ∗ bufP (F := F) c cc0_scratch10 ∗ bufP (F := F) c cc0_scratch11 ∗ bufP (F := F) c cc0_scratch12) from scopedRest0_eq c, ownSems00_eq, hbmPts0_eq, routed_eq]

/-- The body's precondition, the results apart; -/
theorem bodyPre_eq (c : Dev nD) : bodyPre c (V m c main_v0) (V m c main_arg2) (V m c main_v1) (V m c main_v2) (V m c main_arg4) (V m c main_cst)
    = iprop(flatP m c ∗ (bufP (F := F) c main_v3_0 ∗ bufP (F := F) c main_v3_1 ∗ bufP (F := F) c main_v3_2 ∗ bufP (F := F) c main_v3_3 ∗ bufP (F := F) c main_v3_4)
      ∗ ∃ Wt, owes (c : Thread nD τ) 0 Wt) := by
  rw [← rest_flat]
  unfold restP bodyPre
  rw [qk_blocks, ← v_block, show anyP (F := F) c codeH = bufP (F := F) c main_v3_3 from (any_whole c main_v3_3).symm,
    show anyP (F := F) c scaleH = bufP (F := F) c main_v3_4 from (any_whole c main_v3_4).symm]
  refine eq_of_both ?_ ?_
  · iintro ⟨K0, K1, K2, K3, K4, K5, K6, K7, K8, K9, K10, K11, K12, K13, K14, K15, K16, K17, K18, ⟨Hq, Hk⟩, Hv, Hc, Hs, K19, HW⟩
    isplitl [K0 K1 K2 K3 K4 K5 K6 K7 K8 K9 K10 K11 K12 K13 K14 K15 K16 K17 K18 K19]
    · isplitl [K0]; · iexact K0
      isplitl [K1]; · iexact K1
      isplitl [K2]; · iexact K2
      isplitl [K3]; · iexact K3
      isplitl [K4]; · iexact K4
      isplitl [K5]; · iexact K5
      isplitl [K6]; · iexact K6
      isplitl [K7]; · iexact K7
      isplitl [K8]; · iexact K8
      isplitl [K9]; · iexact K9
      isplitl [K10]; · iexact K10
      isplitl [K11]; · iexact K11
      isplitl [K12]; · iexact K12
      isplitl [K13]; · iexact K13
      isplitl [K14]; · iexact K14
      isplitl [K15]; · iexact K15
      isplitl [K16]; · iexact K16
      isplitl [K17]; · iexact K17
      isplitl [K18]; · iexact K18
      iexact K19
    isplitl [Hq Hk Hv Hc Hs]
    · isplitl [Hq]; · iexact Hq
      isplitl [Hk]; · iexact Hk
      isplitl [Hv]; · iexact Hv
      isplitl [Hc]; · iexact Hc
      iexact Hs
    iexact HW
  · iintro ⟨⟨K0, K1, K2, K3, K4, K5, K6, K7, K8, K9, K10, K11, K12, K13, K14, K15, K16, K17, K18, K19⟩, ⟨Hq, Hk, Hv, Hc, Hs⟩, HW⟩
    isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [K10]; · iexact K10
    isplitl [K11]; · iexact K11
    isplitl [K12]; · iexact K12
    isplitl [K13]; · iexact K13
    isplitl [K14]; · iexact K14
    isplitl [K15]; · iexact K15
    isplitl [K16]; · iexact K16
    isplitl [K17]; · iexact K17
    isplitl [K18]; · iexact K18
    isplitl [Hq Hk]
    · isplitl [Hq]; · iexact Hq
      iexact Hk
    isplitl [Hv]; · iexact Hv
    isplitl [Hc]; · iexact Hc
    isplitl [Hs]; · iexact Hs
    isplitl [K19]; · iexact K19
    iexact HW

/-- its postcondition, the results at their values. -/
theorem bodyPost_eq (c : Dev nD) : bodyPost c (V m c main_v0) (V m c main_arg2) (V m c main_v1) (V m c main_v2) (V m c main_arg4) (V m c main_cst)
    ⊢ iprop(flatP m c ∗ resP m c ∗ ∃ Wt, owes (c : Thread nD τ) 0 Wt) := by
  rw [← rest_flat]
  unfold restP bodyPost
  iintro ⟨K0, K1, K2, K3, K4, K5, K6, K7, K8, K9, K10, K11, K12, K13, K14, K15, K16, K17, K18, Hqk, Hv, Hc, Hs, K19, HW⟩
  isplitl [K0 K1 K2 K3 K4 K5 K6 K7 K8 K9 K10 K11 K12 K13 K14 K15 K16 K17 K18 K19]
  · isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [K10]; · iexact K10
    isplitl [K11]; · iexact K11
    isplitl [K12]; · iexact K12
    isplitl [K13]; · iexact K13
    isplitl [K14]; · iexact K14
    isplitl [K15]; · iexact K15
    isplitl [K16]; · iexact K16
    isplitl [K17]; · iexact K17
    isplitl [K18]; · iexact K18
    iexact K19
  isplitl [Hqk Hv Hc Hs]
  · have hqk := qk_back c (V m c main_v0) (V m c main_arg2) (V m c main_v1) (V m c main_v2) (V m c main_arg4) (V m c main_cst)
    ihave H := hqk $$ [Hqk]
    · iexact Hqk
    icases H with ⟨Hq, Hk⟩
    isplitl [Hq]; · iexact Hq
    isplitl [Hk]; · iexact Hk
    isplitl [Hv]; · iapply (v_back c (V m c main_v0) (V m c main_arg2) (V m c main_v1) (V m c main_v2)); iexact Hv
    isplitl [Hc]; · iapply (code_back c (V m c main_v0) (V m c main_v1)); iexact Hc
    iapply (scale_back c (V m c main_v0) (V m c main_v1)); iexact Hs
  iexact HW

/-! ## The run -/

def dats (_ : Fin 1) (c : Dev nD) : Dat τ (Elt F) Unit ℕ (Pipeline.UD sig nD τ) ℕ cfg0 c where
  A w := w.elim0
  after w t := w.elim0
  Φ t := if t = 0 then Pipeline.ΦDR osem0 (cfg0.spec) H0 R0 (V m) c else Pipeline.ΦDRG osem0 (cfg0.spec) H0 R0 (V m) (G m) c
  q _ := fullShare
  owed _ := 0

/-- Resources no run of the body looks at stay. -/
theorem framed (c : Dev nD) {A B R : sProp 𝕄} (h : A ⊢ wp frame (wpE (defs₀ (F := F)) Variants.none (c : Thread nD τ) none) Set.univ body (fun _ => B)) :
    iprop(A ∗ R) ⊢ wp frame (wpE (defs₀ (F := F)) Variants.none (c : Thread nD τ) none) Set.univ body (fun _ => iprop(B ∗ R)) :=
  BIBase.Entails.trans (sep_mono_l h) (wp_frame_r _ _ _)

theorem body_frame (c : Dev nD) :
    iprop(Pipeline.ΦDR osem0 (cfg0.spec) H0 R0 (V m) c ∗ ∃ Wt, owes (c : Thread nD τ) 0 Wt)
      ⊢ wp frame (wpE (defs₀ (F := F)) Variants.none (c : Thread nD τ) none) Set.univ body
        (fun _ => iprop(Pipeline.ΦDRG osem0 (cfg0.spec) H0 R0 (V m) (G m) c ∗ ∃ Wt, owes (c : Thread nD τ) 0 Wt)) := by
  rw [region_eq, regionG_eq]
  have h := bodyRun c (V m c main_v0) (V m c main_arg2) (V m c main_v1) (V m c main_v2) (V m c main_arg4) (V m c main_cst)
  rw [bodyPre_eq] at h
  have h := BIBase.Entails.trans h (wp_mono _ _ _ fun _ => bodyPost_eq m c)
  have h' := framed c (R := iprop(∃ r, prngReg c r)) h
  refine BIBase.Entails.trans ?_ (BIBase.Entails.trans h' (wp_mono _ _ _ fun _ => ?_))
  · iintro ⟨⟨HB, HP, HC, HA, HR⟩, HW⟩
    isplitl [HB HC HA HR HW]
    · isplitl [HB HC HA]
      · isplitl [HB]; · iexact HB
        isplitl [HC]; · iexact HC
        iexact HA
      isplitl [HR]; · iexact HR
      iexact HW
    iexact HP
  · iintro ⟨⟨⟨HB, HC, HA⟩, HR, HW⟩, HP⟩
    isplitl [HB HC HA HR HP]
    · isplitl [HB]; · iexact HB
      isplitl [HP]; · iexact HP
      isplitl [HC]; · iexact HC
      isplitl [HA]; · iexact HA
      iexact HR
    iexact HW

theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t) (fun _ => iprop((dats m 0 c).Φ t.succ ∗ (dats m 0 c).owesAt () t.succ)) := by
  obtain rfl : t = t0_0 := (Subsingleton.elim (α := Fin 1) t t0_0)
  rw [show (dats m 0 c).Φ (Fin.succ t0_0) = Pipeline.ΦDRG osem0 (cfg0.spec) H0 R0 (V m) (G m) c from rfl, show (dats m 0 c).Φ (Fin.castSucc t0_0) = Pipeline.ΦDR osem0 (cfg0.spec) H0 R0 (V m) c from rfl]
  unfold Dat.owesAt Pipeline.owesWithin
  rw [show (dats m 0 c).owed (Fin.castSucc t0_0) = 0 from rfl, show (dats m 0 c).owed (Fin.succ t0_0) = 0 from rfl]
  refine BIBase.Entails.trans ?_ (BIBase.Entails.trans (body_frame m c) (wp_mono _ _ _ fun _ => ?_))
  · iintro ⟨HΦ, ⟨%W, -, HW⟩⟩
    isplitl [HΦ]; · iexact HΦ
    iexists W; iexact HW
  · iintro ⟨HΦ, ⟨%W, HW⟩⟩
    isplitl [HΦ]; · iexact HΦ
    iexists W; isplitr; · ipureintro; exact fun _ _ => Or.inl trivial
    iexact HW

theorem defs₀_row (t : Fin cfg0.N) : defs₀ (F := F) .tc cfg0.body (cfg0.bodyArgs t (cfg0.slots t)) = bodyAt0 t := by
  unfold defs₀; rw [Defs.onTc_tc]

theorem no_window (Φ : Fin cfg0.W → sProp 𝕄) : bigSep Finset.univ Φ = iprop(emp) := rfl

theorem body_obligation (c : Dev nD) : BodyObligation (dats (F := F) m 0 c) (defs₀ (F := F)) Variants.none () Set.univ := fun t => by
  rw [no_window, no_window, defs₀_row]
  refine triple_restated (sound_body m c t) rfl ?_ fun _ => ?_
  · iintro ⟨H1, H2, -⟩
    isplitl [H1]; · iexact H1
    iexact H2
  · iintro ⟨H1, H2⟩
    isplitl [H1]; · iexact H1
    isplitl [H2]; · iexact H2
    iempintro

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain0 m) (hA := fun _ w => w.elim0)
    (G := G m) (hin := fun c => Pipeline.ΦDRG_ΦDR osem0 (cfg0.spec) H0 R0 (V m) (V m) c) (hout := fun _ => .rfl) (hQ' := fun _ h => h)

/-- The kernel runs from every memory, leaves its arguments as they were and every semaphore at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of m fun c => (h.1.1 c).2, h.2⟩) (run_main m ρ)

end Cert.Proof.KernelIdeal

end
-- ==== Proof.Maths.lean ====
/- The scalar mathematics of a row: its norm, its scale, and the two ways of finding the scale. -/
module

public import Idealize.ShloMosaic.PureOps.Ideal
public import Idealize.ShloMosaic.Lib.Pointwise

@[expose] public section

set_option maxRecDepth 16384

noncomputable section

namespace Cert.Proof.Maths

open Idealize.ShloMosaic

/-- The row `x` over its root mean square, by the weights `w`. -/
def rowNorm (x w : Fin 7168 → EReal) (j : Fin 7168) : EReal :=
  x j * Ideal.rsqrt (Ideal.div (∑ k, x k * x k) (Ideal.ofBits .f32 1172307968#32) + Ideal.ofBits .f32 925353388#32) * w j
/-- The row's largest magnitude over 448, up to the rounding of `1/448`. -/
def rowMag (n : Fin 7168 → EReal) : EReal :=
  Finset.fold max (Ideal.ofBits .f32 4286578688#32) (fun k => max (n k) (-n k)) Finset.univ * Ideal.ofBits .f32 991054117#32
/-- The float whose exponent field is `e` and whose other bits are zero. -/
@[irreducible] def pw (e : ℕ) : EReal := Ideal.ofBits .f32 (BitVec.ofNat 32 (e * 2 ^ 23))
/-- The least listed power of two above `v`; 1 if `v` is below every normal float. -/
def scl (v : EReal) : EReal :=
  if v < Ideal.ofBits .f32 8388608#32 then 1
  else Finset.fold min (Ideal.ofBits .f32 2139095040#32) (fun k : Fin 253 => if v < pw (k.val + 2) then pw (k.val + 2) else Ideal.ofBits .f32 2139095040#32) Finset.univ
/-- The quotient, clipped. -/
def clip (n s : EReal) : EReal := min (Ideal.ofBits .f32 1138753536#32) (max (Ideal.ofBits .f32 3286237184#32) (Ideal.div n s))

theorem pw_def (e : ℕ) : pw e = Ideal.ofBits .f32 (BitVec.ofNat 32 (e * 2 ^ 23)) := by unfold pw; rfl
/-- A float from its three fields. -/
theorem of_fields (b : BitVec 32) (e f : ℕ) (h : (b.extractLsb' 31 1 == 1#1) = false ∧ (b.extractLsb' 23 8).toNat = e ∧ (b.extractLsb' 0 23).toNat = f) :
    Ideal.ofBits .f32 b = if e = 255 then (if f = 0 then ⊤ else ⊥) else if e = 0 then (((f : ℝ) * (2 : ℝ) ^ (-149 : ℤ) : ℝ) : EReal)
      else ((((2 ^ 23 + f : ℕ) : ℝ) * (2 : ℝ) ^ ((e : ℤ) - 150) : ℝ) : EReal) := by
  obtain ⟨ha, hb, hc⟩ := h
  have h0 : Ideal.ofBits .f32 b = Ideal.ieee 8 23 b := rfl
  rw [h0]
  unfold Ideal.ieee
  simp only [show 8 + 23 = 31 from rfl, ha, hb, hc, Bool.false_eq_true, if_false, one_mul]
  norm_num [sub_sub]
theorem fields : ∀ e : Fin 256, ((BitVec.ofNat 32 (e.val * 2 ^ 23)).extractLsb' 31 1 == 1#1) = false ∧ ((BitVec.ofNat 32 (e.val * 2 ^ 23)).extractLsb' 23 8).toNat = e.val
    ∧ ((BitVec.ofNat 32 (e.val * 2 ^ 23)).extractLsb' 0 23).toNat = 0 := by decide +kernel

theorem pw_eq (e : ℕ) (h1 : 1 ≤ e) (h : e ≤ 254) : pw e = (((2 : ℝ) ^ ((e : ℤ) - 127) : ℝ) : EReal) := by
  rw [pw_def, of_fields _ e 0 (fields ⟨e, by omega⟩), if_neg (by omega), if_neg (by omega)]
  congr 1
  rw [show ((2 ^ 23 + 0 : ℕ) : ℝ) = (2 : ℝ) ^ (23 : ℤ) by norm_num, ← zpow_add₀ (by norm_num)]
  congr 1
  ring
theorem pw_zero : pw 0 = 0 := by
  rw [pw_def, of_fields _ 0 0 (fields ⟨0, by omega⟩), if_neg (by decide), if_pos rfl, Nat.cast_zero, zero_mul, EReal.coe_zero]
theorem pw_top : pw 255 = ⊤ := by
  rw [pw_def, of_fields _ 255 0 (fields ⟨255, by omega⟩), if_pos rfl, if_pos rfl]

theorem pw_mono (e f : ℕ) (h : e ≤ f) (hf : f ≤ 255) : pw e ≤ pw f := by
  by_cases h2 : f = 255
  · rw [h2, pw_top]; exact le_top
  by_cases h1 : e = 0
  · by_cases h3 : f = 0
    · rw [h1, h3]
    · rw [h1, pw_zero, pw_eq f (by omega) (by omega)]
      exact EReal.coe_nonneg.mpr (zpow_pos (by norm_num : (0 : ℝ) < 2) _).le
  · rw [pw_eq e (by omega) (by omega), pw_eq f (by omega) (by omega)]
    exact EReal.coe_le_coe_iff.mpr (zpow_le_zpow_right₀ (by norm_num : (1 : ℝ) ≤ 2) (by omega))

/-- One step of the search: the bit `w` is kept if `v` reaches the power it makes. -/
def stepN (v : EReal) (w e : ℕ) : ℕ := if pw (e + w) ≤ v then e + w else e
@[irreducible] def searchN (v : EReal) : ℕ := stepN v 1 (stepN v 2 (stepN v 4 (stepN v 8 (stepN v 16 (stepN v 32 (stepN v 64 (stepN v 128 0)))))))
theorem searchN_def (v : EReal) : searchN v = stepN v 1 (stepN v 2 (stepN v 4 (stepN v 8 (stepN v 16 (stepN v 32 (stepN v 64 (stepN v 128 0))))))) := by
  unfold searchN; rfl
def expN (v : EReal) : ℕ := if searchN v = 0 ∨ searchN v = 255 then 126 else searchN v

/-- `v` lies at `e` or in the `w` binades from it. -/
def Within (v : EReal) (w e : ℕ) : Prop := e + w ≤ 256 ∧ pw e ≤ v ∧ (e + w = 256 ∨ v < pw (e + w))
theorem step_within (v : EReal) (w e : ℕ) (h : Within v (2 * w) e) : Within v w (stepN v w e) := by
  obtain ⟨h0, h1, h2⟩ := h
  unfold stepN
  split
  · next hc =>
      refine ⟨by omega, hc, ?_⟩
      rw [show e + w + w = e + 2 * w by omega]; exact h2
  · next hc => exact ⟨by omega, h1, Or.inr (not_le.mp hc)⟩
theorem search_within (v : EReal) (h : 0 ≤ v) : Within v 1 (searchN v) := by
  rw [searchN_def]
  refine step_within v 1 _ (step_within v 2 _ (step_within v 4 _ (step_within v 8 _ (step_within v 16 _ (step_within v 32 _ (step_within v 64 _ (step_within v 128 _ ?_)))))))
  exact ⟨by decide, by rw [pw_zero]; exact h, Or.inl rfl⟩

theorem top_bits : Ideal.ofBits .f32 2139095040#32 = ⊤ := by
  rw [← pw_top, pw_def]; exact congrArg (Ideal.ofBits .f32) (by decide +kernel)
theorem one_bits : Ideal.ofBits .f32 8388608#32 = pw 1 := by
  rw [pw_def]; exact congrArg (Ideal.ofBits .f32) (by decide +kernel)
theorem pw_one : pw 127 = 1 := by rw [pw_eq 127 (by omega) (by omega)]; norm_num

theorem search_le (v : EReal) (h0 : 0 ≤ v) (h : v < pw 253) : searchN v ≤ 252 := by
  obtain ⟨a, b, c⟩ := search_within v h0
  by_contra hc
  exact absurd (lt_of_le_of_lt ((pw_mono 253 _ (by omega) (by omega)).trans b) h) (lt_irrefl _)

theorem exp_lt (v : EReal) (h0 : 0 ≤ v) (h : v < pw 253) : expN v < 253 := by
  have := search_le v h0 h
  unfold expN; split <;> omega

/-- The least listed power above `v` is the one after the binade the search finds. -/
theorem scl_eq (v : EReal) (h0 : 0 ≤ v) (h : v < pw 253) : scl v = pw (expN v + 1) := by
  have hle := search_le v h0 h
  obtain ⟨a, b, c⟩ := search_within v h0
  have c := c.resolve_left (by omega)
  unfold scl expN
  rw [one_bits, top_bits]
  by_cases he : searchN v = 0
  · rw [he] at c
    rw [if_pos c, if_pos (Or.inl he)]; exact pw_one.symm
  · rw [if_neg (not_lt.mpr ((pw_mono 1 _ (by omega) (by omega)).trans b)), if_neg (by omega)]
    refine le_antisymm ?_ ?_
    · refine (Finset.fold_min_le _).mpr (Or.inr ⟨⟨searchN v - 1, by omega⟩, Finset.mem_univ _, ?_⟩)
      rw [show searchN v - 1 + 2 = searchN v + 1 by omega, if_pos c]
    · refine (Finset.le_fold_min _).mpr ⟨le_top, fun k _ => ?_⟩
      split
      · next hk =>
          have hk2 := k.isLt
          refine pw_mono _ _ ?_ (by omega)
          by_contra hc
          exact absurd (lt_of_le_of_lt ((pw_mono (k.val + 2) (searchN v) (by omega) (by omega)).trans b) hk) (lt_irrefl _)
      · exact le_top

/-- Dividing by the scale is multiplying by the power the kernel makes. -/
theorem div_scl (n v : EReal) (h0 : 0 ≤ v) (h : v < pw 253) : Ideal.div n (scl v) = n * pw (253 - expN v) := by
  have hle := search_le v h0 h
  have hx : 1 ≤ expN v ∧ expN v ≤ 252 := by unfold expN; split <;> omega
  rw [scl_eq v h0 h, pw_eq _ (by omega) (by omega), pw_eq _ (by omega) (by omega), Ideal.div,
    if_neg (fun h0 => (zpow_pos (by norm_num : (0 : ℝ) < 2) _).ne' (EReal.coe_eq_zero.mp h0))]
  congr 1
  rw [← EReal.coe_inv, ← zpow_neg]
  congr 2
  push_cast [Nat.cast_sub (show expN v ≤ 253 by omega)]
  ring

theorem d_bits : Ideal.ofBits .f32 1172307968#32 = ((7168 : ℝ) : EReal) := by
  rw [of_fields _ 139 6291456 (by decide +kernel), if_neg (by decide), if_neg (by decide)]
  congr 1
  norm_num [zpow_neg]
/-- The mean, by division and by the reciprocal. -/
theorem mean_eq (s : EReal) : Ideal.div s (Ideal.ofBits .f32 1172307968#32) = s * ((1 / 7168 : ℝ) : EReal) := by
  rw [d_bits, Ideal.div, if_neg (fun h0 => (by norm_num : (7168 : ℝ) ≠ 0) (EReal.coe_eq_zero.mp h0)), ← EReal.coe_inv, one_div]

/-- The lanes' sums over the tiles, summed, are the row's sum. -/
theorem sum_lanes (f : Fin 7168 → EReal) :
    ∑ l : Fin 128, ∑ t : Fin 56, f ⟨128 * (t.val % 56) + l.val, by omega⟩ = ∑ k, f k := by
  rw [Finset.sum_comm]
  refine Eq.trans ?_ (Fin.sum_univ_tiles 56 128 rfl f).symm
  refine Finset.sum_congr rfl fun t _ => Finset.sum_congr rfl fun l _ => congrArg f (Fin.ext ?_)
  show 128 * (t.val % 56) + l.val = t.val * 128 + l.val
  omega

theorem abs_nonneg (a : EReal) : 0 ≤ max a (-a) := by
  rcases le_total 0 a with h | h
  · exact h.trans (le_max_left _ _)
  · exact (EReal.neg_nonneg.mpr h).trans (le_max_right _ _)

theorem bot_le : Ideal.ofBits .f32 4286578688#32 ≤ 0 := by
  have h : Ideal.ofBits .f32 4286578688#32 = ⊥ := by
    have e1 : ((4286578688#32).extractLsb' (8 + 23) 1 == 1#1) = true := by decide
    have e2 : ((4286578688#32).extractLsb' 23 8).toNat = 255 := by decide
    have e3 : ((4286578688#32).extractLsb' 0 23).toNat = 0 := by decide
    generalize (4286578688#32) = b at e1 e2 e3 ⊢
    have h0 : Ideal.ofBits .f32 b = Ideal.ieee 8 23 b := rfl
    rw [h0]
    unfold Ideal.ieee
    simp only [e1, e2, e3]
    simp only [if_true]
    exact if_pos (by decide)
  rw [h]; exact OrderBot.bot_le _

/-- The largest of the lanes' largest magnitudes is the row's. -/
theorem max_lanes (b : EReal) (hb : b ≤ 0) (n : Fin 7168 → EReal) (m : Fin 128 → EReal)
    (hm : ∀ l z, m l ≤ z ↔ 0 ≤ z ∧ ∀ t < 56, max (n ⟨128 * (t % 56) + l.val, by omega⟩) (-n ⟨128 * (t % 56) + l.val, by omega⟩) ≤ z) :
    Finset.fold max b m Finset.univ = Finset.fold max b (fun k => max (n k) (-n k)) Finset.univ := by
  refine eq_of_forall_ge_iff fun z => ?_
  rw [Finset.fold_max_le, Finset.fold_max_le]
  constructor
  · rintro ⟨h, g⟩
    refine ⟨h, fun k _ => ?_⟩
    have := (((hm ⟨k.val % 128, by omega⟩ z).mp (g _ (Finset.mem_univ _))).2) (k.val / 128) (by omega)
    have e : (⟨128 * (k.val / 128 % 56) + k.val % 128, by omega⟩ : Fin 7168) = k := Fin.ext (by show 128 * (k.val / 128 % 56) + k.val % 128 = k.val; omega)
    rwa [e] at this
  · rintro ⟨h, g⟩
    exact ⟨h, fun l _ => (hm l z).mpr ⟨(abs_nonneg _).trans (g ⟨0, by decide⟩ (Finset.mem_univ _)), fun t _ => g _ (Finset.mem_univ _)⟩⟩

theorem mag_nonneg (n : Fin 7168 → EReal) : 0 ≤ rowMag n := by
  refine mul_nonneg ?_ ?_
  · exact (Finset.le_fold_max _).mpr (Or.inr ⟨⟨0, by decide⟩, Finset.mem_univ _, abs_nonneg _⟩)
  · rw [of_fields _ 118 1198373 (by decide +kernel), if_neg (by decide), if_neg (by decide)]
    exact EReal.coe_nonneg.mpr (by positivity)

/-- A turned half: the product with the negated sine is the difference. -/
theorem add_neg_mul (a y b : EReal) : a + y * (0 - b) = a - y * b := by
  rw [zero_sub, mul_neg, sub_eq_add_neg]

end Cert.Proof.Maths
end
-- ==== Proof.Spec.lean ====
/- Every result at an index, from the arguments' entries: what both programs are shown to compute. -/
module

public import proofs.«01_k».proof.Proof.Maths

@[expose] public section

noncomputable section

namespace Cert.Proof.Maths

open Idealize.ShloMosaic

/-- The frequency of lane `d`: the two halves of a head share them. -/
abbrev half (d : Fin 128) : Fin 64 := ⟨d.val % 64, Nat.mod_lt _ (by decide)⟩

variable (X : Fin 256 → Fin 7168 → EReal) (w : Fin 7168 → EReal) (W : Fin 7168 → Fin 9216 → EReal) (ws : Fin 9216 → EReal) (a : Fin 256 → Fin 64 → EReal)

/-- The row's scale, its codes, its heads, and its heads rotated by the angles `a`. -/
def sc (i : Fin 256) : EReal := scl (rowMag (rowNorm (X i) w))
def code (i : Fin 256) (j : Fin 7168) : EReal := clip (rowNorm (X i) w j) (sc X w i)
def head (n : Fin 72) (i : Fin 256) (d : Fin 128) : EReal :=
  (∑ j : Fin 7168, code X w i j * W j ⟨n.val * 128 + d.val, by omega⟩) * sc X w i * ws ⟨n.val * 128 + d.val, by omega⟩
def rot (n : Fin 72) (i : Fin 256) (d : Fin 128) : EReal :=
  if h : d.val < 64 then head X w W ws n i d * Ideal.cos (a i (half d)) - head X w W ws n i ⟨64 + d.val, by omega⟩ * Ideal.sin (a i (half d))
  else head X w W ws n i d * Ideal.cos (a i (half d)) + head X w W ws n i ⟨d.val - 64, by omega⟩ * Ideal.sin (a i (half d))
/-- No row's largest magnitude over 448 reaches `2^126`. -/
def InRange : Prop := ∀ i, rowMag (rowNorm (X i) w) < pw 253

end Cert.Proof.Maths
end
-- ==== Proof.PreAt.lean ====
/- The precondition at a row. -/
module

public import proofs.«01_k».proof.Defs
public import proofs.«01_k».proof.Proof.Gen.Pre_in_range
public import proofs.«01_k».proof.Proof.Spec

@[expose] public section

set_option maxRecDepth 16384

noncomputable section

namespace Cert.Proof

open Cert.Pre_in_range
open Idealize.ShloMosaic

/-- The precondition, as the specification takes it: no row's largest entry over 448 reaches the last power of two. -/
theorem pre_at (X : FVec Ideal S1x256x7168 .bf16) (NW : FVec Ideal S7168 .f32) (W : FVec Ideal S7168x9216 .fp8e4m3) (WS : FVec Ideal S9216 .f32) (P : Vec Ideal S1x256 .i32)
    (h : Cert.Pre_in_range.fn (F := Ideal) X NW W WS P = fun _ => 1#1) : Maths.InRange (fun i j => X (ix3 0 i j)) (fun j => NW (ix1 j)) := by
  intro i
  have hi := congrFun h (ix2 i 0)
  unfold Cert.Pre_in_range.fn Cert.Pre_in_range.fn_part1 at hi
  rw [show Maths.pw 253 = Ideal.ofBits .f32 2122317824#32 by rw [Maths.pw_def]; exact congrArg (Ideal.ofBits .f32) (by decide +kernel)]
  unfold Maths.rowMag Maths.rowNorm
  revert hi
  pointwise
  intro hi
  by_contra hn
  exact absurd (hi.symm.trans (congrArg BitVec.ofBool (decide_eq_false hn))) (by decide)

end Cert.Proof
end
-- ==== Proof.IdealAt.lean ====
/- The kernel's codes and scales at an index, over the extended reals. -/
module

public import proofs.«01_k».proof.Proof.IdealTables
public import proofs.«01_k».proof.Proof.Maths

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic

section Rows
variable (c : Dev nD) (X : Buf (Elt Ideal) (xM.view.loc (c : Thread nD τ))) (NW : Buf (Elt Ideal) (nwH.view.loc (c : Thread nD τ)))

/-- A row of the input, the row of weights, the normalised row. -/
def xRow (i : Fin 256) : Fin 7168 → EReal := fun j => (xM.view.read (Elt Ideal) X : FVec Ideal S256x7168 .bf16) (ix2 i j)
def wRow : Fin 7168 → EReal := fun j => (nwH.view.read (Elt Ideal) NW : FVec Ideal S1x7168 .f32) (ix2 0 j)
def nRow (i : Fin 256) : Fin 7168 → EReal := Maths.rowNorm (xRow c X i) (wRow c NW)
/-- Row `r` of trip `k`, lane `l` of tile `t`. -/
abbrev rowOf (k : Fin k0_t1_loop.trips) (r : Fin 32) : Fin 256 := ⟨32 * k.val + r.val, by have : k.val < 8 := lt_of_lt_of_eq k.isLt trips1; omega⟩
abbrev colOf (t : ℕ) (l : Fin 128) : Fin 7168 := ⟨128 * (t % 56) + l.val, by omega⟩

theorem xTile_at (k : Fin k0_t1_loop.trips) (t : ℕ) (r : Fin 32) (l : Fin 128) : xTile (F := Ideal) c X k t (ix2 r l) = xRow c X (rowOf k r) (colOf t l) := by
  have e : ∀ A : FVec Ideal S32x128 .bf16, (extf .f32 A bitsLt_bf16_f32 : FVec Ideal S32x128 .f32) (ix2 r l) = A (ix2 r l) := fun A => rfl
  unfold xTile
  rw [e, xTile_read c X k t (ix2 r l)]
  refine (congrArg (xM.view.read (Elt Ideal) X) (funext fun a => Fin.ext ?_))
  match a with
  | ⟨0, _⟩ => show k0_off3 k 0 + 1 * r.val = 32 * k.val + r.val; rw [off3_val]; omega
  | ⟨1, _⟩ => show 128 * (t % 56) + 1 * l.val = 128 * (t % 56) + l.val; omega

theorem sqSum_at (k : Fin k0_t1_loop.trips) (r : Fin 32) (l : Fin 128) : ∀ t, sqSum (F := Ideal) c X k t (ix2 r l)
    = ∑ u ∈ Finset.range t, xRow c X (rowOf k r) (colOf u l) * xRow c X (rowOf k r) (colOf u l)
  | 0 => by
    rw [Finset.sum_range_zero]
    show Ideal.ofBits .f32 0#32 = 0
    rw [Maths.of_fields _ 0 0 (by decide +kernel), if_neg (by decide), if_pos rfl, Nat.cast_zero, zero_mul, EReal.coe_zero]
  | t + 1 => by
    rw [Finset.sum_range_succ, ← sqSum_at k r l t, ← xTile_at c X k t r l]
    rfl

theorem rms_at (k : Fin k0_t1_loop.trips) (r : Fin 32) (l : Fin 128) : rms (F := Ideal) c X k (ix2 r l)
    = Ideal.rsqrt (Ideal.div (∑ j, xRow c X (rowOf k r) j * xRow c X (rowOf k r) j) (Ideal.ofBits .f32 1172307968#32) + Ideal.ofBits .f32 925353388#32) := by
  rw [Maths.mean_eq, ← Maths.sum_lanes]
  have h : ∀ l : Fin 128, ∑ t : Fin 56, xRow c X (rowOf k r) ⟨128 * (t.val % 56) + l.val, by omega⟩ * xRow c X (rowOf k r) ⟨128 * (t.val % 56) + l.val, by omega⟩
      = sqSum (F := Ideal) c X k 56 (ix2 r l) := fun l => by
    rw [sqSum_at, Finset.sum_range]
  simp only [h]
  unfold rms
  generalize sqSum (F := Ideal) c X k 56 = S
  pointwise [k0_pay12]
  rfl

theorem nTile_at (k : Fin k0_t1_loop.trips) (t : ℕ) (r : Fin 32) (l : Fin 128) :
    nTile (F := Ideal) c X (nwAt c NW) k t (ix2 r l) = nRow c X NW (rowOf k r) (colOf t l) := by
  have h : (View.readAt (Elt Ideal) nwM.view (wRect t).toLoadRect (nwAt c NW) : FVec Ideal S1x128 .f32) (ix2 0 l) = wRow c NW (colOf t l) := by
    refine Eq.trans (congrFun (read_landed c nwH nwM NW nwM.view.junk) _) (congrArg (nwH.view.read (Elt Ideal) NW) (funext fun a => Fin.ext ?_))
    match a with
    | ⟨0, _⟩ => rfl
    | ⟨1, _⟩ => show 128 * (t % 56) + 1 * l.val = 128 * (t % 56) + l.val; omega
  unfold nRow Maths.rowNorm
  rw [← xTile_at, ← rms_at c X k r l, ← h]
  unfold nTile
  generalize xTile (F := Ideal) c X k t = A
  generalize rms (F := Ideal) c X k = B
  generalize (View.readAt (Elt Ideal) nwM.view (wRect t).toLoadRect (nwAt c NW) : FVec Ideal S1x128 .f32) = D
  pointwise

theorem magMax_at (k : Fin k0_t1_loop.trips) (r : Fin 32) (l : Fin 128) (z : EReal) : ∀ t, magMax (F := Ideal) c X (nwAt c NW) k t (ix2 r l) ≤ z
    ↔ 0 ≤ z ∧ ∀ u < t, max (nRow c X NW (rowOf k r) (colOf u l)) (-nRow c X NW (rowOf k r) (colOf u l)) ≤ z
  | 0 => by
    have h : magMax (F := Ideal) c X (nwAt c NW) k 0 (ix2 r l) = (0 : EReal) := by
      show Ideal.ofBits .f32 0#32 = 0
      rw [Maths.of_fields _ 0 0 (by decide +kernel), if_neg (by decide), if_pos rfl, Nat.cast_zero, zero_mul, EReal.coe_zero]
    rw [h]
    exact ⟨fun h => ⟨h, fun u hu => absurd hu (Nat.not_lt_zero u)⟩, fun h => h.1⟩
  | t + 1 => by
    have h : magMax (F := Ideal) c X (nwAt c NW) k (t + 1) (ix2 r l)
        = max (magMax (F := Ideal) c X (nwAt c NW) k t (ix2 r l)) (max (nRow c X NW (rowOf k r) (colOf t l)) (-nRow c X NW (rowOf k r) (colOf t l))) := by
      rw [← nTile_at]; rfl
    rw [h, max_le_iff, magMax_at k r l z t]
    constructor
    · rintro ⟨⟨h0, h1⟩, h2⟩
      refine ⟨h0, fun u hu => ?_⟩
      rcases Nat.lt_succ_iff_lt_or_eq.mp hu with hu | rfl
      · exact h1 u hu
      · exact h2
    · rintro ⟨h0, h1⟩
      exact ⟨⟨h0, fun u hu => h1 u (by omega)⟩, h1 t (by omega)⟩

theorem rowTop_at (k : Fin k0_t1_loop.trips) (r : Fin 32) : rowTop (F := Ideal) c X (nwAt c NW) k (ix2 r 0) = Maths.rowMag (nRow c X NW (rowOf k r)) := by
  unfold Maths.rowMag
  rw [← Maths.max_lanes (Ideal.ofBits .f32 4286578688#32) Maths.bot_le _ (fun l => magMax (F := Ideal) c X (nwAt c NW) k 56 (ix2 r l)) (fun l z => magMax_at c X NW k r l z 56)]
  unfold rowTop
  generalize magMax (F := Ideal) c X (nwAt c NW) k 56 = M
  pointwise

end Rows

/-- The search, at a row. -/
theorem bitStep_at (v : FVec Ideal S32x1 .f32) (w : BitVec 32) (e : Vec Ideal S32x1 .i32) (r : Fin 32) (W E : ℕ) (hw : w = BitVec.ofNat 32 W) (he : e (ix2 r 0) = BitVec.ofNat 32 E) :
    bitStep (F := Ideal) v w e (ix2 r 0) = BitVec.ofNat 32 (Maths.stepN (v (ix2 r 0)) W E) := by
  have hs : ((BitVec.ofNat 32 E + BitVec.ofNat 32 W) <<< 23 : BitVec 32) = BitVec.ofNat 32 ((E + W) * 2 ^ 23) := by
    apply BitVec.eq_of_toNat_eq
    simp only [BitVec.toNat_shiftLeft, BitVec.toNat_add, BitVec.toNat_ofNat, Nat.shiftLeft_eq]
    omega
  have hb : IntOp.shli .vector (IntOp.addi (BitVec.ofNat 32 E) (BitVec.ofNat 32 W)) 23#32 = BitVec.ofNat 32 ((E + W) * 2 ^ 23) := by
    rw [← hs]; rfl
  have ha : IntOp.addi (BitVec.ofNat 32 E) (BitVec.ofNat 32 W) = BitVec.ofNat 32 (E + W) := (BitVec.ofNat_add ..).symm
  subst hw
  unfold Maths.stepN
  rw [Maths.pw_def, ← hb]
  unfold bitStep
  pointwise
  rw [he, ha]
  split <;> rfl
theorem bitsOf_at (v : FVec Ideal S32x1 .f32) (r : Fin 32) : bitsOf (F := Ideal) v (ix2 r 0) = BitVec.ofNat 32 (Maths.searchN (v (ix2 r 0))) := by
  rw [Maths.searchN_def]
  exact
  bitStep_at v 1#32 _ r 1 _ rfl (bitStep_at v 2#32 _ r 2 _ rfl (bitStep_at v 4#32 _ r 4 _ rfl (bitStep_at v 8#32 _ r 8 _ rfl (bitStep_at v 16#32 _ r 16 _ rfl
    (bitStep_at v 32#32 _ r 32 _ rfl (bitStep_at v 64#32 _ r 64 _ rfl (bitStep_at v 128#32 _ r 128 0 rfl rfl)))))))
theorem expBits : ∀ n : Fin 253, Scalar.select (IntOp.ori (IntOp.cmpi .eq (BitVec.ofNat 32 n.val) 0#32) (IntOp.cmpi .eq (BitVec.ofNat 32 n.val) 255#32)) (126#32) (BitVec.ofNat 32 n.val)
    = BitVec.ofNat 32 (if n.val = 0 ∨ n.val = 255 then 126 else n.val) := by decide +kernel
theorem scaleBits : ∀ n : Fin 253, IntOp.shli .vector (IntOp.addi (BitVec.ofNat 32 n.val) 1#32) 23#32 = BitVec.ofNat 32 ((n.val + 1) * 2 ^ 23) := by decide +kernel
theorem invBits : ∀ n : Fin 253, IntOp.shli .vector (IntOp.subi 253#32 (BitVec.ofNat 32 n.val)) 23#32 = BitVec.ofNat 32 ((253 - n.val) * 2 ^ 23) := by decide +kernel
theorem expOf_at (v : FVec Ideal S32x1 .f32) (r : Fin 32) (h0 : 0 ≤ v (ix2 r 0)) (h : v (ix2 r 0) < Maths.pw 253) :
    expOf (F := Ideal) v (ix2 r 0) = BitVec.ofNat 32 (Maths.expN (v (ix2 r 0))) := by
  have hle := Maths.search_le _ h0 h
  have hB := bitsOf_at v r
  unfold expOf Maths.expN
  generalize bitsOf (F := Ideal) v = B at hB ⊢
  pointwise
  rw [hB]
  generalize Maths.searchN (v (ix2 r 0)) = n at hle ⊢
  exact expBits ⟨n, by omega⟩
theorem scaleOf_at (v : FVec Ideal S32x1 .f32) (r : Fin 32) (h0 : 0 ≤ v (ix2 r 0)) (h : v (ix2 r 0) < Maths.pw 253) :
    scaleOf (F := Ideal) v (ix2 r 0) = Maths.scl (v (ix2 r 0)) := by
  have hE := expOf_at v r h0 h
  rw [Maths.scl_eq _ h0 h, Maths.pw_def]
  unfold scaleOf
  generalize expOf (F := Ideal) v = B at hE ⊢
  pointwise
  rw [hE]
  have hx := Maths.exp_lt _ h0 h
  generalize Maths.expN (v (ix2 r 0)) = n at hx ⊢
  exact congrArg (Ideal.ofBits .f32) (scaleBits ⟨n, hx⟩)
theorem invOf_at (v : FVec Ideal S32x1 .f32) (r : Fin 32) (h0 : 0 ≤ v (ix2 r 0)) (h : v (ix2 r 0) < Maths.pw 253) :
    invOf (F := Ideal) v (ix2 r 0) = Maths.pw (253 - Maths.expN (v (ix2 r 0))) := by
  have hE := expOf_at v r h0 h
  rw [Maths.pw_def]
  unfold invOf
  generalize expOf (F := Ideal) v = B at hE ⊢
  pointwise
  rw [hE]
  have hx := Maths.exp_lt _ h0 h
  generalize Maths.expN (v (ix2 r 0)) = n at hx ⊢
  exact congrArg (Ideal.ofBits .f32) (invBits ⟨n, hx⟩)

section Results
variable (c : Dev nD) (X : Buf (Elt Ideal) (xM.view.loc (c : Thread nD τ))) (NW : Buf (Elt Ideal) (nwH.view.loc (c : Thread nD τ)))

theorem rowOf_tripOf (i : Fin 256) : rowOf (tripOf i) ⟨i.val % 32, Nat.mod_lt _ (by decide)⟩ = i := Fin.ext (by show 32 * (i.val / 32) + i.val % 32 = i.val; omega)
theorem colOf_of (j : Fin 7168) : colOf (j.val / 128) ⟨j.val % 128, Nat.mod_lt _ (by decide)⟩ = j := Fin.ext (by show 128 * (j.val / 128 % 56) + j.val % 128 = j.val; omega)

/-- The scale of every row, and every code. -/
theorem scales_at (i : Fin 256) (l : Fin 128) (h : Maths.rowMag (nRow c X NW i) < Maths.pw 253) :
    scalesV (F := Ideal) c X NW (ix2 i l) = Maths.scl (Maths.rowMag (nRow c X NW i)) := by
  have e := rowTop_at c X NW (tripOf i) ⟨i.val % 32, Nat.mod_lt _ (by decide)⟩
  rw [rowOf_tripOf] at e
  exact (scaleOf_at (rowTop (F := Ideal) c X (nwAt c NW) (tripOf i)) ⟨i.val % 32, Nat.mod_lt _ (by decide)⟩ (by rw [e]; exact Maths.mag_nonneg _) (by rw [e]; exact h)).trans (by rw [e])
theorem codes_at (i : Fin 256) (j : Fin 7168) (h : Maths.rowMag (nRow c X NW i) < Maths.pw 253) :
    codesV (F := Ideal) c X NW (ix2 i j) = Maths.clip (nRow c X NW i j) (Maths.scl (Maths.rowMag (nRow c X NW i))) := by
  have e := rowTop_at c X NW (tripOf i) ⟨i.val % 32, Nat.mod_lt _ (by decide)⟩
  rw [rowOf_tripOf] at e
  have hi := invOf_at (rowTop (F := Ideal) c X (nwAt c NW) (tripOf i)) ⟨i.val % 32, Nat.mod_lt _ (by decide)⟩ (by rw [e]; exact Maths.mag_nonneg _) (by rw [e]; exact h)
  have hn := nTile_at c X NW (tripOf i) (j.val / 128) ⟨i.val % 32, Nat.mod_lt _ (by decide)⟩ ⟨j.val % 128, Nat.mod_lt _ (by decide)⟩
  rw [rowOf_tripOf, colOf_of] at hn
  unfold Maths.clip
  rw [Maths.div_scl _ _ (Maths.mag_nonneg _) h, ← e, ← hi, ← hn]
  show codeTile (F := Ideal) c X (nwAt c NW) (tripOf i) (j.val / 128) (ix2 ⟨i.val % 32, _⟩ ⟨j.val % 128, _⟩) = _
  unfold codeTile
  rw [nTile_back c X (nwAt c NW) (tripOf i) (j.val / 128) (by omega)]
  generalize nTile (F := Ideal) c X (nwAt c NW) (tripOf i) (j.val / 128) = A
  generalize invOf (rowTop (F := Ideal) c X (nwAt c NW) (tripOf i)) = B
  pointwise
end Results

end Cert.Proof.KernelIdeal
end
-- ==== Proof.IdealHeadsAt.lean ====
/- The kernel's heads, tables and rotated heads at an index, over the extended reals. -/
module

public import proofs.«01_k».proof.Proof.IdealTables
public import proofs.«01_k».proof.Proof.Spec

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic

/-- A column of head `n`. -/
abbrev headCol (n : Fin 72) (d : Fin 128) : Fin 9216 := ⟨n.val * 128 + d.val, by omega⟩

theorem headY_at (C : FVec Ideal S256x7168 .fp8e4m3) (S : FVec Ideal S256x128 .f32) (V : FVec Ideal S7168x512 .fp8e4m3) (s : FVec Ideal S1x128 .f32)
    (o : ℕ) (ho : S256x512.Slices ![0, o] S256x128) (hb : o + 128 ≤ 512) (i : Fin 256) (d : Fin 128) :
    headY (F := Ideal) C S V s ![0, o] ho (ix2 i d) = (∑ j : Fin 7168, C (ix2 i j) * V (ix2 j ⟨o + d.val, by omega⟩)) * S (ix2 i d) * s (ix2 0 d) := by
  pointwise [headY]

theorem headAll_at (C : FVec Ideal S256x7168 .fp8e4m3) (S : FVec Ideal S256x128 .f32) (w : FVec Ideal S7168x9216 .fp8e4m3) (s : FVec Ideal S1x9216 .f32) (n : Fin 72) (i : Fin 256) (d : Fin 128) :
    headAll (F := Ideal) C S w s n (ix2 i d) = (∑ j : Fin 7168, C (ix2 i j) * w (ix2 j (headCol n d))) * S (ix2 i d) * s (ix2 0 (headCol n d)) := by
  refine (headY_at C S _ _ (128 * (n.val % 4)) _ (by omega) i d).trans ?_
  have h1 : ∀ j : Fin 7168, wPart (F := Ideal) w (512 * (n.val / 4)) (by omega) (ix2 j ⟨128 * (n.val % 4) + d.val, by omega⟩) = w (ix2 j (headCol n d)) := fun j =>
    congrArg w (congrArg (ix2 j) (Fin.ext (by show 512 * (n.val / 4) + (128 * (n.val % 4) + d.val) = n.val * 128 + d.val; omega)))
  have h2 : wsPart (F := Ideal) s (128 * n.val) (by omega) (ix2 0 d) = s (ix2 0 (headCol n d)) :=
    congrArg s (congrArg (ix2 0) (Fin.ext (by show 128 * n.val + d.val = n.val * 128 + d.val; omega)))
  rw [h2]
  simp only [h1]

theorem ropeY_at (y cs sn : FVec Ideal S256x128 .f32) (i : Fin 256) (d : Fin 128) :
    ropeY (F := Ideal) y cs sn (ix2 i d) = y (ix2 i d) * cs (ix2 i d) + y (ix2 i ⟨(d.val + 128 - 64) % 128, Nat.mod_lt _ (by decide)⟩) * sn (ix2 i d) := by
  pointwise [ropeY]

section Tables
variable (P : Vec Ideal S1x256 .i32) (f : FVec Ideal S1x128 .f32) (φ : Fin 64 → EReal) (hf : ∀ d : Fin 128, f (ix2 0 d) = φ (Maths.half d))

/-- The angle of lane `d` at row `i`. -/
def angle (i : Fin 256) (d : Fin 128) : EReal := (FloatOps.sitofp .f32 (P (ix2 0 i)) : Ideal .f32) * φ (Maths.half d)

theorem pick_lt {α : Type} (d : ℕ) (h : d < 64) (x y : α) : Scalar.select (IntOp.cmpi CmpIPredicate.slt (BitVec.ofNat 32 d) 64#32) x y = x := by
  have : ∀ d : Fin 64, IntOp.cmpi CmpIPredicate.slt (BitVec.ofNat 32 d.val) 64#32 = 1#1 := by decide +kernel
  rw [this ⟨d, h⟩]; rfl
theorem pick_ge {α : Type} (d : ℕ) (h : ¬ d < 64) (h2 : d < 128) (x y : α) : Scalar.select (IntOp.cmpi CmpIPredicate.slt (BitVec.ofNat 32 d) 64#32) x y = y := by
  have : ∀ d : Fin 128, ¬ d.val < 64 → IntOp.cmpi CmpIPredicate.slt (BitVec.ofNat 32 d.val) 64#32 = 0#1 := by decide +kernel
  rw [this ⟨d, h2⟩ h]; rfl

include hf in
theorem turned (d : Fin 128) (h : (d.val + 128 - 64) % 128 < 128) : f (ix2 0 ⟨(d.val + 128 - 64) % 128, h⟩) = φ (Maths.half d) := by
  rw [hf]; exact congrArg φ (Fin.ext (by show (d.val + 128 - 64) % 128 % 64 = d.val % 64; omega))

include hf in
theorem top_cos (i : Fin 128) (d : Fin 128) : k0_pay247 (F := Ideal) P f (ix2 i d) = Ideal.cos (angle P φ ⟨i.val, by omega⟩ d) := by
  unfold angle
  pointwise [k0_pay247, k0_pay241, k0_pay243, k0_pay245, k0_pay242]
  by_cases h : d.val < 64
  · rw [pick_lt _ h, pick_lt _ h, hf]
  · rw [pick_ge _ h d.isLt, pick_lt _ (by omega), turned f φ hf]
include hf in
theorem bot_cos (i : Fin 128) (d : Fin 128) : k0_pay248 (F := Ideal) P f (ix2 i d) = Ideal.cos (angle P φ ⟨128 + i.val, by omega⟩ d) := by
  unfold angle
  pointwise [k0_pay248, k0_pay241, k0_pay243, k0_pay245, k0_pay242]
  by_cases h : d.val < 64
  · rw [pick_lt _ h, pick_ge _ (by omega) (by omega), turned f φ hf]
  · rw [pick_ge _ h d.isLt, pick_ge _ h d.isLt, hf]
include hf in
theorem top_sin (i : Fin 128) (d : Fin 128) : k0_pay249 (F := Ideal) P f (ix2 i d)
    = if d.val < 64 then 0 - Ideal.sin (angle P φ ⟨i.val, by omega⟩ d) else Ideal.sin (angle P φ ⟨i.val, by omega⟩ d) := by
  unfold angle
  pointwise [k0_pay249, k0_pay241, k0_pay244, k0_pay246, k0_pay242]
  by_cases h : d.val < 64
  · rw [pick_lt _ h, pick_lt _ h, hf, if_pos h]
  · rw [pick_ge _ h d.isLt, pick_lt _ (by omega), turned f φ hf, if_neg h]
include hf in
theorem bot_sin (i : Fin 128) (d : Fin 128) : k0_pay251 (F := Ideal) (k0_pay250 P f) (ix2 i d)
    = if d.val < 64 then 0 - Ideal.sin (angle P φ ⟨128 + i.val, by omega⟩ d) else Ideal.sin (angle P φ ⟨128 + i.val, by omega⟩ d) := by
  unfold angle
  pointwise [k0_pay251, k0_pay250, k0_pay241, k0_pay244, k0_pay246, k0_pay242]
  by_cases h : d.val < 64
  · rw [pick_lt _ h, pick_ge _ (by omega) (by omega), turned f φ hf, if_pos h]
  · rw [pick_ge _ h d.isLt, pick_ge _ h d.isLt, hf, if_neg h]

theorem halves_at (top bot : FVec Ideal S128x128 .f32) (g : Fin 256 → Fin 128 → EReal) (h0 : ∀ i d, top (ix2 i d) = g ⟨i.val, by omega⟩ d)
    (h1 : ∀ i d, bot (ix2 i d) = g ⟨128 + i.val, by omega⟩ d) (i : Fin 256) (d : Fin 128) : halves (F := Ideal) top bot (ix2 i d) = g i d := by
  by_cases h : i.val < 128
  · exact (dif_pos (show (ix2 i d (0 : Fin 2)).val < 128 from h)).trans (h0 ⟨i.val, h⟩ d)
  · refine (dif_neg (show ¬ (ix2 i d (0 : Fin 2)).val < 128 from h)).trans ((h1 ⟨i.val - 128, by omega⟩ d).trans ?_)
    exact congrArg (g · d) (Fin.ext (by show 128 + (i.val - 128) = i.val; omega))
end Tables

section Results
variable (c : Dev nD) (X : Buf (Elt Ideal) (xM.view.loc (c : Thread nD τ))) (W : Buf (Elt Ideal) (wM.view.loc (c : Thread nD τ)))
  (NW : Buf (Elt Ideal) (nwH.view.loc (c : Thread nD τ))) (WS : Buf (Elt Ideal) (wsH.view.loc (c : Thread nD τ)))
  (POS : Buf (Elt Ideal) (posH.view.loc (c : Thread nD τ))) (FR : Buf (Elt Ideal) (frH.view.loc (c : Thread nD τ)))

theorem posRow_eq : posRow (F := Ideal) c POS = posH.view.read (Elt Ideal) POS :=
  (View.readAt_full _ _ _).trans (read_landed c posH posM POS posM.view.junk)
theorem frRow_eq : frRow (F := Ideal) c FR = frH.view.read (Elt Ideal) FR :=
  (View.readAt_full _ _ _).trans (read_landed c frH frM FR frM.view.junk)

variable (φ : Fin 64 → EReal) (hf : ∀ d : Fin 128, (frH.view.read (Elt Ideal) FR : FVec Ideal S1x128 .f32) (ix2 0 d) = φ (Maths.half d))

include hf in
theorem cosV_at (i : Fin 256) (d : Fin 128) : cosV (F := Ideal) c POS FR (ix2 i d) = Ideal.cos (angle (posH.view.read (Elt Ideal) POS) φ i d) := by
  unfold cosV
  rw [posRow_eq, frRow_eq]
  exact halves_at _ _ (fun i d => Ideal.cos (angle (posH.view.read (Elt Ideal) POS) φ i d)) (top_cos _ _ φ hf) (bot_cos _ _ φ hf) i d
include hf in
theorem sinV_at (i : Fin 256) (d : Fin 128) : sinV (F := Ideal) c POS FR (ix2 i d)
    = if d.val < 64 then 0 - Ideal.sin (angle (posH.view.read (Elt Ideal) POS) φ i d) else Ideal.sin (angle (posH.view.read (Elt Ideal) POS) φ i d) := by
  unfold sinV
  rw [posRow_eq, frRow_eq]
  exact halves_at _ _ (fun i d => if d.val < 64 then 0 - Ideal.sin (angle (posH.view.read (Elt Ideal) POS) φ i d) else Ideal.sin (angle (posH.view.read (Elt Ideal) POS) φ i d))
    (top_sin _ _ φ hf) (bot_sin _ _ φ hf) i d

theorem headV_at (n : Fin 72) (i : Fin 256) (d : Fin 128) : headV (F := Ideal) c X W NW WS n (ix2 i d)
    = (∑ j : Fin 7168, codesV (F := Ideal) c X NW (ix2 i j) * (wM.view.read (Elt Ideal) W : FVec Ideal S7168x9216 .fp8e4m3) (ix2 j (headCol n d))) * scalesV (F := Ideal) c X NW (ix2 i d)
      * (wsH.view.read (Elt Ideal) WS : FVec Ideal S1x9216 .f32) (ix2 0 (headCol n d)) := by
  unfold headV
  rw [show wsM.view.read (Elt Ideal) (wsAt c WS) = wsH.view.read (Elt Ideal) WS from read_landed c wsH wsM WS wsM.view.junk]
  exact headAll_at _ _ _ _ n i d

include hf in
theorem ropeV_at (n : Fin 72) (i : Fin 256) (d : Fin 128) : ropeV (F := Ideal) c X W NW WS POS FR n (ix2 i d)
    = if h : d.val < 64 then headV (F := Ideal) c X W NW WS n (ix2 i d) * Ideal.cos (angle (posH.view.read (Elt Ideal) POS) φ i d)
        - headV (F := Ideal) c X W NW WS n (ix2 i ⟨64 + d.val, by omega⟩) * Ideal.sin (angle (posH.view.read (Elt Ideal) POS) φ i d)
      else headV (F := Ideal) c X W NW WS n (ix2 i d) * Ideal.cos (angle (posH.view.read (Elt Ideal) POS) φ i d)
        + headV (F := Ideal) c X W NW WS n (ix2 i ⟨d.val - 64, by omega⟩) * Ideal.sin (angle (posH.view.read (Elt Ideal) POS) φ i d) := by
  refine (ropeY_at (headV (F := Ideal) c X W NW WS n) (cosV (F := Ideal) c POS FR) (sinV (F := Ideal) c POS FR) i d).trans ?_
  rw [cosV_at c POS FR φ hf, sinV_at c POS FR φ hf]
  by_cases h : d.val < 64
  · rw [if_pos h, dif_pos h, Maths.add_neg_mul]
    rw [show (⟨(d.val + 128 - 64) % 128, Nat.mod_lt _ (by decide)⟩ : Fin 128) = ⟨64 + d.val, by omega⟩ from Fin.ext (by show (d.val + 128 - 64) % 128 = 64 + d.val; omega)]
  · rw [if_neg h, dif_neg h]
    rw [show (⟨(d.val + 128 - 64) % 128, Nat.mod_lt _ (by decide)⟩ : Fin 128) = ⟨d.val - 64, by omega⟩ from Fin.ext (by show (d.val + 128 - 64) % 128 = d.val - 64; omega)]
end Results

end Cert.Proof.KernelIdeal
end
-- ==== Proof.IdealValue.lean ====
/- The kernel's results at an index. -/
module

public import proofs.«01_k».proof.Proof.IdealLaunch
public import proofs.«01_k».proof.Proof.IdealAt
public import proofs.«01_k».proof.Proof.IdealHeadsAt
public import proofs.«01_k».proof.Proof.Spec
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

abbrev aX : FVec Ideal S1x256x7168 .bf16 := m ((c.tc : Thread nD τ).loc main_arg0)
abbrev aNW : FVec Ideal S7168 .f32 := m ((c.tc : Thread nD τ).loc main_arg1)
abbrev aW : FVec Ideal S7168x9216 .fp8e4m3 := m ((c.tc : Thread nD τ).loc main_arg2)
abbrev aWS : FVec Ideal S9216 .f32 := m ((c.tc : Thread nD τ).loc main_arg3)
abbrev aP : Vec Ideal S1x256 .i32 := m ((c.tc : Thread nD τ).loc main_arg4)
/-- The arguments' entries, as the specification takes them. -/
abbrev eX : Fin 256 → Fin 7168 → EReal := fun i j => aX m c (ix3 0 i j)
abbrev ew : Fin 7168 → EReal := fun j => aNW m c (ix1 j)
abbrev eW : Fin 7168 → Fin 9216 → EReal := fun j k => aW m c (ix2 j k)
abbrev ews : Fin 9216 → EReal := fun k => aWS m c (ix1 k)
/-- The angles at the frequencies `φ`. -/
abbrev ea (φ : Fin 64 → EReal) : Fin 256 → Fin 64 → EReal := fun i f => (FloatOps.sitofp .f32 (aP m c (ix2 0 i)) : Ideal .f32) * φ f

theorem entry_x : V m c main_v0 = shapeCast S256x7168 (aX m c) shapeCasts_S1x256x7168_S256x7168 := by
  unfold V; after_results; rfl
theorem entry_w : V m c main_v1 = shapeCast S1x7168 (aNW m c) shapeCasts_S7168_S1x7168 := by
  unfold V; after_results; rfl
theorem entry_ws : V m c main_v2 = shapeCast S1x9216 (aWS m c) shapeCasts_S9216_S1x9216 := by
  unfold V; after_results; rfl
theorem entry_f : V m c main_cst = fun i => Ideal.ofBits .f32 (lit0 (S1x128.rowMajor i)) := by
  unfold V; after_results; rfl

theorem xRow_eq (i : Fin 256) : xRow c (V m c main_v0) i = eX m c i := by
  funext j
  show (V m c main_v0 : FVec Ideal S256x7168 .bf16) (ix2 i j) = _
  rw [entry_x]
  pointwise
theorem wRow_eq : wRow c (V m c main_v1) = ew m c := by
  funext j
  show (V m c main_v1 : FVec Ideal S1x7168 .f32) (ix2 0 j) = _
  rw [entry_w]
  pointwise
theorem nRow_eq (i : Fin 256) : nRow c (V m c main_v0) (V m c main_v1) i = Maths.rowNorm (eX m c i) (ew m c) := by
  unfold nRow; rw [xRow_eq, wRow_eq]

section Rows
variable (hr : Maths.InRange (eX m c) (ew m c))
include hr

theorem sc_at (i : Fin 256) (l : Fin 128) : scalesV (F := Ideal) c (V m c main_v0) (V m c main_v1) (ix2 i l) = Maths.sc (eX m c) (ew m c) i := by
  rw [scales_at c _ _ i l (by rw [nRow_eq]; exact hr i), nRow_eq]; rfl
theorem code_at (i : Fin 256) (j : Fin 7168) : codeG (F := Ideal) m c (ix2 i j) = Maths.code (eX m c) (ew m c) i j := by
  rw [show codeG (F := Ideal) m c = codesV (F := Ideal) c (V m c main_v0) (V m c main_v1) from rfl, codes_at c _ _ i j (by rw [nRow_eq]; exact hr i), nRow_eq]; rfl
theorem row_at (i : Fin 256) : rowG (F := Ideal) m c (ix2 0 i) = Maths.sc (eX m c) (ew m c) i := sc_at m c hr i 0

theorem headG_at (n : Fin 72) (i : Fin 256) (d : Fin 128) : headV (F := Ideal) c (V m c main_v0) (V m c main_arg2) (V m c main_v1) (V m c main_v2) n (ix2 i d)
    = Maths.head (eX m c) (ew m c) (eW m c) (ews m c) n i d := by
  have hw : (wsH.view.read (Elt Ideal) (V m c main_v2) : FVec Ideal S1x9216 .f32) (ix2 0 (headCol n d)) = ews m c (headCol n d) := by
    show (V m c main_v2 : FVec Ideal S1x9216 .f32) (ix2 0 (headCol n d)) = _
    rw [entry_ws]
    generalize headCol n d = k
    pointwise
  have hW : ∀ j, (wM.view.read (Elt Ideal) (V m c main_arg2) : FVec Ideal S7168x9216 .fp8e4m3) (ix2 j (headCol n d)) = eW m c j (headCol n d) := fun j => by
    show (V m c main_arg2 : FVec Ideal S7168x9216 .fp8e4m3) (ix2 j (headCol n d)) = _
    rw [V_main_arg2]
  have hc : ∀ j, codesV (F := Ideal) c (V m c main_v0) (V m c main_v1) (ix2 i j) = Maths.code (eX m c) (ew m c) i j := code_at m c hr i
  rw [headV_at, sc_at m c hr, hw]
  simp only [hW, hc]
  rfl

variable (φ : Fin 64 → EReal) (hf : ∀ d : Fin 128, Ideal.ofBits .f32 (lit0 (S1x128.rowMajor (ix2 0 d))) = φ (Maths.half d))
include hf

theorem rope_at (n : Fin 72) (i : Fin 256) (d : Fin 128) :
    ropeV (F := Ideal) c (V m c main_v0) (V m c main_arg2) (V m c main_v1) (V m c main_v2) (V m c main_arg4) (V m c main_cst) n (ix2 i d)
      = Maths.rot (eX m c) (ew m c) (eW m c) (ews m c) (ea m c φ) n i d := by
  have hp : (posH.view.read (Elt Ideal) (V m c main_arg4) : Vec Ideal S1x256 .i32) = aP m c := V_main_arg4 m c
  rw [ropeV_at c _ _ _ _ _ _ φ (fun d => by
    show (V m c main_cst : FVec Ideal S1x128 .f32) (ix2 0 d) = _
    exact (congrFun (entry_f m c) (ix2 0 d)).trans (hf d)), hp]
  simp only [headG_at m c hr]
  rfl
end Rows

/-- The kernel runs and leaves its results at their values and its arguments as they were. -/
theorem run : θ_run (defs (F := Ideal)) (onTc (τ := τ) (main (F := Ideal))) ⟨m, fun _ => 0, ρ⟩ (fun r => ∀ c : Dev nD,
    r.2.mem ((c.tc : Thread nD τ).loc main_v3_0) = qG (F := Ideal) m c
    ∧ r.2.mem ((c.tc : Thread nD τ).loc main_v3_1) = kG (F := Ideal) m c
    ∧ r.2.mem ((c.tc : Thread nD τ).loc main_v3_2) = vG (F := Ideal) m c
    ∧ r.2.mem ((c.tc : Thread nD τ).loc main_v3_3) = codeG (F := Ideal) m c
    ∧ r.2.mem ((c.tc : Thread nD τ).loc main_v3_4) = rowG (F := Ideal) m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun _ h c => ⟨(h.1.written c (by decide)).trans (G_q m c), (h.1.written c (by decide)).trans (G_k m c), (h.1.written c (by decide)).trans (G_v m c),
    (h.1.written c (by decide)).trans (G_code m c), (h.1.written c (by decide)).trans (G_row m c), args_of m (fun c => (h.1.1 c).2) c⟩) (run_main m ρ)

end Cert.Proof.KernelIdeal
end
-- ==== Proof.RefTerms.lean ====
/- The reference's terms, and what its one pipelined call leaves in its two arrays. -/
module

public import proofs.«01_k».proof.Proof.Gen.ReferenceIdeal.Frame
public import Idealize.ShloMosaic.Lib.Pipeline.ValueKit
public import Idealize.ShloMosaic.Lib.Claim

@[expose] public section

set_option maxRecDepth 16384

noncomputable section

namespace Cert.Proof.ReferenceIdeal

open Cert.ReferenceIdeal Cert.ReferenceIdeal.Gen
open Idealize.ShloMosaic Idealize.ShloMosaic.TcCoe Idealize.SL.Sem
open Idealize.ShloMosaic.Pipeline (Dat)

/-- A number in every cell. -/
abbrev cst (b : BitVec 32) : FVec Ideal S_ .f32 := constant S_ .f32 b
/-- The powers of two, and the frequencies. -/
def rPows : FVec Ideal S253 .f32 := fun i => FloatOps.ofBits .f32 (lit0 (S253.rowMajor i))
def rFreq : FVec Ideal S64 .f32 := fun i => FloatOps.ofBits .f32 (lit1 (S64.rowMajor i))
/-- The input in f32. -/
def rX (X : FVec Ideal S1x256x7168 .bf16) : FVec Ideal S256x7168 .f32 := extf .f32 (shapeCast S256x7168 X shapeCasts_S1x256x7168_S256x7168) bitsLt_bf16_f32
/-- The normalised input. -/
def rNorm (X : FVec Ideal S1x256x7168 .bf16) (NW : FVec Ideal S7168 .f32) : FVec Ideal S256x7168 .f32 :=
  mulf (mulf (rX X) (broadcastInDim S256x7168 ![0, 1] bcast_S256x1_S256x7168_0_1 (Host.rsqrt (addf (Host.divf
      (broadcastInDim S256x1 ![0] bcast_S256_S256x1_0 (Host.reduceAdd (mulf (rX X) (rX X)) (cst 0x00000000#32) reducesTo_S256x7168_S256_d1 h_S_))
      (broadcastInDim S256x1 ![] bcast_S_S256x1 (cst 0x45E00000#32))) (broadcastInDim S256x1 ![] bcast_S_S256x1 (cst 0x3727C5AC#32))))))
    (broadcastInDim S256x7168 ![0, 1] bcast_S1x7168_S256x7168_0_1 (broadcastInDim S1x7168 ![1] bcast_S7168_S1x7168_1 NW))
/-- The rows' largest magnitude over the largest code. -/
def rTop (n : FVec Ideal S256x7168 .f32) : FVec Ideal S256x1 .f32 :=
  mulf (broadcastInDim S256x1 ![0] bcast_S256_S256x1_0 (Host.reduce FloatOps.maximumf (Host.absf n) (cst 0xFF800000#32) reducesTo_S256x7168_S256_d1 h_S_))
    (broadcastInDim S256x1 ![] bcast_S_S256x1 (cst 0x3B124925#32))
/-- The rows' scales. -/
def rScale (v : FVec Ideal S256x1 .f32) : FVec Ideal S256x1 .f32 :=
  select (cmpf .olt v (broadcastInDim S256x1 ![] bcast_S_S256x1 (cst 0x00800000#32))) (broadcastInDim S256x1 ![] bcast_S_S256x1 (cst 0x3F800000#32))
    (broadcastInDim S256x1 ![0] bcast_S256_S256x1_0 (Host.reduce FloatOps.minimumf
      (select (cmpf .olt (broadcastInDim S256x253 ![0, 1] bcast_S256x1_S256x253_0_1 v) (broadcastInDim S256x253 ![0, 1] bcast_S1x253_S256x253_0_1 (broadcastInDim S1x253 ![1] bcast_S253_S1x253_1 rPows)))
        (broadcastInDim S256x253 ![1] bcast_S253_S256x253_1 rPows) (broadcastInDim S256x253 ![] bcast_S_S256x253 (cst 0x7F800000#32)))
      (cst 0x7F800000#32) reducesTo_S256x253_S256_d1 h_S_))
/-- The clipped quotients. -/
def rClip (n : FVec Ideal S256x7168 .f32) (s : FVec Ideal S256x1 .f32) : FVec Ideal S256x7168 .f32 :=
  minimumf (broadcastInDim S256x7168 ![] bcast_S_S256x7168 (cst 0x43E00000#32)) (maximumf (broadcastInDim S256x7168 ![] bcast_S_S256x7168 (cst 0xC3E00000#32))
    (Host.divf n (broadcastInDim S256x7168 ![0, 1] bcast_S256x1_S256x7168_0_1 s)))
/-- The heads. -/
def rHeads (a : FVec Ideal S256x9216 .f32) (s : FVec Ideal S256x1 .f32) (WS : FVec Ideal S9216 .f32) : FVec Ideal S256x72x128 .f32 :=
  shapeCast S256x72x128 (mulf (mulf a (broadcastInDim S256x9216 ![0, 1] bcast_S256x1_S256x9216_0_1 s))
    (broadcastInDim S256x9216 ![0, 1] bcast_S1x9216_S256x9216_0_1 (broadcastInDim S1x9216 ![1] bcast_S9216_S1x9216_1 WS))) shapeCasts_S256x9216_S256x72x128
/-- The angles, their cosines and sines. -/
def rAngle (P : Vec Ideal S1x256 .i32) : FVec Ideal S256x64 .f32 :=
  mulf (broadcastInDim S256x64 ![0, 1] bcast_S256x1_S256x64_0_1 (sitofp .f32 (shapeCast S256x1 P shapeCasts_S1x256_S256x1)))
    (broadcastInDim S256x64 ![0, 1] bcast_S1x64_S256x64_0_1 (broadcastInDim S1x64 ![1] bcast_S64_S1x64_1 rFreq))
def rCos (P : Vec Ideal S1x256 .i32) : FVec Ideal S256x1x64 .f32 := broadcastInDim S256x1x64 ![0, 2] bcast_S256x64_S256x1x64_0_2 (Host.cos (rAngle P))
def rSin (P : Vec Ideal S1x256 .i32) : FVec Ideal S256x1x64 .f32 := broadcastInDim S256x1x64 ![0, 2] bcast_S256x64_S256x1x64_0_2 (Host.sin (rAngle P))
/-- The heads rotated: the 56 of the queries, the 8 of the keys. -/
def rRotQ (t : FVec Ideal S256x56x128 .f32) (cs sn : FVec Ideal S256x1x64 .f32) : FVec Ideal S256x56x128 .f32 :=
  concatenate S256x56x128 2 [⟨S256x56x64, subf
      (mulf (extractStridedSlice S256x56x64 ![0, 0, 0] t slices_S256x56x128_S256x56x64_0_0_0) (broadcastInDim S256x56x64 ![0, 1, 2] bcast_S256x1x64_S256x56x64_0_1_2 cs))
      (mulf (extractStridedSlice S256x56x64 ![0, 0, 64] t slices_S256x56x128_S256x56x64_0_0_64) (broadcastInDim S256x56x64 ![0, 1, 2] bcast_S256x1x64_S256x56x64_0_1_2 sn))⟩,
    ⟨S256x56x64, addf
      (mulf (extractStridedSlice S256x56x64 ![0, 0, 64] t slices_S256x56x128_S256x56x64_0_0_64) (broadcastInDim S256x56x64 ![0, 1, 2] bcast_S256x1x64_S256x56x64_0_1_2 cs))
      (mulf (extractStridedSlice S256x56x64 ![0, 0, 0] t slices_S256x56x128_S256x56x64_0_0_0) (broadcastInDim S256x56x64 ![0, 1, 2] bcast_S256x1x64_S256x56x64_0_1_2 sn))⟩]
    concatenates_S256x56x64_S256x56x64_S256x56x128_d2
def rRotK (t : FVec Ideal S256x8x128 .f32) (cs sn : FVec Ideal S256x1x64 .f32) : FVec Ideal S256x8x128 .f32 :=
  concatenate S256x8x128 2 [⟨S256x8x64, subf
      (mulf (extractStridedSlice S256x8x64 ![0, 0, 0] t slices_S256x8x128_S256x8x64_0_0_0) (broadcastInDim S256x8x64 ![0, 1, 2] bcast_S256x1x64_S256x8x64_0_1_2 cs))
      (mulf (extractStridedSlice S256x8x64 ![0, 0, 64] t slices_S256x8x128_S256x8x64_0_0_64) (broadcastInDim S256x8x64 ![0, 1, 2] bcast_S256x1x64_S256x8x64_0_1_2 sn))⟩,
    ⟨S256x8x64, addf
      (mulf (extractStridedSlice S256x8x64 ![0, 0, 64] t slices_S256x8x128_S256x8x64_0_0_64) (broadcastInDim S256x8x64 ![0, 1, 2] bcast_S256x1x64_S256x8x64_0_1_2 cs))
      (mulf (extractStridedSlice S256x8x64 ![0, 0, 0] t slices_S256x8x128_S256x8x64_0_0_0) (broadcastInDim S256x8x64 ![0, 1, 2] bcast_S256x1x64_S256x8x64_0_1_2 sn))⟩]
    concatenates_S256x8x64_S256x8x64_S256x8x128_d2
/-- The results over the heads. -/
def rQ (y : FVec Ideal S256x72x128 .f32) (P : Vec Ideal S1x256 .i32) : FVec Ideal S256x56x128 .bf16 :=
  truncf .bf16 (rRotQ (extractStridedSlice S256x56x128 ![0, 0, 0] y slices_S256x72x128_S256x56x128_0_0_0) (rCos P) (rSin P)) bitsLt_bf16_f32
def rK (y : FVec Ideal S256x72x128 .f32) (P : Vec Ideal S1x256 .i32) : FVec Ideal S256x8x128 .bf16 :=
  truncf .bf16 (rRotK (extractStridedSlice S256x8x128 ![0, 56, 0] y slices_S256x72x128_S256x8x128_0_56_0) (rCos P) (rSin P)) bitsLt_bf16_f32
def rV (y : FVec Ideal S256x72x128 .f32) : FVec Ideal S256x8x128 .bf16 :=
  truncf .bf16 (extractStridedSlice S256x8x128 ![0, 64, 0] y slices_S256x72x128_S256x8x128_0_64_0) bitsLt_bf16_f32

variable (m : (ℓ : Loc nD τ sig) → Buf (Elt Ideal) ℓ) (g : Dev nD → PrngReg)

theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

theorem iblk0 (c : Dev nD) : iblk m c 0 t0_0 = V m c main_v32 := by
  funext x
  unfold iblk
  generalize V m c (Pipeline.arrRef spec0 0) = f
  blk_ext! [idx t0_0]
theorem iblk1 (c : Dev nD) : iblk m c 1 t0_0 = V m c main_arg2 := by
  funext x
  unfold iblk
  generalize V m c (Pipeline.arrRef spec0 1) = f
  blk_ext! [idx t0_0]
/-- The codes after the region. -/
theorem final_codes (c : Dev nD) : (dats m 0 c).arrAt 2 (cfgs 0).N = k0_pay1 (F := Ideal) (V m c main_v32) := by
  refine (dats m 0 c).arrAt_eq_of_after_last 2 t0_0 (by decide +kernel) _ fun j => ?_
  blk_simp
  rw [after0_2]; frame_out
  rw [iblk0]
/-- The accumulated products after the region. -/
theorem final_acc (c : Dev nD) : (dats m 0 c).arrAt 3 (cfgs 0).N = k0_pay2 (F := Ideal) (V m c main_v32) (V m c main_arg2) := by
  refine (dats m 0 c).arrAt_eq_of_after_last 3 t0_0 (by decide +kernel) _ fun j => ?_
  blk_simp
  rw [after0_3]; frame_out
  rw [iblk0, iblk1]

end Cert.Proof.ReferenceIdeal
end
-- ==== Proof.RefAt.lean ====
/- The reference's terms at an index. -/
module

public import proofs.«01_k».proof.Proof.RefTerms
public import proofs.«01_k».proof.Proof.Maths

@[expose] public section

set_option maxRecDepth 16384

noncomputable section

namespace Cert.Proof.ReferenceIdeal

open Cert.ReferenceIdeal Cert.ReferenceIdeal.Gen
open Idealize.ShloMosaic Idealize.ShloMosaic.TcCoe Idealize.SL.Sem

theorem rNorm_at (X : FVec Ideal S1x256x7168 .bf16) (NW : FVec Ideal S7168 .f32) (i : Fin 256) (j : Fin 7168) :
    rNorm X NW (ix2 i j) = Maths.rowNorm (fun k => X (ix3 0 i k)) (fun k => NW (ix1 k)) j := by
  unfold Maths.rowNorm
  pointwise [rNorm, rX]
theorem rTop_at (n : FVec Ideal S256x7168 .f32) (i : Fin 256) : rTop n (ix2 i 0) = Maths.rowMag (fun k => n (ix2 i k)) := by
  unfold Maths.rowMag
  pointwise [rTop]
  rfl
theorem pows_at : ∀ k : Fin 253, lit0 (S253.rowMajor (ix1 k)) = BitVec.ofNat 32 ((k.val + 2) * 2 ^ 23) := by decide +kernel
theorem rPows_at (k : Fin 253) : rPows (ix1 k) = Maths.pw (k.val + 2) := (congrArg (Ideal.ofBits .f32) (pows_at k)).trans (Maths.pw_def _).symm
theorem rScale_at (v : FVec Ideal S256x1 .f32) (i : Fin 256) : rScale v (ix2 i 0) = Maths.scl (v (ix2 i 0)) := by
  unfold Maths.scl
  simp only [← rPows_at]
  pointwise [rScale]
theorem rClip_at (n : FVec Ideal S256x7168 .f32) (s : FVec Ideal S256x1 .f32) (i : Fin 256) (j : Fin 7168) : rClip n s (ix2 i j) = Maths.clip (n (ix2 i j)) (s (ix2 i 0)) := by
  unfold Maths.clip
  pointwise [rClip]
theorem pay1_at (n : FVec Ideal S256x7168 .f32) (i : Fin 256) (j : Fin 7168) : k0_pay1 (F := Ideal) n (ix2 i j) = n (ix2 i j) := by
  pointwise [k0_pay1]
theorem rV_at (y : FVec Ideal S256x72x128 .f32) (i : Fin 256) (h : Fin 8) (d : Fin 128) : rV y (ix3 i h d) = y (ix3 i ⟨64 + h.val, by omega⟩ d) := by
  pointwise [rV]
/-- The angle of the row's position at frequency `f`. -/
def ang (P : Vec Ideal S1x256 .i32) (i : Fin 256) (f : Fin 64) : EReal := (FloatOps.sitofp .f32 (P (ix2 0 i)) : Ideal .f32) * rFreq (ix1 f)
theorem rQ_at (y : FVec Ideal S256x72x128 .f32) (P : Vec Ideal S1x256 .i32) (i : Fin 256) (h : Fin 56) (d : Fin 128) : rQ y P (ix3 i h d) =
    if h1 : d.val < 64 then y (ix3 i ⟨h.val, by omega⟩ d) * Ideal.cos (ang P i ⟨d.val, h1⟩) - y (ix3 i ⟨h.val, by omega⟩ ⟨64 + d.val, by omega⟩) * Ideal.sin (ang P i ⟨d.val, h1⟩)
    else y (ix3 i ⟨h.val, by omega⟩ ⟨64 + (d.val - 64), by omega⟩) * Ideal.cos (ang P i ⟨d.val - 64, by omega⟩) + y (ix3 i ⟨h.val, by omega⟩ ⟨d.val - 64, by omega⟩) * Ideal.sin (ang P i ⟨d.val - 64, by omega⟩) := by
  unfold ang
  pointwise [rQ, rRotQ, rCos, rSin, rAngle]
theorem rK_at (y : FVec Ideal S256x72x128 .f32) (P : Vec Ideal S1x256 .i32) (i : Fin 256) (h : Fin 8) (d : Fin 128) : rK y P (ix3 i h d) =
    if h1 : d.val < 64 then y (ix3 i ⟨56 + h.val, by omega⟩ d) * Ideal.cos (ang P i ⟨d.val, h1⟩) - y (ix3 i ⟨56 + h.val, by omega⟩ ⟨64 + d.val, by omega⟩) * Ideal.sin (ang P i ⟨d.val, h1⟩)
    else y (ix3 i ⟨56 + h.val, by omega⟩ ⟨64 + (d.val - 64), by omega⟩) * Ideal.cos (ang P i ⟨d.val - 64, by omega⟩) + y (ix3 i ⟨56 + h.val, by omega⟩ ⟨d.val - 64, by omega⟩) * Ideal.sin (ang P i ⟨d.val - 64, by omega⟩) := by
  unfold ang
  pointwise [rK, rRotK, rCos, rSin, rAngle]

end Cert.Proof.ReferenceIdeal
end
-- ==== Proof.RefHeads.lean ====
/- The reference's heads before rotation at an index. -/
module

public import proofs.«01_k».proof.Proof.RefTerms
public import proofs.«01_k».proof.Proof.Maths

@[expose] public section

set_option maxRecDepth 16384

noncomputable section

namespace Cert.Proof.ReferenceIdeal

open Cert.ReferenceIdeal Cert.ReferenceIdeal.Gen
open Idealize.ShloMosaic Idealize.ShloMosaic.TcCoe Idealize.SL.Sem

theorem rHeads_at (n : FVec Ideal S256x7168 .f32) (W : FVec Ideal S7168x9216 .fp8e4m3) (s : FVec Ideal S256x1 .f32) (WS : FVec Ideal S9216 .f32) (i : Fin 256) (h : Fin 72) (d : Fin 128) :
    rHeads (k0_pay2 (F := Ideal) n W) s WS (ix3 i h d) =
      (∑ x : Fin 7168, n (ix2 i x) * W (ix2 x ⟨h.val * 128 + d.val, by omega⟩)) * s (ix2 i 0) * WS (ix1 ⟨h.val * 128 + d.val, by omega⟩) := by
  pointwise [rHeads, k0_pay2, k0_pay1]

end Cert.Proof.ReferenceIdeal
end
-- ==== Proof.RefRun.lean ====
/- What the reference's run leaves in its result arrays, as terms over its arguments. -/
module

public import proofs.«01_k».proof.Proof.RefTerms
public import Idealize.ShloMosaic.Lib.Pipeline.ValueKit
public import Idealize.ShloMosaic.Lib.Claim

@[expose] public section

set_option maxRecDepth 16384

noncomputable section

namespace Cert.Proof.ReferenceIdeal

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ) (g : Dev nD → PrngReg)

/-- What the lines before the region leave. -/
abbrev aX (c : Dev nD) : FVec Ideal S1x256x7168 .bf16 := m ((c.tc : Thread nD τ).loc main_arg0)
abbrev aNW (c : Dev nD) : FVec Ideal S7168 .f32 := m ((c.tc : Thread nD τ).loc main_arg1)
abbrev aW (c : Dev nD) : FVec Ideal S7168x9216 .fp8e4m3 := m ((c.tc : Thread nD τ).loc main_arg2)
abbrev aWS (c : Dev nD) : FVec Ideal S9216 .f32 := m ((c.tc : Thread nD τ).loc main_arg3)
abbrev aP (c : Dev nD) : Vec Ideal S1x256 .i32 := m ((c.tc : Thread nD τ).loc main_arg4)
def gScale (c : Dev nD) : FVec Ideal S256x1 .f32 := rScale (rTop (rNorm (aX m c) (aNW m c)))
def gClip (c : Dev nD) : FVec Ideal S256x7168 .f32 := rClip (rNorm (aX m c) (aNW m c)) (gScale m c)
def gHeads (c : Dev nD) : FVec Ideal S256x72x128 .f32 := rHeads (k0_pay2 (F := Ideal) (gClip m c) (aW m c)) (gScale m c) (aWS m c)

theorem entry_scale (c : Dev nD) : V0 m c (Proc.devRef .tc main_v29) = gScale m c := by
  simp only [V0, hostOps0, hostOps0_1, hostOps0_2, hostOps0_3, hostOps0_4, hostOps0_5, List.flatten_cons, List.flatten_nil, List.append_nil, List.cons_append, List.nil_append]
  after_results
  simp -implicitDefEqProofs only [StableHlo.TRef.toBuf, StableHlo.TRef.ofBuf, cast_cast, cast_eq, id_eq]
  unfold gScale rScale rTop rNorm rX rPows
  rfl
theorem entry_clip (c : Dev nD) : V0 m c (Proc.devRef .tc main_v32) = gClip m c := by
  simp only [V0, hostOps0, hostOps0_1, hostOps0_2, hostOps0_3, hostOps0_4, hostOps0_5, List.flatten_cons, List.flatten_nil, List.append_nil, List.cons_append, List.nil_append]
  after_results
  simp -implicitDefEqProofs only [StableHlo.TRef.toBuf, StableHlo.TRef.ofBuf, cast_cast, cast_eq, id_eq]
  unfold gClip rClip gScale rScale rTop rNorm rX rPows
  rfl
theorem entry_freq (c : Dev nD) : V0 m c (Proc.devRef .tc main_cst_0) = rFreq := by
  simp only [V0, hostOps0, hostOps0_1, hostOps0_2, hostOps0_3, hostOps0_4, hostOps0_5, List.flatten_cons, List.flatten_nil, List.append_nil, List.cons_append, List.nil_append]
  after_results
  rfl

/-- What the region leaves. -/
def W0 (c : Dev nD) : Valuation τ sig (Elt Ideal) := Pipeline.withArrays (cfgs 0).spec c (V0 m c) fun w => (dats m 0 c).arrAt w (cfgs 0).N
theorem W0_scale (c : Dev nD) : W0 m c (Proc.devRef .tc main_v29) = gScale m c :=
  (Pipeline.withArrays_of_ne _ c (V0 m c) _ main_v29 (by exact (by decide : ∀ w, Pipeline.arrRef spec0 w ≠ main_v29))).trans (entry_scale m c)
theorem W0_freq (c : Dev nD) : W0 m c (Proc.devRef .tc main_cst_0) = rFreq :=
  (Pipeline.withArrays_of_ne _ c (V0 m c) _ main_cst_0 (by exact (by decide : ∀ w, Pipeline.arrRef spec0 w ≠ main_cst_0))).trans (entry_freq m c)
theorem W0_ws (c : Dev nD) : W0 m c (Proc.devRef .tc main_arg3) = aWS m c :=
  (Pipeline.withArrays_of_ne _ c (V0 m c) _ main_arg3 (by exact (by decide : ∀ w, Pipeline.arrRef spec0 w ≠ main_arg3))).trans (V_main_arg3 m c)
theorem W0_pos (c : Dev nD) : W0 m c (Proc.devRef .tc main_arg4) = aP m c :=
  (Pipeline.withArrays_of_ne _ c (V0 m c) _ main_arg4 (by exact (by decide : ∀ w, Pipeline.arrRef spec0 w ≠ main_arg4))).trans (V_main_arg4 m c)
theorem W0_acc (c : Dev nD) : W0 m c (Proc.devRef .tc main_v33_1) = k0_pay2 (F := Ideal) (gClip m c) (aW m c) := by
  refine (Pipeline.withArrays_arr _ (by exact winFacts0.arr_inj) c (V0 m c) (fun w => (dats m 0 c).arrAt w (cfgs 0).N) 3).trans ((final_acc m c).trans ?_)
  rw [show V m c main_v32 = gClip m c from entry_clip m c, V_main_arg2]

theorem tail_scale (c : Dev nD) : StableHlo.after hostOps1 (W0 m c) (Proc.devRef .tc main_v82) = shapeCast S1x256 (gScale m c) shapeCasts_S256x1_S1x256 := by
  simp only [hostOps1]
  after_results
  rw [W0_scale]
  rfl
theorem tail_v (c : Dev nD) : StableHlo.after hostOps1 (W0 m c) (Proc.devRef .tc main_v81) = rV (gHeads m c) := by
  simp only [hostOps1]
  after_results
  rw [W0_scale, W0_acc, W0_ws]
  rfl
theorem tail_q (c : Dev nD) : StableHlo.after hostOps1 (W0 m c) (Proc.devRef .tc main_v78) = rQ (gHeads m c) (aP m c) := by
  simp only [hostOps1]
  after_results
  rw [W0_scale, W0_acc, W0_ws, W0_pos, W0_freq]
  rfl
theorem tail_k (c : Dev nD) : StableHlo.after hostOps1 (W0 m c) (Proc.devRef .tc main_v79) = rK (gHeads m c) (aP m c) := by
  simp only [hostOps1]
  after_results
  rw [W0_scale, W0_acc, W0_ws, W0_pos, W0_freq]
  rfl

theorem values : θ_run (defs (F := Ideal)) (onTc (τ := τ) (main (F := Ideal))) ⟨m, fun _ => 0, g⟩ (fun r => ∀ c : Dev nD,
    r.2.mem ((c.tc : Thread nD τ).loc main_v78) = rQ (gHeads m c) (aP m c)
    ∧ r.2.mem ((c.tc : Thread nD τ).loc main_v79) = rK (gHeads m c) (aP m c)
    ∧ r.2.mem ((c.tc : Thread nD τ).loc main_v81) = rV (gHeads m c)
    ∧ r.2.mem ((c.tc : Thread nD τ).loc main_v33_0) = k0_pay1 (F := Ideal) (gClip m c)
    ∧ r.2.mem ((c.tc : Thread nD τ).loc main_v82) = shapeCast S1x256 (gScale m c) shapeCasts_S256x1_S1x256) := by
  run_from run_main m g
  · exact tail_q m c
  · exact tail_k m c
  · exact tail_v m c
  · exact (final_codes m c).trans (congrArg (k0_pay1 (F := Ideal)) (entry_clip m c))
  · exact tail_scale m c

/-- The reference's run. -/
theorem run : θ_run (defs (F := Ideal)) (onTc (τ := τ) (main (F := Ideal))) ⟨m, fun _ => 0, g⟩ (fun r => ∀ c : Dev nD,
    r.2.mem ((c.tc : Thread nD τ).loc main_v78) = rQ (gHeads m c) (aP m c)
    ∧ r.2.mem ((c.tc : Thread nD τ).loc main_v79) = rK (gHeads m c) (aP m c)
    ∧ r.2.mem ((c.tc : Thread nD τ).loc main_v81) = rV (gHeads m c)
    ∧ r.2.mem ((c.tc : Thread nD τ).loc main_v33_0) = k0_pay1 (F := Ideal) (gClip m c)
    ∧ r.2.mem ((c.tc : Thread nD τ).loc main_v82) = shapeCast S1x256 (gScale m c) shapeCasts_S256x1_S1x256
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run (defs (F := Ideal)) _ _).mono (fun r h => ?_) (θ_run_and (unchanged m g) (values m g))
  exact fun c => ⟨(h.2 c).1, (h.2 c).2.1, (h.2 c).2.2.1, (h.2 c).2.2.2.1, (h.2 c).2.2.2.2, h.1 c⟩

end Cert.Proof.ReferenceIdeal
end
-- ==== Proof.RefValue.lean ====
/- The reference's results at an index. -/
module

public import proofs.«01_k».proof.Proof.RefAt
public import proofs.«01_k».proof.Proof.RefHeads
public import proofs.«01_k».proof.Proof.RefRun
public import proofs.«01_k».proof.Proof.Spec

@[expose] public section

set_option maxRecDepth 16384

noncomputable section

namespace Cert.Proof.ReferenceIdeal

open Cert.ReferenceIdeal Cert.ReferenceIdeal.Gen
open Idealize.ShloMosaic Idealize.ShloMosaic.TcCoe Idealize.SL.Sem

variable (m : (ℓ : Loc nD τ sig) → Buf (Elt Ideal) ℓ) (c : Dev nD)

/-- The arguments' entries, as the specification takes them. -/
abbrev eX : Fin 256 → Fin 7168 → EReal := fun i j => aX m c (ix3 0 i j)
abbrev ew : Fin 7168 → EReal := fun j => aNW m c (ix1 j)
abbrev eW : Fin 7168 → Fin 9216 → EReal := fun j k => aW m c (ix2 j k)
abbrev ews : Fin 9216 → EReal := fun k => aWS m c (ix1 k)
abbrev ea : Fin 256 → Fin 64 → EReal := fun i f => ang (aP m c) i f

theorem gScale_at (i : Fin 256) : gScale m c (ix2 i 0) = Maths.sc (eX m c) (ew m c) i := by
  unfold gScale Maths.sc
  rw [rScale_at, rTop_at]
  simp only [rNorm_at]
theorem gClip_at (i : Fin 256) (j : Fin 7168) : gClip m c (ix2 i j) = Maths.code (eX m c) (ew m c) i j := by
  unfold gClip Maths.code
  rw [rClip_at, gScale_at, rNorm_at]
theorem gHeads_at (n : Fin 72) (i : Fin 256) (d : Fin 128) : gHeads m c (ix3 i n d) = Maths.head (eX m c) (ew m c) (eW m c) (ews m c) n i d := by
  unfold gHeads Maths.head
  rw [rHeads_at, gScale_at]
  simp only [gClip_at]

theorem rot_at (n : Fin 72) (i : Fin 256) (d : Fin 128) :
    (if h1 : d.val < 64 then gHeads m c (ix3 i n d) * Ideal.cos (ang (aP m c) i ⟨d.val, h1⟩) - gHeads m c (ix3 i n ⟨64 + d.val, by omega⟩) * Ideal.sin (ang (aP m c) i ⟨d.val, h1⟩)
    else gHeads m c (ix3 i n ⟨64 + (d.val - 64), by omega⟩) * Ideal.cos (ang (aP m c) i ⟨d.val - 64, by omega⟩) + gHeads m c (ix3 i n ⟨d.val - 64, by omega⟩) * Ideal.sin (ang (aP m c) i ⟨d.val - 64, by omega⟩))
      = Maths.rot (eX m c) (ew m c) (eW m c) (ews m c) (ea m c) n i d := by
  unfold Maths.rot
  by_cases h : d.val < 64
  · rw [dif_pos h, dif_pos h, gHeads_at, gHeads_at, show (Maths.half d) = ⟨d.val, h⟩ from Fin.ext (Nat.mod_eq_of_lt h)]
  · rw [dif_neg h, dif_neg h, gHeads_at, gHeads_at, show (Maths.half d) = ⟨d.val - 64, by omega⟩ from Fin.ext (by show d.val % 64 = d.val - 64; omega),
      show (⟨64 + (d.val - 64), by omega⟩ : Fin 128) = d from Fin.ext (by show 64 + (d.val - 64) = d.val; omega)]

theorem q_at (i : Fin 256) (h : Fin 56) (d : Fin 128) : rQ (gHeads m c) (aP m c) (ix3 i h d)
    = Maths.rot (eX m c) (ew m c) (eW m c) (ews m c) (ea m c) ⟨h.val, by omega⟩ i d := by
  rw [rQ_at]; exact rot_at m c _ i d
theorem k_at (i : Fin 256) (h : Fin 8) (d : Fin 128) : rK (gHeads m c) (aP m c) (ix3 i h d)
    = Maths.rot (eX m c) (ew m c) (eW m c) (ews m c) (ea m c) ⟨56 + h.val, by omega⟩ i d := by
  rw [rK_at]; exact rot_at m c _ i d
theorem v_at (i : Fin 256) (h : Fin 8) (d : Fin 128) : rV (gHeads m c) (ix3 i h d)
    = Maths.head (eX m c) (ew m c) (eW m c) (ews m c) ⟨64 + h.val, by omega⟩ i d := by
  rw [rV_at, gHeads_at]
theorem codes_at (i : Fin 256) (j : Fin 7168) : k0_pay1 (F := Ideal) (gClip m c) (ix2 i j) = Maths.code (eX m c) (ew m c) i j := by
  rw [pay1_at, gClip_at]
theorem scales_at (i : Fin 256) : shapeCast S1x256 (gScale m c) shapeCasts_S256x1_S1x256 (ix2 0 i) = Maths.sc (eX m c) (ew m c) i := by
  rw [← gScale_at]
  generalize gScale m c = s
  pointwise

end Cert.Proof.ReferenceIdeal
end
-- ==== Proof.Equal.lean ====
/- The kernel's results are the reference's, over the extended reals. -/
module

public import proofs.«01_k».proof.Proof.PreAt
public import proofs.«01_k».proof.Proof.IdealValue
public import proofs.«01_k».proof.Proof.RefValue

@[expose] public section

set_option maxRecDepth 16384

noncomputable section

namespace Cert.Proof

open Idealize.ShloMosaic Idealize.ShloMosaic.TcCoe Idealize.SL.Sem

/-- The two programs' frequencies are the same. -/
theorem freq_bits : ∀ d : Fin 128, Cert.KernelIdeal.lit0 (Cert.KernelIdeal.S1x128.rowMajor (ix2 0 d)) = Cert.ReferenceIdeal.lit1 (Cert.ReferenceIdeal.S64.rowMajor (ix1 (Maths.half d))) := by
  decide +kernel

section Equal
variable (m : (ℓ : Loc Cert.KernelIdeal.nD Cert.KernelIdeal.τ Cert.KernelIdeal.sig) → Buf (Elt Ideal) ℓ) (c : Dev Cert.KernelIdeal.nD)
  (m' : (ℓ : Loc Cert.ReferenceIdeal.nD Cert.ReferenceIdeal.τ Cert.ReferenceIdeal.sig) → Buf (Elt Ideal) ℓ)
  (h0 : ReferenceIdeal.aX m' c = KernelIdeal.aX m c) (h1 : ReferenceIdeal.aNW m' c = KernelIdeal.aNW m c) (h2 : ReferenceIdeal.aW m' c = KernelIdeal.aW m c)
  (h3 : ReferenceIdeal.aWS m' c = KernelIdeal.aWS m c) (h4 : ReferenceIdeal.aP m' c = KernelIdeal.aP m c)
  (hr : Maths.InRange (KernelIdeal.eX m c) (KernelIdeal.ew m c))

abbrev freq (f : Fin 64) : EReal := ReferenceIdeal.rFreq (ix1 f)
theorem freq_eq (d : Fin 128) : Ideal.ofBits .f32 (Cert.KernelIdeal.lit0 (Cert.KernelIdeal.S1x128.rowMajor (ix2 0 d))) = freq (Maths.half d) := congrArg (Ideal.ofBits .f32) (freq_bits d)

include h0 in
theorem eX_eq : ReferenceIdeal.eX m' c = KernelIdeal.eX m c := by unfold ReferenceIdeal.eX; rw [h0]
include h1 in
theorem ew_eq : ReferenceIdeal.ew m' c = KernelIdeal.ew m c := by unfold ReferenceIdeal.ew; rw [h1]
include h2 in
theorem eW_eq : ReferenceIdeal.eW m' c = KernelIdeal.eW m c := by unfold ReferenceIdeal.eW; rw [h2]
include h3 in
theorem ews_eq : ReferenceIdeal.ews m' c = KernelIdeal.ews m c := by unfold ReferenceIdeal.ews; rw [h3]
include h4 in
theorem ea_eq : ReferenceIdeal.ea m' c = KernelIdeal.ea m c freq := by unfold ReferenceIdeal.ea ReferenceIdeal.ang; rw [h4]

include h0 h1 hr in
theorem scales_eq : shapeCast Cert.ReferenceIdeal.S1x256 (ReferenceIdeal.gScale m' c) Cert.ReferenceIdeal.Gen.shapeCasts_S256x1_S1x256 = KernelIdeal.rowG (F := Ideal) m c := by
  funext y
  obtain ⟨z, i, rfl⟩ : ∃ (z : Fin 1) (i : Fin 256), y = ix2 z i := ⟨y 0, y 1, eq_ix2 y⟩
  obtain rfl : z = 0 := Subsingleton.elim _ _
  refine (ReferenceIdeal.scales_at m' c i).trans ?_
  rw [eX_eq m c m' h0, ew_eq m c m' h1]
  exact (KernelIdeal.row_at m c hr i).symm

include h0 h1 hr in
theorem codes_eq : Cert.ReferenceIdeal.Gen.k0_pay1 (F := Ideal) (ReferenceIdeal.gClip m' c) = KernelIdeal.codeG (F := Ideal) m c := by
  funext y
  obtain ⟨i, j, rfl⟩ : ∃ (i : Fin 256) (j : Fin 7168), y = ix2 i j := ⟨y 0, y 1, eq_ix2 y⟩
  refine (ReferenceIdeal.codes_at m' c i j).trans ?_
  rw [eX_eq m c m' h0, ew_eq m c m' h1]
  exact (KernelIdeal.code_at m c hr i j).symm

include h0 h1 h2 h3 h4 hr in
theorem q_eq : ReferenceIdeal.rQ (ReferenceIdeal.gHeads m' c) (ReferenceIdeal.aP m' c) = KernelIdeal.qG (F := Ideal) m c := by
  funext y
  obtain ⟨i, h, d, rfl⟩ : ∃ (i : Fin 256) (h : Fin 56) (d : Fin 128), y = ix3 i h d := ⟨y 0, y 1, y 2, eq_ix3 y⟩
  refine (ReferenceIdeal.q_at m' c i h d).trans ?_
  rw [eX_eq m c m' h0, ew_eq m c m' h1, eW_eq m c m' h2, ews_eq m c m' h3, ea_eq m c m' h4]
  refine Eq.trans ?_ (KernelIdeal.rope_at m c hr freq freq_eq ⟨0 + h.val, by omega⟩ i d).symm
  rw [show (⟨0 + h.val, by omega⟩ : Fin 72) = ⟨h.val, by omega⟩ from Fin.ext (Nat.zero_add _)]

include h0 h1 h2 h3 h4 hr in
theorem k_eq : ReferenceIdeal.rK (ReferenceIdeal.gHeads m' c) (ReferenceIdeal.aP m' c) = KernelIdeal.kG (F := Ideal) m c := by
  funext y
  obtain ⟨i, h, d, rfl⟩ : ∃ (i : Fin 256) (h : Fin 8) (d : Fin 128), y = ix3 i h d := ⟨y 0, y 1, y 2, eq_ix3 y⟩
  refine (ReferenceIdeal.k_at m' c i h d).trans ?_
  rw [eX_eq m c m' h0, ew_eq m c m' h1, eW_eq m c m' h2, ews_eq m c m' h3, ea_eq m c m' h4]
  exact (KernelIdeal.rope_at m c hr freq freq_eq ⟨56 + h.val, by omega⟩ i d).symm

include h0 h1 h2 h3 hr in
theorem v_eq : ReferenceIdeal.rV (ReferenceIdeal.gHeads m' c) = KernelIdeal.vG (F := Ideal) m c := by
  funext y
  obtain ⟨i, h, d, rfl⟩ : ∃ (i : Fin 256) (h : Fin 8) (d : Fin 128), y = ix3 i h d := ⟨y 0, y 1, y 2, eq_ix3 y⟩
  refine (ReferenceIdeal.v_at m' c i h d).trans ?_
  rw [eX_eq m c m' h0, ew_eq m c m' h1, eW_eq m c m' h2, ews_eq m c m' h3]
  exact (KernelIdeal.headG_at m c hr ⟨64 + h.val, by omega⟩ i d).symm
end Equal

theorem algebraic : Cert.algebraic_KernelIdeal_ReferenceIdeal_pre_in_range := by
  intro m g m' g' hp ha
  have hr : ∀ c, Maths.InRange (KernelIdeal.eX m c) (KernelIdeal.ew m c) := fun c => pre_at _ _ _ _ _ (hp c)
  refine ⟨fun c => KernelIdeal.qG (F := Ideal) m c, fun c => KernelIdeal.kG (F := Ideal) m c, fun c => KernelIdeal.vG (F := Ideal) m c, fun c => KernelIdeal.codeG (F := Ideal) m c,
    fun c => KernelIdeal.rowG (F := Ideal) m c, KernelIdeal.run m g, ?_⟩
  refine (θ_run (Cert.ReferenceIdeal.defs (F := Ideal)) _ _).mono (fun r h c => ?_) (ReferenceIdeal.run m' g')
  obtain ⟨a0, a1, a2, a3, a4⟩ := ha c
  obtain ⟨e0, e1, e2, e3, e4, er⟩ := h c
  exact ⟨e0.trans (q_eq m c m' a0 a1 a2 a3 a4 (hr c)), e1.trans (k_eq m c m' a0 a1 a2 a3 a4 (hr c)), e2.trans (v_eq m c m' a0 a1 a2 a3 (hr c)), e3.trans (codes_eq m c m' a0 a1 (hr c)),
    e4.trans (scales_eq m c m' a0 a1 (hr c)), er⟩

end Cert.Proof
end
-- ==== Proof.lean ====
/- The kernel and its reference run and leave their arguments as they were; the idealized kernel is the kernel, up to
   the rewrites listed with it; and over the extended reals the kernel's results are the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_in_range
public import proofs.«01_k».proof.Proof.KernelLaunch
public import proofs.«01_k».proof.Proof.IdealLaunch
public import proofs.«01_k».proof.Proof.Equal
public import Idealize.ShloMosaic.Lib.Bf16Pair
public import Idealize.ShloMosaic.Adequacy
public import Idealize.ShloMosaic.Init

@[expose] public section

noncomputable section

namespace Cert.Proof

open Idealize.ShloMosaic

theorem preserves : Cert.preserves_Kernel_KernelIdeal :=
  ⟨IdealRules.named_const.statement Cert.KernelIdeal.κ "inv_d" .f32 0x39124925#32 ((1 / 7168 : ℝ) : EReal) rfl,
    IdealRules.bf16_pair.packStatement _, IdealRules.bf16_pair.statement _ _⟩

theorem claim : Cert.Claim :=
  ⟨Cert.Kernel.Gen.facts, Cert.KernelIdeal.Gen.facts, Cert.ReferenceIdeal.Gen.facts, Cert.Pre_in_range.Gen.facts,
    fun m ρ _ => Kernel.frame_holds m ρ, fun m ρ _ => KernelIdeal.frame_holds m ρ, fun m ρ _ => KernelIdeal.frame_holds m ρ,
    fun m ρ _ => Cert.ReferenceIdeal.Gen.frame m ρ, fun m ρ _ => Cert.ReferenceIdeal.Gen.frame m ρ, preserves, algebraic⟩

end Cert.Proof
end
